-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectRefIdeal (m : (ℓ : Loc Cert.SelectRefIdeal.nD Cert.SelectRefIdeal.τ Cert.SelectRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0)
      ∧ r.2.mem ((c.tc : Thread Cert.SelectRefIdeal.nD Cert.SelectRefIdeal.τ).loc Cert.SelectRefIdeal.main_arg1) = m ((c.tc : Thread Cert.SelectRefIdeal.nD Cert.SelectRefIdeal.τ).loc Cert.SelectRefIdeal.main_arg1)
      ∧ r.2.mem ((c.tc : Thread Cert.SelectRefIdeal.nD Cert.SelectRefIdeal.τ).loc Cert.SelectRefIdeal.main_arg2) = m ((c.tc : Thread Cert.SelectRefIdeal.nD Cert.SelectRefIdeal.τ).loc Cert.SelectRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v70) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v25) = v0 c
          ∧ r.2.mem ((c.tc : Thread Cert.ProjRefIdeal.nD Cert.ProjRefIdeal.τ).loc Cert.ProjRefIdeal.main_v22) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v58) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Select_SelectIdeal : Prop :=
  True

def algebraic_SelectIdeal_SelectRefIdeal [hSelectIdeal : Cert.SelectIdeal.Facts] [hSelectRefIdeal : Cert.SelectRefIdeal.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)
      ∧ m' ((c.tc : Thread Cert.SelectRefIdeal.nD Cert.SelectRefIdeal.τ).loc Cert.SelectRefIdeal.main_arg1) = m ((c.tc : Thread Cert.SelectIdeal.nD Cert.SelectIdeal.τ).loc Cert.SelectIdeal.main_arg1)
      ∧ m' ((c.tc : Thread Cert.SelectRefIdeal.nD Cert.SelectRefIdeal.τ).loc Cert.SelectRefIdeal.main_arg2) = m ((c.tc : Thread Cert.SelectIdeal.nD Cert.SelectIdeal.τ).loc Cert.SelectIdeal.main_arg2)) →
    ∃ (v0 : (c : Dev Cert.SelectIdeal.nD) → Buf (Elt Ideal) ((c.tc : Thread Cert.SelectIdeal.nD Cert.SelectIdeal.τ).loc Cert.SelectIdeal.main_v0)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_v47) = v0 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0)
          ∧ r.2.mem ((c.tc : Thread Cert.SelectRefIdeal.nD Cert.SelectRefIdeal.τ).loc Cert.SelectRefIdeal.main_arg1) = m' ((c.tc : Thread Cert.SelectRefIdeal.nD Cert.SelectRefIdeal.τ).loc Cert.SelectRefIdeal.main_arg1)
          ∧ r.2.mem ((c.tc : Thread Cert.SelectRefIdeal.nD Cert.SelectRefIdeal.τ).loc Cert.SelectRefIdeal.main_arg2) = m' ((c.tc : Thread Cert.SelectRefIdeal.nD Cert.SelectRefIdeal.τ).loc Cert.SelectRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hSelect : Cert.Select.Facts) (hSelectIdeal : Cert.SelectIdeal.Facts) (hSelectRefIdeal : Cert.SelectRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Select (hSelect := hSelect)
    ∧ quiescent_SelectIdeal (hSelectIdeal := hSelectIdeal)
    ∧ quiescent_SelectRefIdeal (hSelectRefIdeal := hSelectRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Select_SelectIdeal
    ∧ algebraic_SelectIdeal_SelectRefIdeal (hSelectIdeal := hSelectIdeal) (hSelectRefIdeal := hSelectRefIdeal)
-- ==== Pre_finite.lean ====
abbrev S4x4096x8192 : Shape := ⟨3, ![4, 4096, 8192]⟩
abbrev S4x4096x128 : Shape := ⟨3, ![4, 4096, 128]⟩
abbrev S_ : Shape := ⟨0, ![]⟩

class Facts : Prop where
  bitsLt_bf16_f32 : FTy.bits .bf16 < FTy.bits .f32
  bcast_S_S4x4096x8192 : S_.BroadcastsInDim S4x4096x8192 (![] : Fin 0 → Fin S4x4096x8192.rank)
  reducesTo_S4x4096x8192_S_d0_1_2 : S4x4096x8192.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_

variable [Facts]

def fn {F : FTy → Type} [FloatOps F] (main_arg0 : FVec F S4x4096x8192 .bf16) (main_arg1 : FVec F S4x4096x128 .f32) : IVec S_ 1 :=
  let main_v0 : FVec F S4x4096x8192 .f32 := (extf .f32 · bitsLt_bf16_f32) main_arg0
  let main_v1 : FVec F S4x4096x8192 .f32 := Host.absf main_v0
  let main_cst : FVec F S_ .f32 := constant S_ .f32 0x7F800000#32
  let main_v2 : FVec F S4x4096x8192 .f32 := broadcastInDim S4x4096x8192 ![] bcast_S_S4x4096x8192 main_cst
  let main_v3 : IVec S4x4096x8192 1 := cmpf .olt main_v1 main_v2
  let main_c : IVec S_ 1 := constantI S_ 1 1#1
  let main_v4 : IVec S_ 1 := (fun x v => Host.reduce IntOp.andi x v reducesTo_S4x4096x8192_S_d0_1_2 h_S_) main_v3 main_c
  let main_v5 : FVec F S4x4096x128 .f32 := Host.absf main_arg1
  let main_cst_0 : FVec F S_ .f32 := constant S_ .f32 0x7F800000#32
  let main_v6 : FVec F S4x4096x128 .f32 := broadcastInDim S4x4096x128 ![] bcast_S_S4x4096x128 main_cst_0
  let main_v7 : IVec S4x4096x128 1 := cmpf .olt main_v5 main_v6
  let main_c_1 : IVec S_ 1 := constantI S_ 1 1#1
  let main_v8 : IVec S_ 1 := (fun x v => Host.reduce IntOp.andi x v reducesTo_S4x4096x128_S_d0_1_2 h_S_) main_v7 main_c_1
  let main_v9 : IVec S_ 1 := andi main_v4 main_v8
  main_v9
-- ==== Kernel.lean ====
abbrev S4x4096x8192 : Shape := ⟨3, ![4, 4096, 8192]⟩
abbrev S4x4096x128 : Shape := ⟨3, ![4, 4096, 128]⟩
abbrev S4x4096x1024 : Shape := ⟨3, ![4, 4096, 1024]⟩
abbrev S1x512x256 : Shape := ⟨3, ![1, 512, 256]⟩
abbrev S1x4096x256 : Shape := ⟨3, ![1, 4096, 256]⟩
abbrev S1x512x128 : Shape := ⟨3, ![1, 512, 128]⟩
abbrev S2x512x256 : Shape := ⟨3, ![2, 512, 256]⟩
abbrev S2x2x512x256 : Shape := ⟨4, ![2, 2, 512, 256]⟩
abbrev S2x512x128 : Shape := ⟨3, ![2, 512, 128]⟩
abbrev S512x128 : Shape := ⟨2, ![512, 128]⟩
abbrev S256x128 : Shape := ⟨2, ![256, 128]⟩
abbrev S1x256x128 : Shape := ⟨3, ![1, 256, 128]⟩
abbrev S512x256 : Shape := ⟨2, ![512, 256]⟩
abbrev S256x256 : Shape := ⟨2, ![256, 256]⟩
abbrev S1x1x512x256 : Shape := ⟨4, ![1, 1, 512, 256]⟩
abbrev S512 : Shape := ⟨1, ![512]⟩
abbrev S512x1 : Shape := ⟨2, ![512, 1]⟩

abbrev nBuf : Space → Nat
  | .hbm => 3
  | .vmem => 14
  | .smem => 0
  | _ => 0

abbrev bufTy : (tb : Table) → Fin (tcTables nBuf tb) → BufTy
  | .hbm, ⟨0, _⟩ => ⟨S4x4096x8192, .bf16⟩
  | .hbm, ⟨1, _⟩ => ⟨S4x4096x128, .f32⟩
  | .hbm, ⟨2, _⟩ => ⟨S4x4096x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x512x128, .f32⟩
  | .local _ .vmem, ⟨7, _⟩ => ⟨S1x512x128, .f32⟩
  | .local _ .vmem, ⟨8, _⟩ => ⟨S1x512x256, .bf16⟩
  | .local _ .vmem, ⟨9, _⟩ => ⟨S1x512x256, .bf16⟩
  | .local _ .vmem, ⟨10, _⟩ => ⟨S2x512x256, .bf16⟩
  | .local _ .vmem, ⟨11, _⟩ => ⟨S2x2x512x256, .f32⟩
  | .local _ .vmem, ⟨12, _⟩ => ⟨S2x512x128, .f32⟩
  | .local _ .vmem, ⟨13, _⟩ => ⟨S2x512x256, .f32⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_mult1 : BitVec 32 :=
  let c0_i32 : BitVec 32 := 0#32
  c0_i32
def k0_mult2 : BitVec 32 :=
  let c0_i32_40 : BitVec 32 := 0#32
  c0_i32_40
@[reducible] def k0_t1_loop (i : grid0.Coords) : Scf.Loop 32 :=
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_58 : BitVec 32 := 1#32
  ⟨c0_i32_56, v73, c1_i32_58⟩
def k0_mult3 (i : grid0.Coords) (k0_t1 : Fin (k0_t1_loop i).trips) : BitVec 32 :=
  let c2_i32_213 : BitVec 32 := 2#32
  let c0_i32_56 : BitVec 32 := 0#32
  let c1_i32_58 : BitVec 32 := 1#32
  let arg12 : BitVec 32 := Scf.iv c0_i32_56 c1_i32_58 k0_t1
  let v318 : BitVec 32 := Scalar.muli c2_i32_213 arg12
  let c1_i32_214 : BitVec 32 := 1#32
  let v319 : BitVec 32 := Scalar.addi v318 c1_i32_214
  let c256_i32_215 : BitVec 32 := 256#32
  let v320 : BitVec 32 := Scalar.muli v319 c256_i32_215
  v320
def k0_off1 (i : grid0.Coords) (k0_t1 : Fin (k0_t1_loop i).trips) (c1_i32_214 : BitVec 32) : Fin 3 → Nat :=
  let c0_221 : Index := 0#32
  let c2_i32_213 : BitVec 32 := 2#32
  let c0_i32_56 : BitVec 32 := 0#32
  let c1_i32_58 : BitVec 32 := 1#32
  let arg12 : BitVec 32 := Scf.iv c0_i32_56 c1_i32_58 k0_t1
  let v318 : BitVec 32 := Scalar.muli c2_i32_213 arg12
  let v319 : BitVec 32 := Scalar.addi v318 c1_i32_214
  let c256_i32_215 : BitVec 32 := 256#32
  let v320 : BitVec 32 := Scalar.muli v319 c256_i32_215
  let v321 : BitVec 32 := v320
  let v332 : Index := Scalar.indexCast v321
  let c0_222 : Index := 0#32
  ![0, v332.toNat, 0]
def k0_mult4 (i : grid0.Coords) (k0_t1 : Fin (k0_t1_loop i).trips) : BitVec 32 :=
  let c2_i32_231 : BitVec 32 := 2#32
  let c0_i32_56 : BitVec 32 := 0#32
  let c1_i32_58 : BitVec 32 := 1#32
  let arg12 : BitVec 32 := Scf.iv c0_i32_56 c1_i32_58 k0_t1
  let v342 : BitVec 32 := Scalar.muli c2_i32_231 arg12
  let c256_i32_236 : BitVec 32 := 256#32
  let v345 : BitVec 32 := Scalar.muli v342 c256_i32_236
  v345
def k0_off2 (i : grid0.Coords) (k0_t1 : Fin (k0_t1_loop i).trips) : Fin 3 → Nat :=
  let c0_241 : Index := 0#32
  let c2_i32_231 : BitVec 32 := 2#32
  let c0_i32_56 : BitVec 32 := 0#32
  let c1_i32_58 : BitVec 32 := 1#32
  let arg12 : BitVec 32 := Scf.iv c0_i32_56 c1_i32_58 k0_t1
  let v342 : BitVec 32 := Scalar.muli c2_i32_231 arg12
  let c256_i32_236 : BitVec 32 := 256#32
  let v345 : BitVec 32 := Scalar.muli v342 c256_i32_236
  let v346 : BitVec 32 := v345
  let v358 : Index := Scalar.indexCast v346
  let c0_242 : Index := 0#32
  ![0, v358.toNat, 0]
def k0_mult5 (i : grid0.Coords) (k0_t1 : Fin (k0_t1_loop i).trips) : BitVec 32 :=
  let c2_i32_253 : BitVec 32 := 2#32
  let c0_i32_56 : BitVec 32 := 0#32
  let c1_i32_58 : BitVec 32 := 1#32
  let arg12 : BitVec 32 := Scf.iv c0_i32_56 c1_i32_58 k0_t1
  let v375 : BitVec 32 := Scalar.muli c2_i32_253 arg12
  let c2_i32_254 : BitVec 32 := 2#32
  let v376 : BitVec 32 := Scalar.addi v375 c2_i32_254
  let c256_i32_255 : BitVec 32 := 256#32
  let v377 : BitVec 32 := Scalar.muli v376 c256_i32_255
  v377
def k0_mult6 (i : grid0.Coords) (k0_t1 : Fin (k0_t1_loop i).trips) : BitVec 32 :=
  let c2_i32_271 : BitVec 32 := 2#32
  let c0_i32_56 : BitVec 32 := 0#32
  let c1_i32_58 : BitVec 32 := 1#32
  let arg12 : BitVec 32 := Scf.iv c0_i32_56 c1_i32_58 k0_t1
  let v399 : BitVec 32 := Scalar.muli c2_i32_271 arg12
  let c1_i32_272 : BitVec 32 := 1#32
  let v400 : BitVec 32 := Scalar.addi v399 c1_i32_272
  let c256_i32_277 : BitVec 32 := 256#32
  let v403 : BitVec 32 := Scalar.muli v400 c256_i32_277
  v403
def k0_mult7 (i : grid0.Coords) (k0_t1 : Fin (k0_t1_loop i).trips) : BitVec 32 :=
  let c2_i32_294 : BitVec 32 := 2#32
  let c0_i32_56 : BitVec 32 := 0#32
  let c1_i32_58 : BitVec 32 := 1#32
  let arg12 : BitVec 32 := Scf.iv c0_i32_56 c1_i32_58 k0_t1
  let v433 : BitVec 32 := Scalar.muli c2_i32_294 arg12
  let c1_i32_295 : BitVec 32 := 1#32
  let v434 : BitVec 32 := Scalar.addi v433 c1_i32_295
  let c256_i32_296 : BitVec 32 := 256#32
  let v435 : BitVec 32 := Scalar.muli v434 c256_i32_296
  v435
def k0_off3 (i : grid0.Coords) (k0_t1 : Fin (k0_t1_loop i).trips) (c1_i32_295 : BitVec 32) : Fin 3 → Nat :=
  let c0_302 : Index := 0#32
  let c2_i32_294 : BitVec 32 := 2#32
  let c0_i32_56 : BitVec 32 := 0#32
  let c1_i32_58 : BitVec 32 := 1#32
  let arg12 : BitVec 32 := Scf.iv c0_i32_56 c1_i32_58 k0_t1
  let v433 : BitVec 32 := Scalar.muli c2_i32_294 arg12
  let v434 : BitVec 32 := Scalar.addi v433 c1_i32_295
  let c256_i32_296 : BitVec 32 := 256#32
  let v435 : BitVec 32 := Scalar.muli v434 c256_i32_296
  let v436 : BitVec 32 := v435
  let v447 : Index := Scalar.indexCast v436
  let c128_303 : Index := 128#32
  ![0, v447.toNat, 128]
def k0_mult8 (i : grid0.Coords) (k0_t1 : Fin (k0_t1_loop i).trips) : BitVec 32 :=
  let c2_i32_312 : BitVec 32 := 2#32
  let c0_i32_56 : BitVec 32 := 0#32
  let c1_i32_58 : BitVec 32 := 1#32
  let arg12 : BitVec 32 := Scf.iv c0_i32_56 c1_i32_58 k0_t1
  let v457 : BitVec 32 := Scalar.muli c2_i32_312 arg12
  let c256_i32_317 : BitVec 32 := 256#32
  let v460 : BitVec 32 := Scalar.muli v457 c256_i32_317
  v460
def k0_off4 (i : grid0.Coords) (k0_t1 : Fin (k0_t1_loop i).trips) : Fin 3 → Nat :=
  let c0_322 : Index := 0#32
  let c2_i32_312 : BitVec 32 := 2#32
  let c0_i32_56 : BitVec 32 := 0#32
  let c1_i32_58 : BitVec 32 := 1#32
  let arg12 : BitVec 32 := Scf.iv c0_i32_56 c1_i32_58 k0_t1
  let v457 : BitVec 32 := Scalar.muli c2_i32_312 arg12
  let c256_i32_317 : BitVec 32 := 256#32
  let v460 : BitVec 32 := Scalar.muli v457 c256_i32_317
  let v461 : BitVec 32 := v460
  let v473 : Index := Scalar.indexCast v461
  let c128_323 : Index := 128#32
  ![0, v473.toNat, 128]
def k0_mult9 (i : grid0.Coords) (k0_t1 : Fin (k0_t1_loop i).trips) : BitVec 32 :=
  let c2_i32_334 : BitVec 32 := 2#32
  let c0_i32_56 : BitVec 32 := 0#32
  let c1_i32_58 : BitVec 32 := 1#32
  let arg12 : BitVec 32 := Scf.iv c0_i32_56 c1_i32_58 k0_t1
  let v490 : BitVec 32 := Scalar.muli c2_i32_334 arg12
  let c2_i32_335 : BitVec 32 := 2#32
  let v491 : BitVec 32 := Scalar.addi v490 c2_i32_335
  let c256_i32_336 : BitVec 32 := 256#32
  let v492 : BitVec 32 := Scalar.muli v491 c256_i32_336
  v492
def k0_mult10 (i : grid0.Coords) (k0_t1 : Fin (k0_t1_loop i).trips) : BitVec 32 :=
  let c2_i32_352 : BitVec 32 := 2#32
  let c0_i32_56 : BitVec 32 := 0#32
  let c1_i32_58 : BitVec 32 := 1#32
  let arg12 : BitVec 32 := Scf.iv c0_i32_56 c1_i32_58 k0_t1
  let v514 : BitVec 32 := Scalar.muli c2_i32_352 arg12
  let c1_i32_353 : BitVec 32 := 1#32
  let v515 : BitVec 32 := Scalar.addi v514 c1_i32_353
  let c256_i32_358 : BitVec 32 := 256#32
  let v518 : BitVec 32 := Scalar.muli v515 c256_i32_358
  v518
@[reducible] def k0_t2_loop (i : grid0.Coords) : Scf.Loop 32 :=
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let v70 : BitVec 32 := Scalar.addi c0_i32_56 v69
  let c1_i32_59 : BitVec 32 := 1#32
  ⟨v73, v70, c1_i32_59⟩
def k0_mult11 (i : grid0.Coords) (k0_t2 : Fin (k0_t2_loop i).trips) : BitVec 32 :=
  let c2_i32_213 : BitVec 32 := 2#32
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_59 : BitVec 32 := 1#32
  let arg12 : BitVec 32 := Scf.iv v73 c1_i32_59 k0_t2
  let v318 : BitVec 32 := Scalar.muli c2_i32_213 arg12
  let c1_i32_214 : BitVec 32 := 1#32
  let v319 : BitVec 32 := Scalar.addi v318 c1_i32_214
  let c256_i32_215 : BitVec 32 := 256#32
  let v320 : BitVec 32 := Scalar.muli v319 c256_i32_215
  v320
def k0_off5 (i : grid0.Coords) (k0_t2 : Fin (k0_t2_loop i).trips) (c1_i32_214 : BitVec 32) : Fin 3 → Nat :=
  let c0_221 : Index := 0#32
  let c2_i32_213 : BitVec 32 := 2#32
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_59 : BitVec 32 := 1#32
  let arg12 : BitVec 32 := Scf.iv v73 c1_i32_59 k0_t2
  let v318 : BitVec 32 := Scalar.muli c2_i32_213 arg12
  let v319 : BitVec 32 := Scalar.addi v318 c1_i32_214
  let c256_i32_215 : BitVec 32 := 256#32
  let v320 : BitVec 32 := Scalar.muli v319 c256_i32_215
  let v321 : BitVec 32 := v320
  let v332 : Index := Scalar.indexCast v321
  let c0_222 : Index := 0#32
  ![0, v332.toNat, 0]
def k0_mult12 (i : grid0.Coords) (k0_t2 : Fin (k0_t2_loop i).trips) : BitVec 32 :=
  let c2_i32_231 : BitVec 32 := 2#32
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_59 : BitVec 32 := 1#32
  let arg12 : BitVec 32 := Scf.iv v73 c1_i32_59 k0_t2
  let v342 : BitVec 32 := Scalar.muli c2_i32_231 arg12
  let c256_i32_236 : BitVec 32 := 256#32
  let v345 : BitVec 32 := Scalar.muli v342 c256_i32_236
  v345
def k0_off6 (i : grid0.Coords) (k0_t2 : Fin (k0_t2_loop i).trips) : Fin 3 → Nat :=
  let c0_241 : Index := 0#32
  let c2_i32_231 : BitVec 32 := 2#32
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_59 : BitVec 32 := 1#32
  let arg12 : BitVec 32 := Scf.iv v73 c1_i32_59 k0_t2
  let v342 : BitVec 32 := Scalar.muli c2_i32_231 arg12
  let c256_i32_236 : BitVec 32 := 256#32
  let v345 : BitVec 32 := Scalar.muli v342 c256_i32_236
  let v346 : BitVec 32 := v345
  let v358 : Index := Scalar.indexCast v346
  let c0_242 : Index := 0#32
  ![0, v358.toNat, 0]
def k0_mult13 (i : grid0.Coords) (k0_t2 : Fin (k0_t2_loop i).trips) : BitVec 32 :=
  let c2_i32_253 : BitVec 32 := 2#32
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_59 : BitVec 32 := 1#32
  let arg12 : BitVec 32 := Scf.iv v73 c1_i32_59 k0_t2
  let v375 : BitVec 32 := Scalar.muli c2_i32_253 arg12
  let c2_i32_254 : BitVec 32 := 2#32
  let v376 : BitVec 32 := Scalar.addi v375 c2_i32_254
  let c256_i32_255 : BitVec 32 := 256#32
  let v377 : BitVec 32 := Scalar.muli v376 c256_i32_255
  v377
def k0_mult14 (i : grid0.Coords) (k0_t2 : Fin (k0_t2_loop i).trips) : BitVec 32 :=
  let c2_i32_271 : BitVec 32 := 2#32
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_59 : BitVec 32 := 1#32
  let arg12 : BitVec 32 := Scf.iv v73 c1_i32_59 k0_t2
  let v399 : BitVec 32 := Scalar.muli c2_i32_271 arg12
  let c1_i32_272 : BitVec 32 := 1#32
  let v400 : BitVec 32 := Scalar.addi v399 c1_i32_272
  let c256_i32_277 : BitVec 32 := 256#32
  let v403 : BitVec 32 := Scalar.muli v400 c256_i32_277
  v403
def k0_mult15 (i : grid0.Coords) (k0_t2 : Fin (k0_t2_loop i).trips) : BitVec 32 :=
  let c2_i32_294 : BitVec 32 := 2#32
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_59 : BitVec 32 := 1#32
  let arg12 : BitVec 32 := Scf.iv v73 c1_i32_59 k0_t2
  let v433 : BitVec 32 := Scalar.muli c2_i32_294 arg12
  let c1_i32_295 : BitVec 32 := 1#32
  let v434 : BitVec 32 := Scalar.addi v433 c1_i32_295
  let c256_i32_296 : BitVec 32 := 256#32
  let v435 : BitVec 32 := Scalar.muli v434 c256_i32_296
  v435
def k0_off7 (i : grid0.Coords) (k0_t2 : Fin (k0_t2_loop i).trips) (c1_i32_295 : BitVec 32) : Fin 3 → Nat :=
  let c0_302 : Index := 0#32
  let c2_i32_294 : BitVec 32 := 2#32
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_59 : BitVec 32 := 1#32
  let arg12 : BitVec 32 := Scf.iv v73 c1_i32_59 k0_t2
  let v433 : BitVec 32 := Scalar.muli c2_i32_294 arg12
  let v434 : BitVec 32 := Scalar.addi v433 c1_i32_295
  let c256_i32_296 : BitVec 32 := 256#32
  let v435 : BitVec 32 := Scalar.muli v434 c256_i32_296
  let v436 : BitVec 32 := v435
  let v447 : Index := Scalar.indexCast v436
  let c128_303 : Index := 128#32
  ![0, v447.toNat, 128]
def k0_mult16 (i : grid0.Coords) (k0_t2 : Fin (k0_t2_loop i).trips) : BitVec 32 :=
  let c2_i32_312 : BitVec 32 := 2#32
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_59 : BitVec 32 := 1#32
  let arg12 : BitVec 32 := Scf.iv v73 c1_i32_59 k0_t2
  let v457 : BitVec 32 := Scalar.muli c2_i32_312 arg12
  let c256_i32_317 : BitVec 32 := 256#32
  let v460 : BitVec 32 := Scalar.muli v457 c256_i32_317
  v460
def k0_off8 (i : grid0.Coords) (k0_t2 : Fin (k0_t2_loop i).trips) : Fin 3 → Nat :=
  let c0_322 : Index := 0#32
  let c2_i32_312 : BitVec 32 := 2#32
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_59 : BitVec 32 := 1#32
  let arg12 : BitVec 32 := Scf.iv v73 c1_i32_59 k0_t2
  let v457 : BitVec 32 := Scalar.muli c2_i32_312 arg12
  let c256_i32_317 : BitVec 32 := 256#32
  let v460 : BitVec 32 := Scalar.muli v457 c256_i32_317
  let v461 : BitVec 32 := v460
  let v473 : Index := Scalar.indexCast v461
  let c128_323 : Index := 128#32
  ![0, v473.toNat, 128]
def k0_mult17 (i : grid0.Coords) (k0_t2 : Fin (k0_t2_loop i).trips) : BitVec 32 :=
  let c2_i32_334 : BitVec 32 := 2#32
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_59 : BitVec 32 := 1#32
  let arg12 : BitVec 32 := Scf.iv v73 c1_i32_59 k0_t2
  let v490 : BitVec 32 := Scalar.muli c2_i32_334 arg12
  let c2_i32_335 : BitVec 32 := 2#32
  let v491 : BitVec 32 := Scalar.addi v490 c2_i32_335
  let c256_i32_336 : BitVec 32 := 256#32
  let v492 : BitVec 32 := Scalar.muli v491 c256_i32_336
  v492
def k0_mult18 (i : grid0.Coords) (k0_t2 : Fin (k0_t2_loop i).trips) : BitVec 32 :=
  let c2_i32_352 : BitVec 32 := 2#32
  let c0_i32_56 : BitVec 32 := 0#32
  let arg2 : BitVec 32 := BitVec.ofNat 32 (i 2).val
  let v69 : BitVec 32 := Scalar.subi arg2 c0_i32_56
  let c1_i32_57 : BitVec 32 := 1#32
  let v71 : BitVec 32 := Scalar.divsi v69 c1_i32_57
  let v72 : BitVec 32 := Scalar.muli v71 c1_i32_57
  let v73 : BitVec 32 := Scalar.addi c0_i32_56 v72
  let c1_i32_59 : BitVec 32 := 1#32
  let arg12 : BitVec 32 := Scf.iv v73 c1_i32_59 k0_t2
  let v514 : BitVec 32 := Scalar.muli c2_i32_352 arg12
  let c1_i32_353 : BitVec 32 := 1#32
  let v515 : BitVec 32 := Scalar.addi v514 c1_i32_353
  let c256_i32_358 : BitVec 32 := 256#32
  let v518 : BitVec 32 := Scalar.muli v515 c256_i32_358
  v518
def k0_mult19 (i : grid0.Coords) : BitVec 32 :=
  let c2_i32_60 : BitVec 32 := 2#32
  let arg2 : BitVec 32 := BitVec.ofNat 32 (i 2).val
  let v74 : BitVec 32 := Scalar.muli c2_i32_60 arg2
  let c1_i32_61 : BitVec 32 := 1#32
  let v75 : BitVec 32 := Scalar.addi v74 c1_i32_61
  let c256_i32 : BitVec 32 := 256#32
  let v76 : BitVec 32 := Scalar.muli v75 c256_i32
  v76
def k0_off9 (i : grid0.Coords) : Fin 3 → Nat :=
  let c0_66 : Index := 0#32
  let c2_i32_60 : BitVec 32 := 2#32
  let arg2 : BitVec 32 := BitVec.ofNat 32 (i 2).val
  let v74 : BitVec 32 := Scalar.muli c2_i32_60 arg2
  let c1_i32_61 : BitVec 32 := 1#32
  let v75 : BitVec 32 := Scalar.addi v74 c1_i32_61
  let c256_i32 : BitVec 32 := 256#32
  let v76 : BitVec 32 := Scalar.muli v75 c256_i32
  let v77 : BitVec 32 := v76
  let v88 : Index := Scalar.indexCast v77
  let c0_67 : Index := 0#32
  ![0, v88.toNat, 0]
def k0_mult20 (i : grid0.Coords) : BitVec 32 :=
  let c2_i32_76 : BitVec 32 := 2#32
  let arg2 : BitVec 32 := BitVec.ofNat 32 (i 2).val
  let v98 : BitVec 32 := Scalar.muli c2_i32_76 arg2
  let c256_i32_83 : BitVec 32 := 256#32
  let v112 : BitVec 32 := Scalar.muli v98 c256_i32_83
  v112
def k0_off10 (i : grid0.Coords) : Fin 3 → Nat :=
  let c0_88 : Index := 0#32
  let c2_i32_76 : BitVec 32 := 2#32
  let arg2 : BitVec 32 := BitVec.ofNat 32 (i 2).val
  let v98 : BitVec 32 := Scalar.muli c2_i32_76 arg2
  let c256_i32_83 : BitVec 32 := 256#32
  let v112 : BitVec 32 := Scalar.muli v98 c256_i32_83
  let v113 : BitVec 32 := v112
  let v125 : Index := Scalar.indexCast v113
  let c0_89 : Index := 0#32
  ![0, v125.toNat, 0]
def k0_mult21 (i : grid0.Coords) : BitVec 32 :=
  let c2_i32_100 : BitVec 32 := 2#32
  let arg2 : BitVec 32 := BitVec.ofNat 32 (i 2).val
  let v142 : BitVec 32 := Scalar.muli c2_i32_100 arg2
  let c1_i32_101 : BitVec 32 := 1#32
  let v143 : BitVec 32 := Scalar.addi v142 c1_i32_101
  let c256_i32_109 : BitVec 32 := 256#32
  let v157 : BitVec 32 := Scalar.muli v143 c256_i32_109
  v157
def k0_mult22 (i : grid0.Coords) : BitVec 32 :=
  let c2_i32_135 : BitVec 32 := 2#32
  let arg2 : BitVec 32 := BitVec.ofNat 32 (i 2).val
  let v196 : BitVec 32 := Scalar.muli c2_i32_135 arg2
  let c1_i32_136 : BitVec 32 := 1#32
  let v197 : BitVec 32 := Scalar.addi v196 c1_i32_136
  let c256_i32_137 : BitVec 32 := 256#32
  let v198 : BitVec 32 := Scalar.muli v197 c256_i32_137
  v198
def k0_off11 (i : grid0.Coords) : Fin 3 → Nat :=
  let c0_143 : Index := 0#32
  let c2_i32_135 : BitVec 32 := 2#32
  let arg2 : BitVec 32 := BitVec.ofNat 32 (i 2).val
  let v196 : BitVec 32 := Scalar.muli c2_i32_135 arg2
  let c1_i32_136 : BitVec 32 := 1#32
  let v197 : BitVec 32 := Scalar.addi v196 c1_i32_136
  let c256_i32_137 : BitVec 32 := 256#32
  let v198 : BitVec 32 := Scalar.muli v197 c256_i32_137
  let v199 : BitVec 32 := v198
  let v210 : Index := Scalar.indexCast v199
  let c128_144 : Index := 128#32
  ![0, v210.toNat, 128]
def k0_mult23 (i : grid0.Coords) : BitVec 32 :=
  let c2_i32_153 : BitVec 32 := 2#32
  let arg2 : BitVec 32 := BitVec.ofNat 32 (i 2).val
  let v220 : BitVec 32 := Scalar.muli c2_i32_153 arg2
  let c256_i32_161 : BitVec 32 := 256#32
  let v234 : BitVec 32 := Scalar.muli v220 c256_i32_161
  v234
def k0_off12 (i : grid0.Coords) : Fin 3 → Nat :=
  let c0_166 : Index := 0#32
  let c2_i32_153 : BitVec 32 := 2#32
  let arg2 : BitVec 32 := BitVec.ofNat 32 (i 2).val
  let v220 : BitVec 32 := Scalar.muli c2_i32_153 arg2
  let c256_i32_161 : BitVec 32 := 256#32
  let v234 : BitVec 32 := Scalar.muli v220 c256_i32_161
  let v235 : BitVec 32 := v234
  let v247 : Index := Scalar.indexCast v235
  let c128_167 : Index := 128#32
  ![0, v247.toNat, 128]
def k0_mult24 (i : grid0.Coords) : BitVec 32 :=
  let c2_i32_178 : BitVec 32 := 2#32
  let arg2 : BitVec 32 := BitVec.ofNat 32 (i 2).val
  let v264 : BitVec 32 := Scalar.muli c2_i32_178 arg2
  let c1_i32_179 : BitVec 32 := 1#32
  let v265 : BitVec 32 := Scalar.addi v264 c1_i32_179
  let c256_i32_187 : BitVec 32 := 256#32
  let v279 : BitVec 32 := Scalar.muli v265 c256_i32_187
  v279
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x8192 : Shape := ⟨3, ![4, 4096, 8192]⟩
abbrev S4x4096x128 : Shape := ⟨3, ![4, 4096, 128]⟩
abbrev S4x4096x1024 : Shape := ⟨3, ![4, 4096, 1024]⟩
abbrev S4x4096x8x128 : Shape := ⟨4, ![4, 4096, 8, 128]⟩
abbrev S4x8x4096x4096 : Shape := ⟨4, ![4, 8, 4096, 4096]⟩
abbrev S4x4096x16x8 : Shape := ⟨4, ![4, 4096, 16, 8]⟩
abbrev S4x8x4096x16 : Shape := ⟨4, ![4, 8, 4096, 16]⟩
abbrev S4x8x4096x16x256 : Shape := ⟨5, ![4, 8, 4096, 16, 256]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x8192, .bf16⟩
  | .hbm, ⟨1, _⟩ => ⟨S4x4096x128, .f32⟩
  | .hbm, ⟨2, _⟩ => ⟨S4x4096x8192, .f32⟩
  | .hbm, ⟨3, _⟩ => ⟨S4x4096x1024, .f32⟩
  | .hbm, ⟨4, _⟩ => ⟨S4x4096x8x128, .f32⟩
  | .hbm, ⟨5, _⟩ => ⟨S4x4096x1024, .f32⟩
  | .hbm, ⟨6, _⟩ => ⟨S4x4096x8x128, .f32⟩
  | .hbm, ⟨7, _⟩ => ⟨S4x4096x1024, .f32⟩
  | .hbm, ⟨8, _⟩ => ⟨S4x4096x8x128, .f32⟩
  | .hbm, ⟨9, _⟩ => ⟨S4x8x4096x4096, .f32⟩
  | .hbm, ⟨10, _⟩ => ⟨S4x4096x16x8, .f32⟩
  | .hbm, ⟨11, _⟩ => ⟨S4x8x4096x16, .f32⟩
  | .hbm, ⟨12, _⟩ => ⟨S4x8x4096x16x256, .f32⟩
  | .hbm, ⟨13, _⟩ => ⟨S4x8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S4x8x4096x4096, .f32⟩
  | .hbm, ⟨21, _⟩ => ⟨S_, .f32⟩
  | .hbm, ⟨22, _⟩ => ⟨S_, .f32⟩
  | .hbm, ⟨23, _⟩ => ⟨S4x8x4096x4096, .i1⟩
  | .hbm, ⟨24, _⟩ => ⟨S4x8x4096x4096, .f32⟩
  | .hbm, ⟨25, _⟩ => ⟨S4x8x4096x4096, .f32⟩
  | .hbm, ⟨26, _⟩ => ⟨S_, .f32⟩
  | .hbm, ⟨27, _⟩ => ⟨S4x8x4096, .f32⟩
  | .hbm, ⟨28, _⟩ => ⟨S_, .f32⟩
  | .hbm, ⟨29, _⟩ => ⟨S4x8x4096, .f32⟩
  | .hbm, ⟨30, _⟩ => ⟨S4x8x4096, .f32⟩
  | .hbm, ⟨31, _⟩ => ⟨S4x8x4096x1, .f32⟩
  | .hbm, ⟨32, _⟩ => ⟨S4x8x4096x4096, .f32⟩
  | .hbm, ⟨33, _⟩ => ⟨S4x8x4096x4096, .f32⟩
  | .hbm, ⟨34, _⟩ => ⟨S4x8x4096x4096, .f32⟩
  | .hbm, ⟨35, _⟩ => ⟨S_, .f32⟩
  | .hbm, ⟨36, _⟩ => ⟨S4x8x4096, .f32⟩
  | .hbm, ⟨37, _⟩ => ⟨S4x8x4096x1, .f32⟩
  | .hbm, ⟨38, _⟩ => ⟨S4x8x4096x4096, .f32⟩
  | .hbm, ⟨39, _⟩ => ⟨S4x8x4096x4096, .f32⟩
  | .hbm, ⟨40, _⟩ => ⟨S4x8x128x4096, .f32⟩
  | .hbm, ⟨41, _⟩ => ⟨S4x4096x8x128, .f32⟩
  | .hbm, ⟨42, _⟩ => ⟨S4x4096x1024, .f32⟩
  | .hbm, ⟨43, _⟩ => ⟨S4x4096x1024, .bf16⟩
  | _, _ => ⟨S4x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Ffn.lean ====
abbrev S16384x2048 : Shape := ⟨2, ![16384, 2048]⟩
abbrev S1x2048 : Shape := ⟨2, ![1, 2048]⟩
abbrev S2x2048x11264 : Shape := ⟨3, ![2, 2048, 11264]⟩
abbrev S2x3x11264 : Shape := ⟨3, ![2, 3, 11264]⟩
abbrev S2x1x11264 : Shape := ⟨3, ![2, 1, 11264]⟩
abbrev S2x5632x2048 : Shape := ⟨3, ![2, 5632, 2048]⟩
abbrev S512x2048 : Shape := ⟨2, ![512, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S520x512 : Shape := ⟨2, ![520, 512]⟩
abbrev S11x8x512 : Shape := ⟨3, ![11, 8, 512]⟩
abbrev S128x2048 : Shape := ⟨2, ![128, 2048]⟩
abbrev S128 : Shape := ⟨1, ![128]⟩
abbrev S128x1 : Shape := ⟨2, ![128, 1]⟩
abbrev S8x512 : Shape := ⟨2, ![8, 512]⟩
abbrev S1x8x512 : Shape := ⟨3, ![1, 8, 512]⟩
abbrev S3x512 : Shape := ⟨2, ![3, 512]⟩
abbrev S1x512 : Shape := ⟨2, ![1, 512]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 8
  | .vmem => 25
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x11264, .bf16⟩
  | .hbm, ⟨3, _⟩ => ⟨S2x3x11264, .f32⟩
  | .hbm, ⟨4, _⟩ => ⟨S2x1x11264, .f32⟩
  | .hbm, ⟨5, _⟩ => ⟨S2x5632x2048, .bf16⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x3x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x512x2048, .bf16⟩
  | .local _ .vmem, ⟨16, _⟩ => ⟨S1x512x2048, .bf16⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S520x512, .f32⟩
  | .local _ .vmem, ⟨22, _⟩ => ⟨S520x512, .f32⟩
  | .local _ .vmem, ⟨23, _⟩ => ⟨S11x8x512, .f32⟩
  | .local _ .vmem, ⟨24, _⟩ => ⟨S11x8x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_94 : BitVec 32 := 0#32
  let c4_i32 : BitVec 32 := 4#32
  let v161 : BitVec 32 := Scalar.addi c0_i32_94 c4_i32
  let c1_i32_95 : BitVec 32 := 1#32
  ⟨c0_i32_94, v161, c1_i32_95⟩
def k0_mult1 (k0_t1 : Fin k0_t1_loop.trips) : BitVec 32 :=
  let c0_i32_94 : BitVec 32 := 0#32
  let c1_i32_95 : BitVec 32 := 1#32
  let arg18 : BitVec 32 := Scf.iv c0_i32_94 c1_i32_95 k0_t1
  let c128_i32 : BitVec 32 := 128#32
  let v164 : BitVec 32 := Scalar.muli arg18 c128_i32
  v164
def k0_off1 (k0_t1 : Fin k0_t1_loop.trips) : Fin 2 → Nat :=
  let c0_i32_94 : BitVec 32 := 0#32
  let c1_i32_95 : BitVec 32 := 1#32
  let arg18 : BitVec 32 := Scf.iv c0_i32_94 c1_i32_95 k0_t1
  let c128_i32 : BitVec 32 := 128#32
  let v164 : BitVec 32 := Scalar.muli arg18 c128_i32
  let v165 : BitVec 32 := v164
  let v166 : Index := Scalar.indexCast v165
  let c0_100 : Index := 0#32
  ![v166.toNat, 0]
def k0_cond2 (i : grid0.Coords) : BitVec 1 :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_off2 (i : grid0.Coords) : Fin 3 → Nat :=
  let arg1 : BitVec 32 := BitVec.ofNat 32 (i 1).val
  let v162 : Index := Scalar.indexCast arg1
  let c0_95 : Index := 0#32
  let c0_96 : Index := 0#32
  ![v162.toNat, 0, 0]
def k0_off3 (i : grid0.Coords) : Fin 3 → Nat :=
  let arg1 : BitVec 32 := BitVec.ofNat 32 (i 1).val
  let v16 : Index := Scalar.indexCast arg1
  let c0 : Index := 0#32
  let c0_7 : Index := 0#32
  ![v16.toNat, 0, 0]
def k0_cond3 (i : grid0.Coords) : BitVec 1 :=
  let arg1 : BitVec 32 := BitVec.ofNat 32 (i 1).val
  let c10_i32 : BitVec 32 := 10#32
  let v158 : BitVec 1 := Scalar.cmpi .eq arg1 c10_i32
  let v159 : BitVec 32 := Scalar.extui v158
  let c0_i32_93 : BitVec 32 := 0#32
  let v160 : BitVec 1 := Scalar.cmpi .ne v159 c0_i32_93
  v160

@[reducible] def k0_t2_loop : Scf.Loop 32 :=
  let c0_i32_94 : BitVec 32 := 0#32
  let c4_i32 : BitVec 32 := 4#32
  let v161 : BitVec 32 := Scalar.addi c0_i32_94 c4_i32
  let c1_i32_95 : BitVec 32 := 1#32
  ⟨c0_i32_94, v161, c1_i32_95⟩
def k0_mult2 (k0_t2 : Fin k0_t2_loop.trips) : BitVec 32 :=
  let c0_i32_94 : BitVec 32 := 0#32
  let c1_i32_95 : BitVec 32 := 1#32
  let arg18 : BitVec 32 := Scf.iv c0_i32_94 c1_i32_95 k0_t2
  let c128_i32 : BitVec 32 := 128#32
  let v162 : BitVec 32 := Scalar.muli arg18 c128_i32
  v162
def k0_off4 (k0_t2 : Fin k0_t2_loop.trips) : Fin 2 → Nat :=
  let c0_i32_94 : BitVec 32 := 0#32
  let c1_i32_95 : BitVec 32 := 1#32
  let arg18 : BitVec 32 := Scf.iv c0_i32_94 c1_i32_95 k0_t2
  let c128_i32 : BitVec 32 := 128#32
  let v162 : BitVec 32 := Scalar.muli arg18 c128_i32
  let v163 : BitVec 32 := v162
  let v164 : Index := Scalar.indexCast v163
  let c0_97 : Index := 0#32
  ![v164.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnRefIdeal.lean ====
abbrev S16384x2048 : Shape := ⟨2, ![16384, 2048]⟩
abbrev S1x2048 : Shape := ⟨2, ![1, 2048]⟩
abbrev S2x2048x11264 : Shape := ⟨3, ![2, 2048, 11264]⟩
abbrev S2x3x11264 : Shape := ⟨3, ![2, 3, 11264]⟩
abbrev S2x1x11264 : Shape := ⟨3, ![2, 1, 11264]⟩
abbrev S2x5632x2048 : Shape := ⟨3, ![2, 5632, 2048]⟩
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S4x4096x11264 : Shape := ⟨3, ![4, 4096, 11264]⟩
abbrev S4x4098x11264 : Shape := ⟨3, ![4, 4098, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S1x1x11264 : Shape := ⟨3, ![1, 1, 11264]⟩
abbrev S4x4096x5632 : Shape := ⟨3, ![4, 4096, 5632]⟩
abbrev S1x5632x2048 : Shape := ⟨3, ![1, 5632, 2048]⟩
abbrev S5632x2048 : Shape := ⟨2, ![5632, 2048]⟩

abbrev nBuf : Space → Nat
  | .hbm => 94
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x11264, .bf16⟩
  | .hbm, ⟨3, _⟩ => ⟨S2x3x11264, .f32⟩
  | .hbm, ⟨4, _⟩ => ⟨S2x1x11264, .f32⟩
  | .hbm, ⟨5, _⟩ => ⟨S2x5632x2048, .bf16⟩
  | .hbm, ⟨6, _⟩ => ⟨S1x2048, .f32⟩
  | .hbm, ⟨7, _⟩ => ⟨S4x4096x2048, .f32⟩
  | .hbm, ⟨8, _⟩ => ⟨S2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S1x2048x11264, .bf16⟩
  | .hbm, ⟨26, _⟩ => ⟨S2048x11264, .bf16⟩
  | .hbm, ⟨27, _⟩ => ⟨S2048x11264, .f32⟩
  | .hbm, ⟨28, _⟩ => ⟨S4x4096x11264, .f32⟩
  | .hbm, ⟨29, _⟩ => ⟨S_, .i32⟩
  | .hbm, ⟨30, _⟩ => ⟨S_, .f32⟩
  | .hbm, ⟨31, _⟩ => ⟨S4x4098x11264, .f32⟩
  | .hbm, ⟨32, _⟩ => ⟨S1x3x11264, .f32⟩
  | .hbm, ⟨33, _⟩ => ⟨S3x11264, .f32⟩
  | .hbm, ⟨34, _⟩ => ⟨S4x4096x11264, .f32⟩
  | .hbm, ⟨35, _⟩ => ⟨S1x11264, .f32⟩
  | .hbm, ⟨36, _⟩ => ⟨S11264, .f32⟩
  | .hbm, ⟨37, _⟩ => ⟨S1x1x11264, .f32⟩
  | .hbm, ⟨38, _⟩ => ⟨S4x4096x11264, .f32⟩
  | .hbm, ⟨39, _⟩ => ⟨S4x4096x11264, .f32⟩
  | .hbm, ⟨40, _⟩ => ⟨S4x4096x11264, .f32⟩
  | .hbm, ⟨41, _⟩ => ⟨S1x11264, .f32⟩
  | .hbm, ⟨42, _⟩ => ⟨S11264, .f32⟩
  | .hbm, ⟨43, _⟩ => ⟨S1x1x11264, .f32⟩
  | .hbm, ⟨44, _⟩ => ⟨S4x4096x11264, .f32⟩
  | .hbm, ⟨45, _⟩ => ⟨S4x4096x11264, .f32⟩
  | .hbm, ⟨46, _⟩ => ⟨S4x4096x11264, .f32⟩
  | .hbm, ⟨47, _⟩ => ⟨S4x4096x11264, .f32⟩
  | .hbm, ⟨48, _⟩ => ⟨S1x11264, .f32⟩
  | .hbm, ⟨49, _⟩ => ⟨S11264, .f32⟩
  | .hbm, ⟨50, _⟩ => ⟨S1x1x11264, .f32⟩
  | .hbm, ⟨51, _⟩ => ⟨S4x4096x11264, .f32⟩
  | .hbm, ⟨52, _⟩ => ⟨S4x4096x11264, .f32⟩
  | .hbm, ⟨53, _⟩ => ⟨S4x4096x11264, .f32⟩
  | .hbm, ⟨54, _⟩ => ⟨S1x1x11264, .f32⟩
  | .hbm, ⟨55, _⟩ => ⟨S11264, .f32⟩
  | .hbm, ⟨56, _⟩ => ⟨S1x1x11264, .f32⟩
  | .hbm, ⟨57, _⟩ => ⟨S4x4096x11264, .f32⟩
  | .hbm, ⟨58, _⟩ => ⟨S4x4096x11264, .f32⟩
  | .hbm, ⟨59, _⟩ => ⟨S4x4096x5632, .f32⟩
  | .hbm, ⟨60, _⟩ => ⟨S4x4096x5632, .f32⟩
  | .hbm, ⟨61, _⟩ => ⟨S4x4096x5632, .f32⟩
  | .hbm, ⟨62, _⟩ => ⟨S4x4096x5632, .f32⟩
  | .hbm, ⟨63, _⟩ => ⟨S_, .f32⟩
  | .hbm, ⟨64, _⟩ => ⟨S4x4096x5632, .f32⟩
  | .hbm, ⟨65, _⟩ => ⟨S4x4096x5632, .f32⟩
  | .hbm, ⟨66, _⟩ => ⟨S_, .f32⟩
  | .hbm, ⟨67, _⟩ => ⟨S4x4096x5632, .f32⟩
  | .hbm, ⟨68, _⟩ => ⟨S4x4096x5632, .f32⟩
  | .hbm, ⟨69, _⟩ => ⟨S4x4096x5632, .f32⟩
  | .hbm, ⟨70, _⟩ => ⟨S4x4096x5632, .f32⟩
  | .hbm, ⟨71, _⟩ => ⟨S1x5632x2048, .bf16⟩
  | .hbm, ⟨72, _⟩ => ⟨S5632x2048, .bf16⟩
  | .hbm, ⟨73, _⟩ => ⟨S5632x2048, .f32⟩
  | .hbm, ⟨74, _⟩ => ⟨S4x4096x2048, .f32⟩
  | .hbm, ⟨75, _⟩ => ⟨S2048, .f32⟩
  | .hbm, ⟨76, _⟩ => ⟨S4x4096x2048, .f32⟩
  | .hbm, ⟨77, _⟩ => ⟨S_, .f32⟩
  | .hbm, ⟨78, _⟩ => ⟨S4x4096, .f32⟩
  | .hbm, ⟨79, _⟩ => ⟨S4x4096x1, .f32⟩
  | .hbm, ⟨80, _⟩ => ⟨S_, .f32⟩
  | .hbm, ⟨81, _⟩ => ⟨S4x4096x1, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S4x4096x1, .f32⟩
  | .hbm, ⟨87, _⟩ => ⟨S4x4096x2048, .f32⟩
  | .hbm, ⟨88, _⟩ => ⟨S4x4096x2048, .f32⟩
  | .hbm, ⟨89, _⟩ => ⟨S1x1x2048, .f32⟩
  | .hbm, ⟨90, _⟩ => ⟨S4x4096x2048, .f32⟩
  | .hbm, ⟨91, _⟩ => ⟨S4x4096x2048, .f32⟩
  | .hbm, ⟨92, _⟩ => ⟨S4x4096x2048, .f32⟩
  | .hbm, ⟨93, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_2 : Ref sig .tc := ⟨.hbm, 77, rfl⟩
abbrev main_v57 : Ref sig .tc := ⟨.hbm, 78, rfl⟩
abbrev main_v58 : Ref sig .tc := ⟨.hbm, 79, rfl⟩
abbrev main_cst_3 : Ref sig .tc := ⟨.hbm, 80, rfl⟩
abbrev main_v59 : Ref sig .tc := ⟨.hbm, 81, rfl⟩
abbrev main_v60 : Ref sig .tc := ⟨.hbm, 82, rfl⟩
abbrev main_cst_4 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Proj.lean ====
abbrev S16384x2048 : Shape := ⟨2, ![16384, 2048]⟩
abbrev S1x2048 : Shape := ⟨2, ![1, 2048]⟩
abbrev S2x2048x8192 : Shape := ⟨3, ![2, 2048, 8192]⟩
abbrev S1x8192 : Shape := ⟨2, ![1, 8192]⟩
abbrev S16384x8192 : Shape := ⟨2, ![16384, 8192]⟩
abbrev S64x1x2048 : Shape := ⟨3, ![64, 1, 2048]⟩
abbrev S1024x2048 : Shape := ⟨2, ![1024, 2048]⟩
abbrev S1x2048x2048 : Shape := ⟨3, ![1, 2048, 2048]⟩
abbrev S4x1x2048 : Shape := ⟨3, ![4, 1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x1x2048 : Shape := ⟨3, ![1, 1, 2048]⟩
abbrev S2048x2048 : Shape := ⟨2, ![2048, 2048]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x8192, .bf16⟩
  | .hbm, ⟨3, _⟩ => ⟨S1x8192, .f32⟩
  | .hbm, ⟨4, _⟩ => ⟨S16384x8192, .bf16⟩
  | .hbm, ⟨5, _⟩ => ⟨S64x1x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1x2048, .f32⟩
  | .local _ .vmem, ⟨6, _⟩ => ⟨S1x2048, .f32⟩
  | .local _ .vmem, ⟨7, _⟩ => ⟨S1024x2048, .bf16⟩
  | .local _ .vmem, ⟨8, _⟩ => ⟨S1024x2048, .bf16⟩
  | .local _ .vmem, ⟨9, _⟩ => ⟨S4x1x2048, .f32⟩
  | .local _ .vmem, ⟨10, _⟩ => ⟨S4x1x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c4_i32 : BitVec 32 := 4#32
  let v12 : BitVec 32 := Scalar.addi c0_i32_9 c4_i32
  let c1_i32 : BitVec 32 := 1#32
  ⟨c0_i32_9, v12, c1_i32⟩
def k0_mult1 (k0_t1 : Fin k0_t1_loop.trips) : BitVec 32 :=
  let c0_i32_9 : BitVec 32 := 0#32
  let c1_i32 : BitVec 32 := 1#32
  let arg9 : BitVec 32 := Scf.iv c0_i32_9 c1_i32 k0_t1
  let c256_i32 : BitVec 32 := 256#32
  let v13 : BitVec 32 := Scalar.muli arg9 c256_i32
  v13
def k0_off1 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c256_i32 : BitVec 32 := 256#32
  let v13 : BitVec 32 := Scalar.muli arg9 c256_i32
  let v14 : BitVec 32 := v13
  let v15 : Index := Scalar.indexCast v14
  let c0_11 : Index := 0#32
  ![v15.toNat, 0]
def k0_off2 (k0_t1 : Fin k0_t1_loop.trips) : Fin 3 → Nat :=
  let c0_i32_9 : BitVec 32 := 0#32
  let c1_i32 : BitVec 32 := 1#32
  let arg9 : BitVec 32 := Scf.iv c0_i32_9 c1_i32 k0_t1
  let v39 : Index := Scalar.indexCast arg9
  let c0_20 : Index := 0#32
  let c0_21 : Index := 0#32
  ![v39.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjRefIdeal.lean ====
abbrev S16384x2048 : Shape := ⟨2, ![16384, 2048]⟩
abbrev S1x2048 : Shape := ⟨2, ![1, 2048]⟩
abbrev S2x2048x8192 : Shape := ⟨3, ![2, 2048, 8192]⟩
abbrev S1x8192 : Shape := ⟨2, ![1, 8192]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048x8192 : Shape := ⟨3, ![1, 2048, 8192]⟩
abbrev S2048x8192 : Shape := ⟨2, ![2048, 8192]⟩
abbrev S16384x8192 : Shape := ⟨2, ![16384, 8192]⟩
abbrev S64x256x2048 : Shape := ⟨3, ![64, 256, 2048]⟩
abbrev S64x2048 : Shape := ⟨2, ![64, 2048]⟩
abbrev S64x1x2048 : Shape := ⟨3, ![64, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2x2048x8192, .bf16⟩
  | .hbm, ⟨3, _⟩ => ⟨S1x8192, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S1x2048x8192, .bf16⟩
  | .hbm, ⟨22, _⟩ => ⟨S2048x8192, .bf16⟩
  | .hbm, ⟨23, _⟩ => ⟨S2048x8192, .f32⟩
  | .hbm, ⟨24, _⟩ => ⟨S16384x8192, .f32⟩
  | .hbm, ⟨25, _⟩ => ⟨S64x256x2048, .f32⟩
  | .hbm, ⟨26, _⟩ => ⟨S_, .f32⟩
  | .hbm, ⟨27, _⟩ => ⟨S64x2048, .f32⟩
  | .hbm, ⟨28, _⟩ => ⟨S64x1x2048, .f32⟩
  | .hbm, ⟨29, _⟩ => ⟨S_, .f32⟩
  | .hbm, ⟨30, _⟩ => ⟨S64x1x2048, .f32⟩
  | .hbm, ⟨31, _⟩ => ⟨S64x1x2048, .f32⟩
  | .hbm, ⟨32, _⟩ => ⟨S16384x8192, .f32⟩
  | .hbm, ⟨33, _⟩ => ⟨S16384x8192, .f32⟩
  | .hbm, ⟨34, _⟩ => ⟨S16384x8192, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Merge.lean ====
abbrev S16384x1024 : Shape := ⟨2, ![16384, 1024]⟩
abbrev S16384x8192 : Shape := ⟨2, ![16384, 8192]⟩
abbrev S16384x2048 : Shape := ⟨2, ![16384, 2048]⟩
abbrev S2x1024x1024 : Shape := ⟨3, ![2, 1024, 1024]⟩
abbrev S2x1024x2048 : Shape := ⟨3, ![2, 1024, 2048]⟩
abbrev S2x2048x2048 : Shape := ⟨3, ![2, 2048, 2048]⟩
abbrev S1x2048 : Shape := ⟨2, ![1, 2048]⟩
abbrev S512x1024 : Shape := ⟨2, ![512, 1024]⟩
abbrev S512x2048 : Shape := ⟨2, ![512, 2048]⟩
abbrev S1x1024x1024 : Shape := ⟨3, ![1, 1024, 1024]⟩
abbrev S1x1024x2048 : Shape := ⟨3, ![1, 1024, 2048]⟩
abbrev S1x2048x2048 : Shape := ⟨3, ![1, 2048, 2048]⟩
abbrev S256x1024 : Shape := ⟨2, ![256, 1024]⟩
abbrev S1024x1024 : Shape := ⟨2, ![1024, 1024]⟩
abbrev S1024x2048 : Shape := ⟨2, ![1024, 2048]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 10
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x8192, .bf16⟩
  | .hbm, ⟨3, _⟩ => ⟨S16384x2048, .f32⟩
  | .hbm, ⟨4, _⟩ => ⟨S2x1024x1024, .bf16⟩
  | .hbm, ⟨5, _⟩ => ⟨S2x1024x2048, .bf16⟩
  | .hbm, ⟨6, _⟩ => ⟨S2x1024x2048, .bf16⟩
  | .hbm, ⟨7, _⟩ => ⟨S2x2048x2048, .bf16⟩
  | .hbm, ⟨8, _⟩ => ⟨S1x2048, .f32⟩
  | .hbm, ⟨9, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x1024x1024, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S1x2048x2048, .bf16⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x1024 : Shape := ⟨2, ![16384, 1024]⟩
abbrev S16384x8192 : Shape := ⟨2, ![16384, 8192]⟩
abbrev S16384x2048 : Shape := ⟨2, ![16384, 2048]⟩
abbrev S2x1024x1024 : Shape := ⟨3, ![2, 1024, 1024]⟩
abbrev S2x1024x2048 : Shape := ⟨3, ![2, 1024, 2048]⟩
abbrev S2x2048x2048 : Shape := ⟨3, ![2, 2048, 2048]⟩
abbrev S1x2048 : Shape := ⟨2, ![1, 2048]⟩
abbrev S1x1024x1024 : Shape := ⟨3, ![1, 1024, 1024]⟩
abbrev S1024x1024 : Shape := ⟨2, ![1024, 1024]⟩
abbrev S_ : Shape := ⟨0, ![]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S2048 : Shape := ⟨1, ![2048]⟩
abbrev S16384 : Shape := ⟨1, ![16384]⟩
abbrev S16384x1 : Shape := ⟨2, ![16384, 1]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x8192, .bf16⟩
  | .hbm, ⟨3, _⟩ => ⟨S16384x2048, .f32⟩
  | .hbm, ⟨4, _⟩ => ⟨S2x1024x1024, .bf16⟩
  | .hbm, ⟨5, _⟩ => ⟨S2x1024x2048, .bf16⟩
  | .hbm, ⟨6, _⟩ => ⟨S2x1024x2048, .bf16⟩
  | .hbm, ⟨7, _⟩ => ⟨S2x2048x2048, .bf16⟩
  | .hbm, ⟨8, _⟩ => ⟨S1x2048, .f32⟩
  | .hbm, ⟨9, _⟩ => ⟨S16384x1024, .f32⟩
  | .hbm, ⟨10, _⟩ => ⟨S1x1024x1024, .bf16⟩
  | .hbm, ⟨11, _⟩ => ⟨S1024x1024, .bf16⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S1x1024x2048, .bf16⟩
  | .hbm, ⟨24, _⟩ => ⟨S1024x2048, .bf16⟩
  | .hbm, ⟨25, _⟩ => ⟨S1024x2048, .f32⟩
  | .hbm, ⟨26, _⟩ => ⟨S16384x2048, .f32⟩
  | .hbm, ⟨27, _⟩ => ⟨S16384x1024, .f32⟩
  | .hbm, ⟨28, _⟩ => ⟨S1x1024x2048, .bf16⟩
  | .hbm, ⟨29, _⟩ => ⟨S1024x2048, .bf16⟩
  | .hbm, ⟨30, _⟩ => ⟨S1024x2048, .f32⟩
  | .hbm, ⟨31, _⟩ => ⟨S16384x2048, .f32⟩
  | .hbm, ⟨32, _⟩ => ⟨S16384x2048, .bf16⟩
  | .hbm, ⟨33, _⟩ => ⟨S16384x2048, .f32⟩
  | .hbm, ⟨34, _⟩ => ⟨S16384x2048, .bf16⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384x2048, .f32⟩
  | .hbm, ⟨49, _⟩ => ⟨S16384x2048, .f32⟩
  | .hbm, ⟨50, _⟩ => ⟨S_, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S1x2048x2048, .bf16⟩
  | .hbm, ⟨56, _⟩ => ⟨S2048x2048, .bf16⟩
  | .hbm, ⟨57, _⟩ => ⟨S2048x2048, .f32⟩
  | .hbm, ⟨58, _⟩ => ⟨S16384x2048, .f32⟩
  | .hbm, ⟨59, _⟩ => ⟨S2048, .f32⟩
  | .hbm, ⟨60, _⟩ => ⟨S16384x2048, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x2048, .f32⟩
  | .hbm, ⟨72, _⟩ => ⟨S16384x2048, .f32⟩
  | .hbm, ⟨73, _⟩ => ⟨S1x2048, .f32⟩
  | .hbm, ⟨74, _⟩ => ⟨S16384x2048, .f32⟩
  | .hbm, ⟨75, _⟩ => ⟨S16384x2048, .f32⟩
  | .hbm, ⟨76, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Select.lean ====
abbrev S4x4096x2048 : Shape := ⟨3, ![4, 4096, 2048]⟩
abbrev S1x2048 : Shape := ⟨2, ![1, 2048]⟩
abbrev S4x2048x128 : Shape := ⟨3, ![4, 2048, 128]⟩
abbrev S4x4096x128 : Shape := ⟨3, ![4, 4096, 128]⟩
abbrev S1x512x2048 : Shape := ⟨3, ![1, 512, 2048]⟩
abbrev S1x2048x128 : Shape := ⟨3, ![1, 2048, 128]⟩
abbrev S1x512x128 : Shape := ⟨3, ![1, 512, 128]⟩
abbrev S512x2048 : Shape := ⟨2, ![512, 2048]⟩
abbrev S512 : Shape := ⟨1, ![512]⟩
abbrev S512x1 : Shape := ⟨2, ![512, 1]⟩
abbrev S2048x128 : Shape := ⟨2, ![2048, 128]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S4x2048x128, .f32⟩
  | .hbm, ⟨3, _⟩ => ⟨S4x4096x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x2048x128, .f32⟩
  | .local _ .vmem, ⟨4, _⟩ => ⟨S1x2048x128, .f32⟩
  | .local _ .vmem, ⟨5, _⟩ => ⟨S1x512x128, .f32⟩
  | .local _ .vmem, ⟨6, _⟩ => ⟨S1x512x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SelectRefIdeal.lean ====
abbrev S4x4096x2048 : Shape := ⟨3, ![4, 4096, 2048]⟩
abbrev S1x2048 : Shape := ⟨2, ![1, 2048]⟩
abbrev S4x2048x128 : Shape := ⟨3, ![4, 2048, 128]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x128 : Shape := ⟨3, ![4, 4096, 128]⟩
abbrev S4x4096x16x8 : Shape := ⟨4, ![4, 4096, 16, 8]⟩
abbrev S16 : Shape := ⟨1, ![16]⟩
abbrev S1x16x1 : Shape := ⟨3, ![1, 16, 1]⟩
abbrev S4096 : Shape := ⟨1, ![4096]⟩
abbrev S4096x1x1 : Shape := ⟨3, ![4096, 1, 1]⟩
abbrev S4096x16x1 : Shape := ⟨3, ![4096, 16, 1]⟩
abbrev S4x4096x8x16 : Shape := ⟨4, ![4, 4096, 8, 16]⟩
abbrev S4x4096x8x3 : Shape := ⟨4, ![4, 4096, 8, 3]⟩
abbrev S4x4096x8x3x1 : Shape := ⟨5, ![4, 4096, 8, 3, 1]⟩
abbrev S1x1x1x1x16 : Shape := ⟨5, ![1, 1, 1, 1, 16]⟩
abbrev S4x4096x8x3x16 : Shape := ⟨5, ![4, 4096, 8, 3, 16]⟩
abbrev S1x4096x16x1 : Shape := ⟨4, ![1, 4096, 16, 1]⟩

abbrev nBuf : Space → Nat
  | .hbm => 82
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S4x2048x128, .f32⟩
  | .hbm, ⟨3, _⟩ => ⟨S2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S4x4096x128, .f32⟩
  | .hbm, ⟨21, _⟩ => ⟨S4x4096x16x8, .f32⟩
  | .hbm, ⟨22, _⟩ => ⟨S16, .i32⟩
  | .hbm, ⟨23, _⟩ => ⟨S1x16x1, .i32⟩
  | .hbm, ⟨24, _⟩ => ⟨S4096, .i32⟩
  | .hbm, ⟨25, _⟩ => ⟨S_, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1x1, .i32⟩
  | .hbm, ⟨44, _⟩ => ⟨S4096x16x1, .i32⟩
  | .hbm, ⟨45, _⟩ => ⟨S4096x16x1, .i32⟩
  | .hbm, ⟨46, _⟩ => ⟨S4096x16x1, .i1⟩
  | .hbm, ⟨47, _⟩ => ⟨S_, .f32⟩
  | .hbm, ⟨48, _⟩ => ⟨S_, .f32⟩
  | .hbm, ⟨49, _⟩ => ⟨S4x4096x16x8, .i1⟩
  | .hbm, ⟨50, _⟩ => ⟨S4x4096x16x8, .f32⟩
  | .hbm, ⟨51, _⟩ => ⟨S4x4096x16x8, .f32⟩
  | .hbm, ⟨52, _⟩ => ⟨S4x4096x8x16, .f32⟩
  | .hbm, ⟨53, _⟩ => ⟨S4x4096x8x3, .f32⟩
  | .hbm, ⟨54, _⟩ => ⟨S4x4096x8x3, .i32⟩
  | .hbm, ⟨55, _⟩ => ⟨S4x4096x8x3x1, .i32⟩
  | .hbm, ⟨56, _⟩ => ⟨S16, .i32⟩
  | .hbm, ⟨57, _⟩ => ⟨S1x1x1x1x16, .i32⟩
  | .hbm, ⟨58, _⟩ => ⟨S4x4096x8x3x16, .i32⟩
  | .hbm, ⟨59, _⟩ => ⟨S4x4096x8x3x16, .i32⟩
  | .hbm, ⟨60, _⟩ => ⟨S4x4096x8x3x16, .i1⟩
  | .hbm, ⟨61, _⟩ => ⟨S_, .i1⟩
  | .hbm, ⟨62, _⟩ => ⟨S4x4096x8x16, .i1⟩
  | .hbm, ⟨63, _⟩ => ⟨S4x4096x16x8, .i1⟩
  | .hbm, ⟨64, _⟩ => ⟨S4096x16x1, .i32⟩
  | .hbm, ⟨65, _⟩ => ⟨S4096x16x1, .i32⟩
  | .hbm, ⟨66, _⟩ => ⟨S4096x16x1, .i1⟩
  | .hbm, ⟨67, _⟩ => ⟨S1x4096x16x1, .i1⟩
  | .hbm, ⟨68, _⟩ => ⟨S4x4096x16x8, .i1⟩
  | .hbm, ⟨69, _⟩ => ⟨S4x4096x16x8, .i1⟩
  | .hbm, ⟨70, _⟩ => ⟨S4096x16x1, .i32⟩
  | .hbm, ⟨71, _⟩ => ⟨S4096x16x1, .i32⟩
  | .hbm, ⟨72, _⟩ => ⟨S4096x16x1, .i1⟩
  | .hbm, ⟨73, _⟩ => ⟨S1x4096x16x1, .i1⟩
  | .hbm, ⟨74, _⟩ => ⟨S4x4096x16x8, .i1⟩
  | .hbm, ⟨75, _⟩ => ⟨S4x4096x16x8, .i1⟩
  | .hbm, ⟨76, _⟩ => ⟨S_, .f32⟩
  | .hbm, ⟨77, _⟩ => ⟨S_, .f32⟩
  | .hbm, ⟨78, _⟩ => ⟨S4x4096x16x8, .f32⟩
  | .hbm, ⟨79, _⟩ => ⟨S4x4096x16x8, .f32⟩
  | .hbm, ⟨80, _⟩ => ⟨S4x4096x16x8, .f32⟩
  | .hbm, ⟨81, _⟩ => ⟨S4x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v24 : Ref sig .tc := ⟨.hbm, 51, rfl⟩
abbrev main_v25 : Ref sig .tc := ⟨.hbm, 52, rfl⟩
abbrev main_values : Ref sig .tc := ⟨.hbm, 53, rfl⟩
abbrev main_indices : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_3 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_4 : Ref sig .tc := ⟨.hbm, 76, rfl⟩
abbrev main_cst_5 : Ref sig .tc := ⟨.hbm, 77, rfl⟩
abbrev main_call2_v0 : Ref sig .tc := ⟨.hbm, 78, rfl⟩
abbrev main_call2_v1 : Ref sig .tc := ⟨.hbm, 79, rfl⟩
abbrev main_v46 : Ref sig .tc := ⟨.hbm, 80, rfl⟩
abbrev main_v47 : Ref sig .tc := ⟨.hbm, 81, rfl⟩

abbrev nD : Nat := 1
abbrev τ : Topo := Topo.v7x

variable {F : FTy → Type} [FloatOps F]
-- ==== Proof.AttnBody.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.LoopRemainder
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body run once -/

section Run

variable (c : Dev nD) (i : grid0.Coords) (arg3 : Memref sig .tc .vmem S1x512x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x512x128 .f32) (harg6 : arg6.IsWhole) (arg7 : Memref sig .tc .vmem S1x512x256 .bf16) (harg7 : arg7.IsWhole) (arg8 : Memref sig .tc .vmem S2x512x256 .bf16) (harg8 : arg8.IsWhole) (arg9 : Memref sig .tc .vmem S2x2x512x256 .f32) (harg9 : arg9.IsWhole) (arg10 : Memref sig .tc .vmem S2x512x128 .f32) (harg10 : arg10.IsWhole) (arg11 : Memref sig .tc .vmem S2x512x256 .f32) (harg11 : arg11.IsWhole)

/-- The buffers a grid point works on: the four input blocks at their contents, the output's at `g7`, the four scratch
    buffers at anything. -/
abbrev Held (f3 : BufTy.Contents (Elt F) arg3.view.ty) (f4 : BufTy.Contents (Elt F) arg4.view.ty) (f5 : BufTy.Contents (Elt F) arg5.view.ty) (f6 : BufTy.Contents (Elt F) arg6.view.ty) (g7 : BufTy.Contents (Elt F) arg7.view.ty) : sProp 𝕄 :=
  iprop((arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} g7)
    ∗ (∃ g, (arg8.view.loc (c : Thread nD τ) ↦[arg8.view.set]{fullShare} g)) ∗ (∃ g, (arg9.view.loc (c : Thread nD τ) ↦[arg9.view.set]{fullShare} g))
    ∗ (∃ g, (arg10.view.loc (c : Thread nD τ) ↦[arg10.view.set]{fullShare} g)) ∗ (∃ g, (arg11.view.loc (c : Thread nD τ) ↦[arg11.view.set]{fullShare} g)))

set_option maxHeartbeats 4000000 in
/-- One run of the body at a symbolic grid point: what it writes into the output block is the run's own find, as a
    function of the inputs' contents and of what the score buffer held before (`f9`), which the lemmas below show is
    not read. -/
def attnRun (f3 : BufTy.Contents (Elt F) arg3.view.ty) (f4 : BufTy.Contents (Elt F) arg4.view.ty) (f5 : BufTy.Contents (Elt F) arg5.view.ty) (f6 : BufTy.Contents (Elt F) arg6.view.ty) (f9 : BufTy.Contents (Elt F) arg9.view.ty) :
    { L7 : List (View.Piece (Elt F) S1x512x256 .bf16) // ∀ (E : Set ℕ) (f7 : BufTy.Contents (Elt F) arg7.view.ty) (f8 : BufTy.Contents (Elt F) arg8.view.ty) (f10 : BufTy.Contents (Elt F) arg10.view.ty) (f11 : BufTy.Contents (Elt F) arg11.view.ty) (K : PUnit → sProp 𝕄),
      iprop((arg3.view.loc (c : Thread nD τ) ↦[arg3.view.set]{fullShare} f3) ∗ (arg4.view.loc (c : Thread nD τ) ↦[arg4.view.set]{fullShare} f4)
        ∗ (arg5.view.loc (c : Thread nD τ) ↦[arg5.view.set]{fullShare} f5) ∗ (arg6.view.loc (c : Thread nD τ) ↦[arg6.view.set]{fullShare} f6)
        ∗ (arg7.view.loc (c : Thread nD τ) ↦[arg7.view.set]{fullShare} f7) ∗ (arg8.view.loc (c : Thread nD τ) ↦[arg8.view.set]{fullShare} f8)
        ∗ (arg9.view.loc (c : Thread nD τ) ↦[arg9.view.set]{fullShare} f9) ∗ (arg10.view.loc (c : Thread nD τ) ↦[arg10.view.set]{fullShare} f10)
        ∗ (arg11.view.loc (c : Thread nD τ) ↦[arg11.view.set]{fullShare} f11)
        ∗ (Held c arg3 arg4 arg5 arg6 arg7 arg8 arg9 arg10 arg11 f3 f4 f5 f6 (arg7.view.writes (Elt F) f7 L7) -∗ K ⟨⟩))
      ⊢ wp frame (wpE (defs₀ (F := F)) Variants.none c none) E (cc0_moba_attn i arg3 harg3 arg4 harg4 arg5 harg5 arg6 harg6 arg7 harg7 arg8 harg8 arg9 harg9 arg10 harg10 arg11 harg11) K } := by
  refine ⟨?_, fun E f7 f8 f10 f11 K => ?run⟩
  case run =>
    simp only [cc0_moba_attn_eq_skeleton]; unfold cc0_moba_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    iintro ⟨H3, H4, H5, H6, H7, H8, H9, H10, H11, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iexists _; iexact H11

end Run

end Cert.KernelIdeal.Attn
-- ==== Proof.AttnVal.lean ====
module

public import proofs.«01_k».proof.Proof.AttnBody
public import Idealize.ShloMosaic.Lib.WritesUnit
public import Idealize.ShloMosaic.Lib.ValueIdx
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.LoopRemainder
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F] [Named F]

local notation "𝕄" => MT nD τ sig Unit (Elt F) ℕ (UR sig nD τ) ℕ

/-! ## Reading back one store among several -/

section ReadBack

variable {sig : RefSig} {κ : Kind} {sp : Space} {s : Shape} {e : EltTy} {Val : EltTy → Type}

/-- A load through the newest store's own rectangle reads what was stored. -/
theorem readAt_hit (v : View sig κ sp s e) (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

/-- A load through a rectangle apart from the newest store's reads what the earlier ones left. -/
theorem readAt_miss (v : View sig κ sp s e) (f : v.ty.Contents Val) {off size off' size' : Fin s.rank → ℕ} {inb inb'}
    (w : (Rect.unit off size inb).shape.Idx → Val e) (L : List (View.Piece Val s e)) (a : Fin s.rank)
    (h : off a + size a ≤ off' a ∨ off' a + size' a ≤ off a) :
    v.readAt Val (Rect.unit off' size' inb').toLoadRect (v.writes Val f (⟨Rect.unit off size inb, w⟩ :: L))
      = v.readAt Val (Rect.unit off' size' inb').toLoadRect (v.writes Val f L) := by
  funext x
  refine View.read_writes_cons_miss v f ⟨Rect.unit off size inb, w⟩ L _ ?_
  exact Finset.disjoint_right.mp (Rect.unit_disjoint (inb := inb) (inb' := inb') a h) ((Rect.unit off' size' inb').toLoadRect.idx_mem x)

theorem readCov_def [∀ e, Nonempty (Val e)] (v : View sig κ sp s e) (L : List (View.Piece Val s e)) (B : LoadRect s) :
    v.readCov L B = v.readAt Val B (v.writes Val v.junk L) := rfl

end ReadBack

/-! ## The pieces of the recursion -/

/-- The lanes of a row of the one-hot block. -/
def lane : IVec S256x128 32 := iota .tc S256x128 32 [1] iota_S256x128_d1_w32

/-- The scores of one key block, with the lane `col` picked out of the appended bias row. -/
def scT (col : BitVec 32) (kj : Vec F S1x256x128 .bf16) (q : Vec F S1x512x256 .bf16) : FVec F S1x1x512x256 .f32 :=
  k0_pay11 (cmpi .eq lane (broadcast S256x128 col)) (Scalar.ofBits .f32 0x00000000#32) k0_pay10 kj q

/-- The new running maximum. -/
def mxT (s : FVec F S512x256 .f32) (m : Vec F S1x512x128 .f32) : FVec F S1x512x128 .f32 := k0_pay8 s (k0_pay5 m)

/-- The new accumulator. -/
def acT (s : FVec F S512x256 .f32) (m : Vec F S1x512x128 .f32) (v : Vec F S1x256x128 .bf16) (a : Vec F S1x512x256 .f32) : FVec F S1x512x256 .f32 :=
  k0_pay7 k0_pay63 s (k0_pay5 m) v a

/-- The lane a key block's bias sits at. -/
def colW (arg1 jb h : BitVec 32) : BitVec 32 := Scalar.addi (Scalar.addi (Scalar.muli jb 8#32) (Scalar.muli arg1 2#32)) h

/-- Key block `jb`, head `h` of the pair: 256 rows, 128 columns. -/
def kblk (x : Vec F S1x4096x256 .bf16) (jb h : ℕ) : Vec F S1x256x128 .bf16 := fun y =>
  x (ix3 (0 : Fin 1) (⟨(256 * jb + (y 1).val) % 4096, Nat.mod_lt _ (by decide)⟩ : Fin 4096) (⟨(128 * h + (y 2).val) % 256, Nat.mod_lt _ (by decide)⟩ : Fin 256))

theorem readAt_kblk (v : View sig .tc .vmem S1x4096x256 .bf16) (X : v.ty.Contents (Elt F)) {off : Fin 3 → ℕ} (jb h : ℕ)
    (inb : ∀ a, off a + S1x256x128.size a ≤ S1x4096x256.size a) (e : off = ![0, 256 * jb, 128 * h]) :
    v.readAt (Elt F) (Rect.unit (s := S1x4096x256) off S1x256x128.size inb).toLoadRect X = kblk (v.read (Elt F) X) jb h := by
  subst e
  have h1 : 256 * jb + 256 ≤ 4096 := inb 1
  have h2 : 128 * h + 128 ≤ 256 := inb 2
  funext y
  have y0 : (y 0).val < 1 := (y 0).isLt
  have y1 : (y 1).val < 256 := (y 1).isLt
  have y2 : (y 2).val < 128 := (y 2).isLt
  show v.read (Elt F) X _ = v.read (Elt F) X _
  refine congrArg (v.read (Elt F) X) (funext fun a => Fin.ext ?_)
  match a with
  | 0 => show 0 + 1 * (y 0).val = 0; omega
  | 1 => show 256 * jb + 1 * (y 1).val = (256 * jb + (y 1).val) % 4096; omega
  | 2 => show 128 * h + 1 * (y 2).val = (128 * h + (y 2).val) % 256; omega

theorem off1_r0 (i : grid0.Coords) (k) : k0_off1 i k 1#32 = ![0, 256 * (2 * k.val + 1), 128 * 0] := by
  rw [show (1#32 : BitVec 32) = BitVec.ofNat 32 (1 + (0 : Fin 2).val) from rfl, k0_off1_eq]; congr 2; simp; omega
theorem off1_r1 (i : grid0.Coords) (k) : k0_off1 i k 2#32 = ![0, 256 * (2 * k.val + 2), 128 * 0] := by
  rw [show (2#32 : BitVec 32) = BitVec.ofNat 32 (1 + (1 : Fin 2).val) from rfl, k0_off1_eq]; congr 2; simp; omega
theorem off3_r0 (i : grid0.Coords) (k) : k0_off3 i k 1#32 = ![0, 256 * (2 * k.val + 1), 128 * 1] := by
  rw [show (1#32 : BitVec 32) = BitVec.ofNat 32 (1 + (0 : Fin 2).val) from rfl, k0_off3_eq]; congr 2; simp; omega
theorem off3_r1 (i : grid0.Coords) (k) : k0_off3 i k 2#32 = ![0, 256 * (2 * k.val + 2), 128 * 1] := by
  rw [show (2#32 : BitVec 32) = BitVec.ofNat 32 (1 + (1 : Fin 2).val) from rfl, k0_off3_eq]; congr 2; simp; omega
theorem off2_r (i : grid0.Coords) (k) : k0_off2 i k = ![0, 256 * (2 * k.val), 128 * 0] := by
  rw [k0_off2_eq]; congr 2; omega
theorem off4_r (i : grid0.Coords) (k) : k0_off4 i k = ![0, 256 * (2 * k.val), 128 * 1] := by
  rw [k0_off4_eq]; congr 2; omega
theorem off9_r (i : grid0.Coords) : k0_off9 i = ![0, 256 * (2 * (i 2).val + 1), 128 * 0] := by
  rw [k0_off9_eq]; congr 2; omega
theorem off10_r (i : grid0.Coords) : k0_off10 i = ![0, 256 * (2 * (i 2).val), 128 * 0] := by
  rw [k0_off10_eq]; congr 2; omega
theorem off11_r (i : grid0.Coords) : k0_off11 i = ![0, 256 * (2 * (i 2).val + 1), 128 * 1] := by
  rw [k0_off11_eq]; congr 2; omega
theorem off12_r (i : grid0.Coords) : k0_off12 i = ![0, 256 * (2 * (i 2).val), 128 * 1] := by
  rw [k0_off12_eq]; congr 2; omega

theorem iv_eq (k : ℕ) : Scf.iv 0#32 1#32 k = BitVec.ofNat 32 k := by simp [Scf.iv]
theorem word1 (k : ℕ) : Scalar.addi (Scalar.muli 2#32 (BitVec.ofNat 32 k)) 1#32 = BitVec.ofNat 32 (2 * k + 1) := by
  show 2#32 * BitVec.ofNat 32 k + 1#32 = _; rw [BitVec.ofNat_add, BitVec.ofNat_mul]
theorem word2 (k : ℕ) : Scalar.addi (Scalar.muli 2#32 (BitVec.ofNat 32 k)) 2#32 = BitVec.ofNat 32 (2 * k + 2) := by
  show 2#32 * BitVec.ofNat 32 k + 2#32 = _; rw [BitVec.ofNat_add, BitVec.ofNat_mul]
theorem word0 (k : ℕ) : Scalar.muli 2#32 (BitVec.ofNat 32 k) = BitVec.ofNat 32 (2 * k) := by
  show 2#32 * BitVec.ofNat 32 k = _; rw [BitVec.ofNat_mul]

theorem trips_eq : ∀ i : grid0.Coords, (k0_t1_loop i).trips = (i 2).val := by decide +kernel

/-- The scores of key block `n` for the head `h` of the pair. -/
def scN (x4 : Vec F S1x4096x256 .bf16) (arg1 : BitVec 32) (h : ℕ) (q : Vec F S1x512x256 .bf16) (n : ℕ) : FVec F S1x1x512x256 .f32 :=
  scT (colW arg1 (BitVec.ofNat 32 n) (BitVec.ofNat 32 h)) (kblk x4 n h) q

/-- The running maximum before key block `n`, from the scores of the blocks. -/
def MN (S : ℕ → FVec F S1x1x512x256 .f32) : ℕ → FVec F S1x512x128 .f32
  | 0 => fun _ => Scalar.ofBits .f32 0xFF800000#32
  | n + 1 => mxT (k0_pay4 (S n)) (MN S n)

/-- The accumulator before key block `n`. -/
def AN (S : ℕ → FVec F S1x1x512x256 .f32) (V : ℕ → Vec F S1x256x128 .bf16) : ℕ → FVec F S1x512x256 .f32
  | 0 => fun _ => Scalar.ofBits .f32 0x00000000#32
  | n + 1 => acT (k0_pay4 (S n)) (MN S n) (V n) (AN S V n)

section Trip

variable (c : Dev nD) (i : grid0.Coords) (arg3 : Memref sig .tc .vmem S1x512x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x512x128 .f32) (harg6 : arg6.IsWhole) (arg7 : Memref sig .tc .vmem S1x512x256 .bf16) (harg7 : arg7.IsWhole) (arg8 : Memref sig .tc .vmem S2x512x256 .bf16) (harg8 : arg8.IsWhole) (arg9 : Memref sig .tc .vmem S2x2x512x256 .f32) (harg9 : arg9.IsWhole) (arg10 : Memref sig .tc .vmem S2x512x128 .f32) (harg10 : arg10.IsWhole) (arg11 : Memref sig .tc .vmem S2x512x256 .f32) (harg11 : arg11.IsWhole)
variable (arg1 arg2 v49 : BitVec 32) (v57 : FVec F S256x128 .f32)
  (X4 : BufTy.Contents (Elt F) arg4.view.ty) (X5 : BufTy.Contents (Elt F) arg5.view.ty) (X8 : BufTy.Contents (Elt F) arg8.view.ty)
  (k : Fin (k0_t1_loop i).trips)
  (f9 : BufTy.Contents (Elt F) arg9.view.ty) (f10 : BufTy.Contents (Elt F) arg10.view.ty) (f11 : BufTy.Contents (Elt F) arg11.view.ty)
  (g9 : BufTy.Contents (Elt F) arg9.view.ty) (g10 : BufTy.Contents (Elt F) arg10.view.ty) (g11 : BufTy.Contents (Elt F) arg11.view.ty)

/-- One trip's stores. -/
abbrev TL := tripL_k0_t1 (F := F) Variants.none c none i arg3 harg3 arg4 harg4 arg5 harg5 arg6 harg6 arg7 harg7 arg8 harg8 arg9 harg9 arg10 harg10 arg11 harg11 arg1 arg2 lane k0_pay63 v49 v57 X4 X5 X8 k f9 f10 f11

abbrev S0 (g : BufTy.Contents (Elt F) arg9.view.ty) := arg9.view.readAt (Elt F) (Rect.unit (s := S2x2x512x256) ![0, 0, 0, 0] S1x1x512x256.size inb_S2x2x512x256_S1x1x512x256_0_0_0_0).toLoadRect g
abbrev S1 (g : BufTy.Contents (Elt F) arg9.view.ty) := arg9.view.readAt (Elt F) (Rect.unit (s := S2x2x512x256) ![0, 1, 0, 0] S1x1x512x256.size inb_S2x2x512x256_S1x1x512x256_0_1_0_0).toLoadRect g
abbrev M0 (g : BufTy.Contents (Elt F) arg10.view.ty) := arg10.view.readAt (Elt F) (Rect.unit (s := S2x512x128) ![0, 0, 0] S1x512x128.size inb_S2x512x128_S1x512x128_0_0_0).toLoadRect g
abbrev M1 (g : BufTy.Contents (Elt F) arg10.view.ty) := arg10.view.readAt (Elt F) (Rect.unit (s := S2x512x128) ![1, 0, 0] S1x512x128.size inb_S2x512x128_S1x512x128_1_0_0).toLoadRect g
abbrev A0 (g : BufTy.Contents (Elt F) arg11.view.ty) := arg11.view.readAt (Elt F) (Rect.unit (s := S2x512x256) ![0, 0, 0] S1x512x256.size inb_S2x512x256_S1x512x256_0_0_0).toLoadRect g
abbrev A1 (g : BufTy.Contents (Elt F) arg11.view.ty) := arg11.view.readAt (Elt F) (Rect.unit (s := S2x512x256) ![1, 0, 0] S1x512x256.size inb_S2x512x256_S1x512x256_1_0_0).toLoadRect g
abbrev Q0 (g : BufTy.Contents (Elt F) arg8.view.ty) := arg8.view.readAt (Elt F) (Rect.unit (s := S2x512x256) ![0, 0, 0] S1x512x256.size inb_S2x512x256_S1x512x256_0_0_0).toLoadRect g
abbrev Q1 (g : BufTy.Contents (Elt F) arg8.view.ty) := arg8.view.readAt (Elt F) (Rect.unit (s := S2x512x256) ![1, 0, 0] S1x512x256.size inb_S2x512x256_S1x512x256_1_0_0).toLoadRect g

/-- The next scores of head 0. -/
theorem trip_s0 : S0 arg9 (arg9.view.writes (Elt F) g9 (TL c i arg3 harg3 arg4 harg4 arg5 harg5 arg6 harg6 arg7 harg7 arg8 harg8 arg9 harg9 arg10 harg10 arg11 harg11 arg1 arg2 v49 v57 X4 X5 X8 k f9 f10 f11).1) = scN (arg4.view.read (Elt F) X4) arg1 0 (Q0 arg8 X8) (2 * k.val + 2) := by
  have e := readAt_kblk arg4.view X4 (2 * k.val + 2) 0 (k0_off1_inb i k 1) (off1_r1 i k)
  unfold S0 TL tripL_k0_t1 trip_k0_t1; dsimp only
  unfold trip_k0_t1.sl.HW_arg9_4
  rw [readAt_miss _ _ _ _ 1 (.inr (by decide)), readAt_miss _ _ _ _ 0 (.inr (by decide))]
  unfold trip_k0_t1.sl.HW_arg9_2
  rw [readAt_hit]
  unfold scN
  rw [← e, ← word2 k.val, ← iv_eq k.val]
  rfl

/-- The next scores of head 1. -/
theorem trip_s1 : S1 arg9 (arg9.view.writes (Elt F) g9 (TL c i arg3 harg3 arg4 harg4 arg5 harg5 arg6 harg6 arg7 harg7 arg8 harg8 arg9 harg9 arg10 harg10 arg11 harg11 arg1 arg2 v49 v57 X4 X5 X8 k f9 f10 f11).1) = scN (arg4.view.read (Elt F) X4) arg1 1 (Q1 arg8 X8) (2 * k.val + 2) := by
  have e := readAt_kblk arg4.view X4 (2 * k.val + 2) 1 (k0_off3_inb i k 1) (off3_r1 i k)
  unfold S1 TL tripL_k0_t1 trip_k0_t1; dsimp only
  unfold trip_k0_t1.sl.HW_arg9_4
  rw [readAt_hit]
  unfold scN
  rw [← e, ← word2 k.val, ← iv_eq k.val]
  rfl

theorem v401_eq : trip_k0_t1.sl.v401 (F := F) i arg4 arg8 arg9 arg1 lane X4 X8 k = (scN (arg4.view.read (Elt F) X4) arg1 0 (Q0 arg8 X8) (2 * k.val + 1)) := by
  have e := readAt_kblk arg4.view X4 (2 * k.val + 1) 0 (k0_off1_inb i k 0) (off1_r0 i k)
  unfold trip_k0_t1.sl.v401 trip_k0_t1.sl.HW_arg9_2
  rw [readCov_def, readAt_miss _ _ _ _ 0 (.inl (by decide)), readAt_hit]
  unfold scN
  rw [← e, ← word1 k.val, ← iv_eq k.val]
  rfl

theorem v516_eq : trip_k0_t1.sl.v516 (F := F) i arg4 arg8 arg9 arg1 lane X4 X8 k = (scN (arg4.view.read (Elt F) X4) arg1 1 (Q1 arg8 X8) (2 * k.val + 1)) := by
  have e := readAt_kblk arg4.view X4 (2 * k.val + 1) 1 (k0_off3_inb i k 0) (off3_r0 i k)
  unfold trip_k0_t1.sl.v516 trip_k0_t1.sl.HW_arg9_4
  rw [readCov_def, readAt_miss _ _ _ _ 0 (.inl (by decide)), readAt_hit]
  unfold scN
  rw [← e, ← word1 k.val, ← iv_eq k.val]
  rfl

theorem v405_eq : trip_k0_t1.sl.v405 (F := F) arg9 arg10 f9 f10 = (mxT (k0_pay4 (S0 arg9 f9)) (M0 arg10 f10)) := by
  unfold trip_k0_t1.sl.v405 trip_k0_t1.sl.HW_arg10_1
  rw [View.readCov_cons_toLoadRect]
  rfl

theorem v520_eq : trip_k0_t1.sl.v520 (F := F) i arg4 arg8 arg9 arg10 arg1 lane X4 X8 k f9 f10 = (mxT (k0_pay4 (S1 arg9 f9)) (M1 arg10 f10)) := by
  unfold trip_k0_t1.sl.v520 trip_k0_t1.sl.HW_arg10_3
  rw [View.readCov_cons_toLoadRect]
  rfl

theorem v420_eq : trip_k0_t1.sl.v420 (F := F) i arg5 arg9 arg10 arg11 k0_pay63 X5 k f9 f10 f11 = (acT (k0_pay4 (S0 arg9 f9)) (M0 arg10 f10) (kblk (arg5.view.read (Elt F) X5) (2 * k.val) 0) (A0 arg11 f11)) := by
  have e := readAt_kblk arg5.view X5 (2 * k.val) 0 (k0_off2_inb i k) (off2_r i k)
  unfold trip_k0_t1.sl.v420 trip_k0_t1.sl.HW_arg11_1
  rw [View.readCov_cons_toLoadRect, ← e]
  rfl

theorem v535_eq : trip_k0_t1.sl.v535 (F := F) i arg4 arg5 arg8 arg9 arg10 arg11 arg1 lane k0_pay63 X4 X5 X8 k f9 f10 f11 = (acT (k0_pay4 (S1 arg9 f9)) (M1 arg10 f10) (kblk (arg5.view.read (Elt F) X5) (2 * k.val) 1) (A1 arg11 f11)) := by
  have e := readAt_kblk arg5.view X5 (2 * k.val) 1 (k0_off4_inb i k) (off4_r i k)
  unfold trip_k0_t1.sl.v535 trip_k0_t1.sl.HW_arg11_3
  rw [View.readCov_cons_toLoadRect, ← e]
  rfl

/-- The running maximum of head 0 after the trip. -/
theorem trip_m0 : M0 arg10 (arg10.view.writes (Elt F) g10 (TL c i arg3 harg3 arg4 harg4 arg5 harg5 arg6 harg6 arg7 harg7 arg8 harg8 arg9 harg9 arg10 harg10 arg11 harg11 arg1 arg2 v49 v57 X4 X5 X8 k f9 f10 f11).2.1) = mxT (k0_pay4 (scN (arg4.view.read (Elt F) X4) arg1 0 (Q0 arg8 X8) (2 * k.val + 1))) (mxT (k0_pay4 (S0 arg9 f9)) (M0 arg10 f10)) := by
  unfold M0 TL tripL_k0_t1 trip_k0_t1; dsimp only
  rw [readAt_miss _ _ _ _ 0 (.inr (by decide))]
  unfold trip_k0_t1.sl.HW_arg10_3
  rw [readAt_miss _ _ _ _ 0 (.inr (by decide)), readAt_hit, ← v401_eq, ← v405_eq]
  rfl

theorem trip_m1 : M1 arg10 (arg10.view.writes (Elt F) g10 (TL c i arg3 harg3 arg4 harg4 arg5 harg5 arg6 harg6 arg7 harg7 arg8 harg8 arg9 harg9 arg10 harg10 arg11 harg11 arg1 arg2 v49 v57 X4 X5 X8 k f9 f10 f11).2.1) = mxT (k0_pay4 (scN (arg4.view.read (Elt F) X4) arg1 1 (Q1 arg8 X8) (2 * k.val + 1))) (mxT (k0_pay4 (S1 arg9 f9)) (M1 arg10 f10)) := by
  unfold M1 TL tripL_k0_t1 trip_k0_t1; dsimp only
  rw [readAt_hit, ← v516_eq, ← v520_eq i arg4 arg8 arg9 arg10 arg1 X4 X8 k]
  rfl

/-- The accumulator of head 0 after the trip. -/
theorem trip_a0 : A0 arg11 (arg11.view.writes (Elt F) g11 (TL c i arg3 harg3 arg4 harg4 arg5 harg5 arg6 harg6 arg7 harg7 arg8 harg8 arg9 harg9 arg10 harg10 arg11 harg11 arg1 arg2 v49 v57 X4 X5 X8 k f9 f10 f11).2.2) = acT (k0_pay4 (scN (arg4.view.read (Elt F) X4) arg1 0 (Q0 arg8 X8) (2 * k.val + 1))) (mxT (k0_pay4 (S0 arg9 f9)) (M0 arg10 f10)) (kblk (arg5.view.read (Elt F) X5) (2 * k.val + 1) 0) (acT (k0_pay4 (S0 arg9 f9)) (M0 arg10 f10) (kblk (arg5.view.read (Elt F) X5) (2 * k.val) 0) (A0 arg11 f11)) := by
  have e := readAt_kblk arg5.view X5 (2 * k.val + 1) 0 (k0_off1_inb i k 0) (off1_r0 i k)
  unfold A0 TL tripL_k0_t1 trip_k0_t1; dsimp only
  rw [readAt_miss _ _ _ _ 0 (.inr (by decide))]
  unfold trip_k0_t1.sl.HW_arg11_3
  rw [readAt_miss _ _ _ _ 0 (.inr (by decide)), readAt_hit, ← v401_eq, ← v420_eq, ← v405_eq, ← e]
  rfl

theorem trip_a1 : A1 arg11 (arg11.view.writes (Elt F) g11 (TL c i arg3 harg3 arg4 harg4 arg5 harg5 arg6 harg6 arg7 harg7 arg8 harg8 arg9 harg9 arg10 harg10 arg11 harg11 arg1 arg2 v49 v57 X4 X5 X8 k f9 f10 f11).2.2) = acT (k0_pay4 (scN (arg4.view.read (Elt F) X4) arg1 1 (Q1 arg8 X8) (2 * k.val + 1))) (mxT (k0_pay4 (S1 arg9 f9)) (M1 arg10 f10)) (kblk (arg5.view.read (Elt F) X5) (2 * k.val + 1) 1) (acT (k0_pay4 (S1 arg9 f9)) (M1 arg10 f10) (kblk (arg5.view.read (Elt F) X5) (2 * k.val) 1) (A1 arg11 f11)) := by
  have e := readAt_kblk arg5.view X5 (2 * k.val + 1) 1 (k0_off3_inb i k 0) (off3_r0 i k)
  unfold A1 TL tripL_k0_t1 trip_k0_t1; dsimp only
  rw [readAt_hit, ← v516_eq, ← v535_eq i arg4 arg5 arg8 arg9 arg10 arg11 arg1 X4 X5 X8 k, ← v520_eq i arg4 arg8 arg9 arg10 arg1 X4 X8 k, ← e]
  rfl

/-- What the buffers hold before key block `n`: per head the block's scores, the maximum and the accumulator of the blocks
    before it. -/
def Inv (n : ℕ) (g9 : BufTy.Contents (Elt F) arg9.view.ty) (g10 : BufTy.Contents (Elt F) arg10.view.ty) (g11 : BufTy.Contents (Elt F) arg11.view.ty) : Prop :=
  (S0 arg9 g9 = (scN (arg4.view.read (Elt F) X4) arg1 0 (Q0 arg8 X8)) n ∧ S1 arg9 g9 = (scN (arg4.view.read (Elt F) X4) arg1 1 (Q1 arg8 X8)) n)
  ∧ (M0 arg10 g10 = MN (scN (arg4.view.read (Elt F) X4) arg1 0 (Q0 arg8 X8)) n ∧ M1 arg10 g10 = MN (scN (arg4.view.read (Elt F) X4) arg1 1 (Q1 arg8 X8)) n)
  ∧ (A0 arg11 g11 = AN (scN (arg4.view.read (Elt F) X4) arg1 0 (Q0 arg8 X8)) (fun m => kblk (arg5.view.read (Elt F) X5) m 0) n ∧ A1 arg11 g11 = AN (scN (arg4.view.read (Elt F) X4) arg1 1 (Q1 arg8 X8)) (fun m => kblk (arg5.view.read (Elt F) X5) m 1) n)

theorem inv_trip (hf : Inv arg4 arg5 arg8 arg9 arg10 arg11 arg1 X4 X5 X8 (2 * k.val) f9 f10 f11) :
    Inv arg4 arg5 arg8 arg9 arg10 arg11 arg1 X4 X5 X8 (2 * (k.val + 1))
      (arg9.view.writes (Elt F) g9 (TL c i arg3 harg3 arg4 harg4 arg5 harg5 arg6 harg6 arg7 harg7 arg8 harg8 arg9 harg9 arg10 harg10 arg11 harg11 arg1 arg2 v49 v57 X4 X5 X8 k f9 f10 f11).1)
      (arg10.view.writes (Elt F) g10 (TL c i arg3 harg3 arg4 harg4 arg5 harg5 arg6 harg6 arg7 harg7 arg8 harg8 arg9 harg9 arg10 harg10 arg11 harg11 arg1 arg2 v49 v57 X4 X5 X8 k f9 f10 f11).2.1)
      (arg11.view.writes (Elt F) g11 (TL c i arg3 harg3 arg4 harg4 arg5 harg5 arg6 harg6 arg7 harg7 arg8 harg8 arg9 harg9 arg10 harg10 arg11 harg11 arg1 arg2 v49 v57 X4 X5 X8 k f9 f10 f11).2.2) := by
  obtain ⟨⟨hs0, hs1⟩, ⟨hm0, hm1⟩, ha0, ha1⟩ := hf
  refine ⟨⟨?_, ?_⟩, ⟨?_, ?_⟩, ?_, ?_⟩
  · rw [trip_s0]; rfl
  · rw [trip_s1]; rfl
  · rw [trip_m0, hs0, hm0]; rfl
  · rw [trip_m1, hs1, hm1]; rfl
  · rw [trip_a0, hs0, hm0, ha0]; rfl
  · rw [trip_a1, hs1, hm1, ha1]; rfl

theorem inv_loop (hf : Inv arg4 arg5 arg8 arg9 arg10 arg11 arg1 X4 X5 X8 0 f9 f10 f11) :
    ∀ k : ℕ, k ≤ (k0_t1_loop i).trips → ∀ g9 g10 g11, Inv arg4 arg5 arg8 arg9 arg10 arg11 arg1 X4 X5 X8 0 g9 g10 g11 →
      Inv arg4 arg5 arg8 arg9 arg10 arg11 arg1 X4 X5 X8 (2 * k) (arg9.view.writes (Elt F) g9 (pb_k0_t1 (F := F) Variants.none c none i arg3 harg3 arg4 harg4 arg5 harg5 arg6 harg6 arg7 harg7 arg8 harg8 arg9 harg9 arg10 harg10 arg11 harg11 arg1 arg2 lane k0_pay63 v49 v57 X4 X5 X8 f9 f10 f11 k).1)
        (arg10.view.writes (Elt F) g10 (pb_k0_t1 (F := F) Variants.none c none i arg3 harg3 arg4 harg4 arg5 harg5 arg6 harg6 arg7 harg7 arg8 harg8 arg9 harg9 arg10 harg10 arg11 harg11 arg1 arg2 lane k0_pay63 v49 v57 X4 X5 X8 f9 f10 f11 k).2.1) (arg11.view.writes (Elt F) g11 (pb_k0_t1 (F := F) Variants.none c none i arg3 harg3 arg4 harg4 arg5 harg5 arg6 harg6 arg7 harg7 arg8 harg8 arg9 harg9 arg10 harg10 arg11 harg11 arg1 arg2 lane k0_pay63 v49 v57 X4 X5 X8 f9 f10 f11 k).2.2)
  | 0, _, g9, g10, g11, hg => hg
  | k + 1, hk, g9, g10, g11, hg => by
    have e := pb_k0_t1_succ (F := F) Variants.none c none i arg3 harg3 arg4 harg4 arg5 harg5 arg6 harg6 arg7 harg7 arg8 harg8 arg9 harg9 arg10 harg10 arg11 harg11 arg1 arg2 lane k0_pay63 v49 v57 X4 X5 X8 f9 f10 f11 ⟨k, hk⟩
    rw [show k + 1 = (⟨k, hk⟩ : Fin (k0_t1_loop i).trips).val + 1 from rfl, e]
    simp only [View.writes_append]
    exact inv_trip c i arg3 harg3 arg4 harg4 arg5 harg5 arg6 harg6 arg7 harg7 arg8 harg8 arg9 harg9 arg10 harg10 arg11 harg11 arg1 arg2 v49 v57 X4 X5 X8 ⟨k, hk⟩ _ _ _ _ _ _ (inv_loop hf k (Nat.le_of_succ_le hk) f9 f10 f11 hf)

end Trip

end Cert.KernelIdeal.Attn
-- ==== Proof.AttnOut.lean ====
module

public import proofs.«01_k».proof.Proof.AttnVal
public import Idealize.ShloMosaic.Lib.WritesUnit
public import Idealize.ShloMosaic.Lib.ValueIdx
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.LoopRemainder
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)
open Idealize.ShloMosaic.Pipeline (Dat Cfg Window BodyObligation cellOf)

variable {F : FTy → Type} [FloatOps F] [Named F]

local notation "𝕄" => MT nD τ sig Unit (Elt F) ℕ (UR sig nD τ) ℕ

/-! ## The block a grid point leaves -/

/-- The query rows of the two heads, each followed by its bias row. -/
def L8 (x3 : Vec F S1x512x256 .bf16) (x6 : Vec F S1x512x128 .f32) : List (View.Piece (Elt F) S2x512x256 .bf16) :=
  [⟨Rect.unit ![1, 0, 128] S1x512x128.size inb_S2x512x256_S1x512x128_1_0_128, k0_pay59 (View.ld x6 (Rect.unit (s := S1x512x128) ![0, 0, 0] S1x512x128.size inb_S1x512x128_S1x512x128_0_0_0))⟩,
   ⟨Rect.unit ![1, 0, 0] S1x512x128.size inb_S2x512x256_S1x512x128_1_0_0, k0_pay58 (View.ld x3 (Rect.unit (s := S1x512x256) ![0, 0, 128] S1x512x128.size inb_S1x512x256_S1x512x128_0_0_128))⟩,
   ⟨Rect.unit ![0, 0, 128] S1x512x128.size inb_S2x512x256_S1x512x128_0_0_128, k0_pay57 (View.ld x6 (Rect.unit (s := S1x512x128) ![0, 0, 0] S1x512x128.size inb_S1x512x128_S1x512x128_0_0_0))⟩,
   ⟨Rect.unit ![0, 0, 0] S1x512x128.size inb_S2x512x256_S1x512x128_0_0_0, k0_pay56 (View.ld x3 (Rect.unit (s := S1x512x256) ![0, 0, 0] S1x512x128.size inb_S1x512x256_S1x512x128_0_0_0))⟩]

def qv0 (x3 : Vec F S1x512x256 .bf16) (x6 : Vec F S1x512x128 .f32) : Vec F S1x512x256 .bf16 :=
  fun j => View.canon (L8 x3 x6) ((Rect.unit (s := S2x512x256) ![0, 0, 0] S1x512x256.size inb_S2x512x256_S1x512x256_0_0_0).toLoadRect.idx j)
def qv1 (x3 : Vec F S1x512x256 .bf16) (x6 : Vec F S1x512x128 .f32) : Vec F S1x512x256 .bf16 :=
  fun j => View.canon (L8 x3 x6) ((Rect.unit (s := S2x512x256) ![1, 0, 0] S1x512x256.size inb_S2x512x256_S1x512x256_1_0_0).toLoadRect.idx j)

/-- The scores of a key block that reaches the diagonal, later keys masked. -/
def mkT (arg2 : BitVec 32) (n : ℕ) (s : FVec F S1x1x512x256 .f32) : FVec F S512x256 .f32 := k0_pay99 arg2 (BitVec.ofNat 32 n) s

/-- The accumulator after all key blocks up to the diagonal. -/
def finA (arg2 : BitVec 32) (t : ℕ) (S : ℕ → FVec F S1x1x512x256 .f32) (V : ℕ → Vec F S1x256x128 .bf16) : FVec F S1x512x256 .f32 :=
  acT (mkT arg2 (2 * t + 1) (S (2 * t + 1))) (mxT (mkT arg2 (2 * t) (S (2 * t))) (MN S (2 * t))) (V (2 * t + 1))
    (acT (mkT arg2 (2 * t) (S (2 * t))) (MN S (2 * t)) (V (2 * t)) (AN S V (2 * t)))

/-- The left half of the accumulator's columns: the weighted values. -/
def loA (a : FVec F S1x512x256 .f32) : FVec F S1x512x128 .f32 := fun y => a (ix3 (0 : Fin 1) (⟨(y 1).val, (y 1).isLt⟩ : Fin 512) (⟨(y 2).val, by have : (y 2).val < 128 := (y 2).isLt; omega⟩ : Fin 256))
/-- The right half: the weights' sum, in every lane. -/
def hiA (a : FVec F S1x512x256 .f32) : FVec F S1x512x128 .f32 := fun y => a (ix3 (0 : Fin 1) (⟨(y 1).val, (y 1).isLt⟩ : Fin 512) (⟨128 + (y 2).val, by have : (y 2).val < 128 := (y 2).isLt; omega⟩ : Fin 256))

/-- The two heads' columns of the output block, as a function of the grid point and the four input blocks. -/
def outL (i : grid0.Coords) (x3 : Vec F S1x512x256 .bf16) (x4 x5 : Vec F S1x4096x256 .bf16) (x6 : Vec F S1x512x128 .f32) : List (View.Piece (Elt F) S1x512x256 .bf16) :=
  [⟨Rect.unit ![0, 0, 128] S1x512x128.size inb_S1x512x256_S1x512x128_0_0_128, k0_pay2 (loA (finA (BitVec.ofNat 32 (i 2).val) (i 2).val (scN x4 (BitVec.ofNat 32 (i 1).val) 1 (qv1 x3 x6)) (fun m => kblk x5 m 1))) (hiA (finA (BitVec.ofNat 32 (i 2).val) (i 2).val (scN x4 (BitVec.ofNat 32 (i 1).val) 1 (qv1 x3 x6)) (fun m => kblk x5 m 1)))⟩,
   ⟨Rect.unit ![0, 0, 0] S1x512x128.size inb_S1x512x256_S1x512x128_0_0_0, k0_pay89 (loA (finA (BitVec.ofNat 32 (i 2).val) (i 2).val (scN x4 (BitVec.ofNat 32 (i 1).val) 0 (qv0 x3 x6)) (fun m => kblk x5 m 0))) (hiA (finA (BitVec.ofNat 32 (i 2).val) (i 2).val (scN x4 (BitVec.ofNat 32 (i 1).val) 0 (qv0 x3 x6)) (fun m => kblk x5 m 0)))⟩]

/-- After a whole buffer is filled with one value, every load reads that value. -/
theorem readAt_fill {S : Shape} {e : EltTy} (v : View sig .tc .vmem S e) (f : v.ty.Contents (Elt F)) {off : Fin S.rank → ℕ} (inb : ∀ a, off a + S.size a ≤ S.size a)
    (w : (Rect.unit off S.size inb).shape.Idx → Elt F e) (B : LoadRect S) (x : Elt F e) (h : ∀ y, w y = x) :
    v.readAt (Elt F) B (v.writes (Elt F) f [⟨Rect.unit off S.size inb, w⟩]) = fun _ => x := by
  funext y
  have e0 : ∀ a, off a = 0 := fun a => by have := inb a; omega
  exact (View.read_writes_cons_unit_of_mem v f inb w [] (B.idx y) (B.idx y) rfl (fun a => by rw [e0 a, Nat.zero_add])).trans (h _)

/-- A load at a position of the newest store reads what was stored there. -/
theorem readCov_sub {s : Shape} {e : EltTy} (v : View sig .tc .vmem s e) (r r' : Rect s) (w : r.shape.Idx → Elt F e) (L : List (View.Piece (Elt F) s e))
    (y : r'.shape.Idx) (x : r.shape.Idx) (h : r'.toLoadRect.idx y = r.emb x) : v.readCov (⟨r, w⟩ :: L) r'.toLoadRect y = w x := by
  rw [readCov_def, View.readAt_apply, h]
  exact View.read_writes_cons_emb v v.junk r w L x

theorem part_idx (h o : ℕ) (inb : ∀ a, (![h, 0, 0] : Fin 3 → ℕ) a + S1x512x256.size a ≤ S2x512x256.size a)
    (inb' : ∀ a, (![h, 0, o] : Fin 3 → ℕ) a + (![1, 512, 128] : Fin 3 → ℕ) a ≤ S2x512x256.size a)
    (y : S1x512x128.Idx) (x : S1x512x256.Idx) (h1 : (x 1).val = (y 1).val) (h2 : (x 2).val = o + (y 2).val) :
    (Rect.unit (s := S2x512x256) ![h, 0, o] ![1, 512, 128] inb').toLoadRect.idx y = (Rect.unit (s := S2x512x256) ![h, 0, 0] S1x512x256.size inb).emb x := by
  have y0 : (y 0).val < 1 := (y 0).isLt
  have x0 : (x 0).val < 1 := (x 0).isLt
  funext a
  refine Fin.ext ?_
  match a with
  | 0 => show h + 1 * (y 0).val = h + 1 * (x 0).val; omega
  | 1 => show 0 + 1 * (y 1).val = 0 + 1 * (x 1).val; omega
  | 2 => show o + 1 * (y 2).val = 0 + 1 * (x 2).val; omega

theorem readCov_part (v : View sig .tc .vmem S2x512x256 .f32) (h o : ℕ) (inb : ∀ a, (![h, 0, 0] : Fin 3 → ℕ) a + S1x512x256.size a ≤ S2x512x256.size a)
    (inb' : ∀ a, (![h, 0, o] : Fin 3 → ℕ) a + (![1, 512, 128] : Fin 3 → ℕ) a ≤ S2x512x256.size a) (w : FVec F S1x512x256 .f32) (L : List (View.Piece (Elt F) S2x512x256 .f32))
    (y : S1x512x128.Idx) (x : S1x512x256.Idx) (h1 : (x 1).val = (y 1).val) (h2 : (x 2).val = o + (y 2).val) :
    v.readCov (Val := Elt F) (⟨Rect.unit (s := S2x512x256) ![h, 0, 0] S1x512x256.size inb, w⟩ :: L) (Rect.unit (s := S2x512x256) ![h, 0, o] ![1, 512, 128] inb').toLoadRect y = w x :=
  readCov_sub (F := F) v (Rect.unit (s := S2x512x256) ![h, 0, 0] S1x512x256.size inb) (Rect.unit (s := S2x512x256) ![h, 0, o] ![1, 512, 128] inb') w L y x (part_idx h o inb inb' y x h1 h2)

/-- A load of a half of the newest store reads that half of it. -/
theorem readCov_lo (v : View sig .tc .vmem S2x512x256 .f32) (h : ℕ) (inb : ∀ a, (![h, 0, 0] : Fin 3 → ℕ) a + S1x512x256.size a ≤ S2x512x256.size a)
    (inb' : ∀ a, (![h, 0, 0] : Fin 3 → ℕ) a + (![1, 512, 128] : Fin 3 → ℕ) a ≤ S2x512x256.size a) (w : FVec F S1x512x256 .f32) (L : List (View.Piece (Elt F) S2x512x256 .f32)) :
    v.readCov (Val := Elt F) (⟨Rect.unit (s := S2x512x256) ![h, 0, 0] S1x512x256.size inb, w⟩ :: L) (Rect.unit (s := S2x512x256) ![h, 0, 0] ![1, 512, 128] inb').toLoadRect = loA w := by
  refine funext fun y => ?_
  refine (readCov_part v h 0 inb inb' w L y (ix3 (0 : Fin 1) (⟨(y 1).val, (y 1).isLt⟩ : Fin 512) (⟨(y 2).val, by have : (y 2).val < 128 := (y 2).isLt; omega⟩ : Fin 256)) ?_ ?_).trans ?_
  · rfl
  · exact (Nat.zero_add _).symm
  · rfl

theorem readCov_hi (v : View sig .tc .vmem S2x512x256 .f32) (h : ℕ) (inb : ∀ a, (![h, 0, 0] : Fin 3 → ℕ) a + S1x512x256.size a ≤ S2x512x256.size a)
    (inb' : ∀ a, (![h, 0, 128] : Fin 3 → ℕ) a + (![1, 512, 128] : Fin 3 → ℕ) a ≤ S2x512x256.size a) (w : FVec F S1x512x256 .f32) (L : List (View.Piece (Elt F) S2x512x256 .f32)) :
    v.readCov (Val := Elt F) (⟨Rect.unit (s := S2x512x256) ![h, 0, 0] S1x512x256.size inb, w⟩ :: L) (Rect.unit (s := S2x512x256) ![h, 0, 128] ![1, 512, 128] inb').toLoadRect = hiA w := by
  refine funext fun y => ?_
  refine (readCov_part v h 128 inb inb' w L y (ix3 (0 : Fin 1) (⟨(y 1).val, (y 1).isLt⟩ : Fin 512) (⟨128 + (y 2).val, by have : (y 2).val < 128 := (y 2).isLt; omega⟩ : Fin 256)) ?_ ?_).trans ?_
  · rfl
  · rfl
  · rfl

section Out

variable (c : Dev nD) (i : grid0.Coords) (arg3 : Memref sig .tc .vmem S1x512x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x512x128 .f32) (harg6 : arg6.IsWhole) (arg7 : Memref sig .tc .vmem S1x512x256 .bf16) (harg7 : arg7.IsWhole) (arg8 : Memref sig .tc .vmem S2x512x256 .bf16) (harg8 : arg8.IsWhole) (arg9 : Memref sig .tc .vmem S2x2x512x256 .f32) (harg9 : arg9.IsWhole) (arg10 : Memref sig .tc .vmem S2x512x128 .f32) (harg10 : arg10.IsWhole) (arg11 : Memref sig .tc .vmem S2x512x256 .f32) (harg11 : arg11.IsWhole)
variable (f3 : BufTy.Contents (Elt F) arg3.view.ty) (f4 : BufTy.Contents (Elt F) arg4.view.ty) (f5 : BufTy.Contents (Elt F) arg5.view.ty) (f6 : BufTy.Contents (Elt F) arg6.view.ty) (f9 : BufTy.Contents (Elt F) arg9.view.ty)

/-- The scores stored before the first key block. -/
abbrev L9 : List (View.Piece (Elt F) S2x2x512x256 .f32) := [⟨Rect.unit (s := S2x2x512x256) ![0, 1, 0, 0] S1x1x512x256.size inb_S2x2x512x256_S1x1x512x256_0_1_0_0, k0_pay66 (attnRun.sl.r i) (View.readAt (Elt F) arg4.view (Rect.unit (s := S1x4096x256) ![0, 0, 128] S1x256x128.size inb_S1x4096x256_S1x256x128_0_0_128).toLoadRect f4) (attnRun.sl.v62 arg3 arg6 arg8 f3 f6)⟩, ⟨Rect.unit (s := S2x2x512x256) ![0, 0, 0, 0] S1x1x512x256.size inb_S2x2x512x256_S1x1x512x256_0_0_0_0, k0_pay64 (BitVec.ofNat 32 (i 1).val) (View.readAt (Elt F) arg4.view (Rect.unit (s := S1x4096x256) ![0, 0, 0] S1x256x128.size inb_S1x4096x256_S1x256x128_0_0_0).toLoadRect f4) (attnRun.sl.v42 arg3 arg6 arg8 f3 f6)⟩]

theorem q0_eq : Q0 arg8 (arg8.view.writes (Elt F) arg8.view.junk (attnRun.sl.H8_4 arg3 arg6 f3 f6)) = qv0 (arg3.view.read (Elt F) f3) (arg6.view.read (Elt F) f6) := View.readAt_writes_junk_eq_canon _ _ _
theorem q1_eq : Q1 arg8 (arg8.view.writes (Elt F) arg8.view.junk (attnRun.sl.H8_4 arg3 arg6 f3 f6)) = qv1 (arg3.view.read (Elt F) f3) (arg6.view.read (Elt F) f6) := View.readAt_writes_junk_eq_canon _ _ _

theorem inv_start (g9 : BufTy.Contents (Elt F) arg9.view.ty) : Inv arg4 arg5 arg8 arg9 arg10 arg11 (BitVec.ofNat 32 (i 1).val) f4 f5 (arg8.view.writes (Elt F) arg8.view.junk (attnRun.sl.H8_4 arg3 arg6 f3 f6)) 0 (arg9.view.writes (Elt F) g9 (L9 i arg3 arg4 arg6 arg8 f3 f4 f6)) (arg10.view.writes (Elt F) arg10.view.junk attnRun.sl.H10_1) (arg11.view.writes (Elt F) arg11.view.junk attnRun.sl.H11_1) := by
  have e0 := readAt_kblk arg4.view f4 0 0 inb_S1x4096x256_S1x256x128_0_0_0 rfl
  have e1 := readAt_kblk arg4.view f4 0 1 inb_S1x4096x256_S1x256x128_0_0_128 rfl
  refine ⟨⟨?_, ?_⟩, ⟨?_, ?_⟩, ?_, ?_⟩
  · unfold S0 L9
    rw [readAt_miss _ _ _ _ 1 (.inr (by decide)), readAt_hit]
    unfold scN; rw [← e0]; rfl
  · unfold S1 L9
    rw [readAt_hit]
    unfold scN; rw [← e1]; rfl
  · unfold M0 attnRun.sl.H10_1; exact readAt_fill _ _ _ _ _ _ fun _ => rfl
  · unfold M1 attnRun.sl.H10_1; exact readAt_fill _ _ _ _ _ _ fun _ => rfl
  · unfold A0 attnRun.sl.H11_1; exact readAt_fill _ _ _ _ _ _ fun _ => rfl
  · unfold A1 attnRun.sl.H11_1; exact readAt_fill _ _ _ _ _ _ fun _ => rfl

theorem inv_end (g9 : BufTy.Contents (Elt F) arg9.view.ty) : Inv arg4 arg5 arg8 arg9 arg10 arg11 (BitVec.ofNat 32 (i 1).val) f4 f5 (arg8.view.writes (Elt F) arg8.view.junk (attnRun.sl.H8_4 arg3 arg6 f3 f6)) (2 * (i 2).val) (arg9.view.writes (Elt F) (arg9.view.writes (Elt F) g9 (L9 i arg3 arg4 arg6 arg8 f3 f4 f6)) (pb_k0_t1 (F := F) Variants.none c none i arg3 harg3 arg4 harg4 arg5 harg5 arg6 harg6 arg7 harg7 arg8 harg8 arg9 harg9 arg10 harg10 arg11 harg11 (BitVec.ofNat 32 (i 1).val) (BitVec.ofNat 32 (i 2).val) lane k0_pay63 0#32 (attnRun.sl.r i) f4 f5 (arg8.view.writes (Elt F) arg8.view.junk (attnRun.sl.H8_4 arg3 arg6 f3 f6)) (arg9.view.writes (Elt F) f9 (L9 i arg3 arg4 arg6 arg8 f3 f4 f6)) (arg10.view.writes (Elt F) arg10.view.junk attnRun.sl.H10_1) (arg11.view.writes (Elt F) arg11.view.junk attnRun.sl.H11_1) (k0_t1_loop i).trips).1) (arg10.view.writes (Elt F) (arg10.view.writes (Elt F) arg10.view.junk attnRun.sl.H10_1) (pb_k0_t1 (F := F) Variants.none c none i arg3 harg3 arg4 harg4 arg5 harg5 arg6 harg6 arg7 harg7 arg8 harg8 arg9 harg9 arg10 harg10 arg11 harg11 (BitVec.ofNat 32 (i 1).val) (BitVec.ofNat 32 (i 2).val) lane k0_pay63 0#32 (attnRun.sl.r i) f4 f5 (arg8.view.writes (Elt F) arg8.view.junk (attnRun.sl.H8_4 arg3 arg6 f3 f6)) (arg9.view.writes (Elt F) f9 (L9 i arg3 arg4 arg6 arg8 f3 f4 f6)) (arg10.view.writes (Elt F) arg10.view.junk attnRun.sl.H10_1) (arg11.view.writes (Elt F) arg11.view.junk attnRun.sl.H11_1) (k0_t1_loop i).trips).2.1) (arg11.view.writes (Elt F) (arg11.view.writes (Elt F) arg11.view.junk attnRun.sl.H11_1) (pb_k0_t1 (F := F) Variants.none c none i arg3 harg3 arg4 harg4 arg5 harg5 arg6 harg6 arg7 harg7 arg8 harg8 arg9 harg9 arg10 harg10 arg11 harg11 (BitVec.ofNat 32 (i 1).val) (BitVec.ofNat 32 (i 2).val) lane k0_pay63 0#32 (attnRun.sl.r i) f4 f5 (arg8.view.writes (Elt F) arg8.view.junk (attnRun.sl.H8_4 arg3 arg6 f3 f6)) (arg9.view.writes (Elt F) f9 (L9 i arg3 arg4 arg6 arg8 f3 f4 f6)) (arg10.view.writes (Elt F) arg10.view.junk attnRun.sl.H10_1) (arg11.view.writes (Elt F) arg11.view.junk attnRun.sl.H11_1) (k0_t1_loop i).trips).2.2) := by
  rw [show 2 * (i 2).val = 2 * (k0_t1_loop i).trips from by rw [trips_eq]]
  exact inv_loop c i arg3 harg3 arg4 harg4 arg5 harg5 arg6 harg6 arg7 harg7 arg8 harg8 arg9 harg9 arg10 harg10 arg11 harg11 (BitVec.ofNat 32 (i 1).val) (BitVec.ofNat 32 (i 2).val) 0#32 (attnRun.sl.r i) f4 f5 (arg8.view.writes (Elt F) arg8.view.junk (attnRun.sl.H8_4 arg3 arg6 f3 f6)) _ _ _ (inv_start i arg3 arg4 arg5 arg6 arg8 arg9 arg10 arg11 f3 f4 f5 f6 f9) _ (le_refl _) _ _ _ (inv_start i arg3 arg4 arg5 arg6 arg8 arg9 arg10 arg11 f3 f4 f5 f6 g9)

theorem v99_eq : attnRun.sl.v99 c i arg3 harg3 arg4 harg4 arg5 harg5 arg6 harg6 arg7 harg7 arg8 harg8 arg9 harg9 arg10 harg10 arg11 harg11 f3 f4 f5 f6 f9 = (scN (arg4.view.read (Elt F) f4) (BitVec.ofNat 32 (i 1).val) 0 (qv0 (arg3.view.read (Elt F) f3) (arg6.view.read (Elt F) f6))) (2 * (i 2).val) := by
  unfold attnRun.sl.v99 attnRun.sl.H9_1
  rw [readCov_def, readAt_miss _ _ _ _ 0 (.inr (by decide)), View.writes_append, ← q0_eq]
  exact (inv_end c i arg3 harg3 arg4 harg4 arg5 harg5 arg6 harg6 arg7 harg7 arg8 harg8 arg9 harg9 arg10 harg10 arg11 harg11 f3 f4 f5 f6 f9 arg9.view.junk).1.1

theorem v114_eq : attnRun.sl.v114 c i arg3 harg3 arg4 harg4 arg5 harg5 arg6 harg6 arg7 harg7 arg8 harg8 arg9 harg9 arg10 harg10 arg11 harg11 f3 f4 f5 f6 f9 = (MN (scN (arg4.view.read (Elt F) f4) (BitVec.ofNat 32 (i 1).val) 0 (qv0 (arg3.view.read (Elt F) f3) (arg6.view.read (Elt F) f6))) (2 * (i 2).val)) := by
  unfold attnRun.sl.v114
  rw [readCov_def, View.writes_append, ← q0_eq]
  exact (inv_end c i arg3 harg3 arg4 harg4 arg5 harg5 arg6 harg6 arg7 harg7 arg8 harg8 arg9 harg9 arg10 harg10 arg11 harg11 f3 f4 f5 f6 f9 arg9.view.junk).2.1.1

theorem v129_eq : attnRun.sl.v129 c i arg3 harg3 arg4 harg4 arg5 harg5 arg6 harg6 arg7 harg7 arg8 harg8 arg9 harg9 arg10 harg10 arg11 harg11 f3 f4 f5 f6 f9 = (AN (scN (arg4.view.read (Elt F) f4) (BitVec.ofNat 32 (i 1).val) 0 (qv0 (arg3.view.read (Elt F) f3) (arg6.view.read (Elt F) f6))) (fun m => kblk (arg5.view.read (Elt F) f5) m 0) (2 * (i 2).val)) := by
  unfold attnRun.sl.v129
  rw [readCov_def, View.writes_append, ← q0_eq]
  exact (inv_end c i arg3 harg3 arg4 harg4 arg5 harg5 arg6 harg6 arg7 harg7 arg8 harg8 arg9 harg9 arg10 harg10 arg11 harg11 f3 f4 f5 f6 f9 arg9.view.junk).2.2.1

theorem v144_eq : attnRun.sl.v144 c i arg3 harg3 arg4 harg4 arg5 harg5 arg6 harg6 arg7 harg7 arg8 harg8 arg9 harg9 arg10 harg10 arg11 harg11 f3 f4 f5 f6 f9 = (scN (arg4.view.read (Elt F) f4) (BitVec.ofNat 32 (i 1).val) 0 (qv0 (arg3.view.read (Elt F) f3) (arg6.view.read (Elt F) f6))) (2 * (i 2).val + 1) := by
  unfold attnRun.sl.v144 attnRun.sl.H9_1
  have e := readAt_kblk arg4.view f4 _ 0 (k0_off9_inb i) (off9_r i)
  rw [View.readCov_cons_toLoadRect, ← q0_eq]
  unfold scN
  rw [← e, ← word1]
  rfl

theorem v159_eq : attnRun.sl.v159 c i arg3 harg3 arg4 harg4 arg5 harg5 arg6 harg6 arg7 harg7 arg8 harg8 arg9 harg9 arg10 harg10 arg11 harg11 f3 f4 f5 f6 f9 = (mxT (mkT (BitVec.ofNat 32 (i 2).val) (2 * (i 2).val) ((scN (arg4.view.read (Elt F) f4) (BitVec.ofNat 32 (i 1).val) 0 (qv0 (arg3.view.read (Elt F) f3) (arg6.view.read (Elt F) f6))) (2 * (i 2).val))) (MN (scN (arg4.view.read (Elt F) f4) (BitVec.ofNat 32 (i 1).val) 0 (qv0 (arg3.view.read (Elt F) f3) (arg6.view.read (Elt F) f6))) (2 * (i 2).val))) := by
  unfold attnRun.sl.v159 attnRun.sl.H10_1_1 attnRun.sl.r_3
  rw [View.readCov_cons_toLoadRect, v99_eq, v114_eq]
  unfold mkT; rw [← word0]; rfl

theorem v174_eq : attnRun.sl.v174 c i arg3 harg3 arg4 harg4 arg5 harg5 arg6 harg6 arg7 harg7 arg8 harg8 arg9 harg9 arg10 harg10 arg11 harg11 f3 f4 f5 f6 f9 = (acT (mkT (BitVec.ofNat 32 (i 2).val) (2 * (i 2).val) ((scN (arg4.view.read (Elt F) f4) (BitVec.ofNat 32 (i 1).val) 0 (qv0 (arg3.view.read (Elt F) f3) (arg6.view.read (Elt F) f6))) (2 * (i 2).val))) (MN (scN (arg4.view.read (Elt F) f4) (BitVec.ofNat 32 (i 1).val) 0 (qv0 (arg3.view.read (Elt F) f3) (arg6.view.read (Elt F) f6))) (2 * (i 2).val)) (kblk (arg5.view.read (Elt F) f5) (2 * (i 2).val) 0) (AN (scN (arg4.view.read (Elt F) f4) (BitVec.ofNat 32 (i 1).val) 0 (qv0 (arg3.view.read (Elt F) f3) (arg6.view.read (Elt F) f6))) (fun m => kblk (arg5.view.read (Elt F) f5) m 0) (2 * (i 2).val))) := by
  unfold attnRun.sl.v174 attnRun.sl.H11_1_1 attnRun.sl.r_4 attnRun.sl.r_5
  have e := readAt_kblk arg5.view f5 _ 0 (k0_off10_inb i) (off10_r i)
  rw [View.readCov_cons_toLoadRect, v99_eq, v114_eq, v129_eq, ← e]
  unfold mkT; rw [← word0]; rfl

theorem v221_eq : attnRun.sl.v221 c i arg3 harg3 arg4 harg4 arg5 harg5 arg6 harg6 arg7 harg7 arg8 harg8 arg9 harg9 arg10 harg10 arg11 harg11 f3 f4 f5 f6 f9 = (scN (arg4.view.read (Elt F) f4) (BitVec.ofNat 32 (i 1).val) 1 (qv1 (arg3.view.read (Elt F) f3) (arg6.view.read (Elt F) f6))) (2 * (i 2).val) := by
  unfold attnRun.sl.v221 attnRun.sl.H9_2 attnRun.sl.H9_1
  rw [readCov_def, readAt_miss _ _ _ _ 0 (.inr (by decide)), readAt_miss _ _ _ _ 0 (.inr (by decide)), View.writes_append, ← q1_eq]
  exact (inv_end c i arg3 harg3 arg4 harg4 arg5 harg5 arg6 harg6 arg7 harg7 arg8 harg8 arg9 harg9 arg10 harg10 arg11 harg11 f3 f4 f5 f6 f9 arg9.view.junk).1.2

theorem v236_eq : attnRun.sl.v236 c i arg3 harg3 arg4 harg4 arg5 harg5 arg6 harg6 arg7 harg7 arg8 harg8 arg9 harg9 arg10 harg10 arg11 harg11 f3 f4 f5 f6 f9 = (MN (scN (arg4.view.read (Elt F) f4) (BitVec.ofNat 32 (i 1).val) 1 (qv1 (arg3.view.read (Elt F) f3) (arg6.view.read (Elt F) f6))) (2 * (i 2).val)) := by
  unfold attnRun.sl.v236 attnRun.sl.H10_2 attnRun.sl.H10_1_1
  rw [readCov_def, readAt_miss _ _ _ _ 0 (.inl (by decide)), readAt_miss _ _ _ _ 0 (.inl (by decide)), View.writes_append, ← q1_eq]
  exact (inv_end c i arg3 harg3 arg4 harg4 arg5 harg5 arg6 harg6 arg7 harg7 arg8 harg8 arg9 harg9 arg10 harg10 arg11 harg11 f3 f4 f5 f6 f9 arg9.view.junk).2.1.2

theorem v251_eq : attnRun.sl.v251 c i arg3 harg3 arg4 harg4 arg5 harg5 arg6 harg6 arg7 harg7 arg8 harg8 arg9 harg9 arg10 harg10 arg11 harg11 f3 f4 f5 f6 f9 = (AN (scN (arg4.view.read (Elt F) f4) (BitVec.ofNat 32 (i 1).val) 1 (qv1 (arg3.view.read (Elt F) f3) (arg6.view.read (Elt F) f6))) (fun m => kblk (arg5.view.read (Elt F) f5) m 1) (2 * (i 2).val)) := by
  unfold attnRun.sl.v251 attnRun.sl.H11_2 attnRun.sl.H11_1_1
  rw [readCov_def, readAt_miss _ _ _ _ 0 (.inl (by decide)), readAt_miss _ _ _ _ 0 (.inl (by decide)), View.writes_append, ← q1_eq]
  exact (inv_end c i arg3 harg3 arg4 harg4 arg5 harg5 arg6 harg6 arg7 harg7 arg8 harg8 arg9 harg9 arg10 harg10 arg11 harg11 f3 f4 f5 f6 f9 arg9.view.junk).2.2.2

theorem v266_eq : attnRun.sl.v266 c i arg3 harg3 arg4 harg4 arg5 harg5 arg6 harg6 arg7 harg7 arg8 harg8 arg9 harg9 arg10 harg10 arg11 harg11 f3 f4 f5 f6 f9 = (scN (arg4.view.read (Elt F) f4) (BitVec.ofNat 32 (i 1).val) 1 (qv1 (arg3.view.read (Elt F) f3) (arg6.view.read (Elt F) f6))) (2 * (i 2).val + 1) := by
  unfold attnRun.sl.v266 attnRun.sl.H9_2
  have e := readAt_kblk arg4.view f4 _ 1 (k0_off11_inb i) (off11_r i)
  rw [View.readCov_cons_toLoadRect, ← q1_eq]
  unfold scN
  rw [← e, ← word1]
  rfl

theorem v281_eq : attnRun.sl.v281 c i arg3 harg3 arg4 harg4 arg5 harg5 arg6 harg6 arg7 harg7 arg8 harg8 arg9 harg9 arg10 harg10 arg11 harg11 f3 f4 f5 f6 f9 = (mxT (mkT (BitVec.ofNat 32 (i 2).val) (2 * (i 2).val) ((scN (arg4.view.read (Elt F) f4) (BitVec.ofNat 32 (i 1).val) 1 (qv1 (arg3.view.read (Elt F) f3) (arg6.view.read (Elt F) f6))) (2 * (i 2).val))) (MN (scN (arg4.view.read (Elt F) f4) (BitVec.ofNat 32 (i 1).val) 1 (qv1 (arg3.view.read (Elt F) f3) (arg6.view.read (Elt F) f6))) (2 * (i 2).val))) := by
  unfold attnRun.sl.v281 attnRun.sl.H10_3 attnRun.sl.r_8
  rw [View.readCov_cons_toLoadRect, v221_eq, v236_eq]
  unfold mkT; rw [← word0]; rfl

theorem v296_eq : attnRun.sl.v296 c i arg3 harg3 arg4 harg4 arg5 harg5 arg6 harg6 arg7 harg7 arg8 harg8 arg9 harg9 arg10 harg10 arg11 harg11 f3 f4 f5 f6 f9 = (acT (mkT (BitVec.ofNat 32 (i 2).val) (2 * (i 2).val) ((scN (arg4.view.read (Elt F) f4) (BitVec.ofNat 32 (i 1).val) 1 (qv1 (arg3.view.read (Elt F) f3) (arg6.view.read (Elt F) f6))) (2 * (i 2).val))) (MN (scN (arg4.view.read (Elt F) f4) (BitVec.ofNat 32 (i 1).val) 1 (qv1 (arg3.view.read (Elt F) f3) (arg6.view.read (Elt F) f6))) (2 * (i 2).val)) (kblk (arg5.view.read (Elt F) f5) (2 * (i 2).val) 1) (AN (scN (arg4.view.read (Elt F) f4) (BitVec.ofNat 32 (i 1).val) 1 (qv1 (arg3.view.read (Elt F) f3) (arg6.view.read (Elt F) f6))) (fun m => kblk (arg5.view.read (Elt F) f5) m 1) (2 * (i 2).val))) := by
  unfold attnRun.sl.v296 attnRun.sl.H11_3 attnRun.sl.r_8
  have e := readAt_kblk arg5.view f5 _ 1 (k0_off12_inb i) (off12_r i)
  rw [View.readCov_cons_toLoadRect, v221_eq, v236_eq, v251_eq, ← e]
  unfold mkT; rw [← word0]; rfl

theorem top0_eq : k0_pay87 k0_pay63 (attnRun.sl.r_6 c i arg3 harg3 arg4 harg4 arg5 harg5 arg6 harg6 arg7 harg7 arg8 harg8 arg9 harg9 arg10 harg10 arg11 harg11 f3 f4 f5 f6 f9) (attnRun.sl.r_7 c i arg3 harg3 arg4 harg4 arg5 harg5 arg6 harg6 arg7 harg7 arg8 harg8 arg9 harg9 arg10 harg10 arg11 harg11 f3 f4 f5 f6 f9) (View.readAt (Elt F) arg5.view (Rect.unit (s := S1x4096x256) (k0_off9 i) S1x256x128.size (k0_off9_inb i)).toLoadRect f5) (attnRun.sl.v174 c i arg3 harg3 arg4 harg4 arg5 harg5 arg6 harg6 arg7 harg7 arg8 harg8 arg9 harg9 arg10 harg10 arg11 harg11 f3 f4 f5 f6 f9) = (finA (BitVec.ofNat 32 (i 2).val) (i 2).val (scN (arg4.view.read (Elt F) f4) (BitVec.ofNat 32 (i 1).val) 0 (qv0 (arg3.view.read (Elt F) f3) (arg6.view.read (Elt F) f6))) (fun m => kblk (arg5.view.read (Elt F) f5) m 0)) := by
  have e := readAt_kblk arg5.view f5 _ 0 (k0_off9_inb i) (off9_r i)
  unfold attnRun.sl.r_6 attnRun.sl.r_7
  rw [v144_eq, v159_eq, v174_eq, e]
  unfold finA
  generalize (mxT (mkT (BitVec.ofNat 32 (i 2).val) (2 * (i 2).val) ((scN (arg4.view.read (Elt F) f4) (BitVec.ofNat 32 (i 1).val) 0 (qv0 (arg3.view.read (Elt F) f3) (arg6.view.read (Elt F) f6))) (2 * (i 2).val))) (MN (scN (arg4.view.read (Elt F) f4) (BitVec.ofNat 32 (i 1).val) 0 (qv0 (arg3.view.read (Elt F) f3) (arg6.view.read (Elt F) f6))) (2 * (i 2).val))) = M; generalize (acT (mkT (BitVec.ofNat 32 (i 2).val) (2 * (i 2).val) ((scN (arg4.view.read (Elt F) f4) (BitVec.ofNat 32 (i 1).val) 0 (qv0 (arg3.view.read (Elt F) f3) (arg6.view.read (Elt F) f6))) (2 * (i 2).val))) (MN (scN (arg4.view.read (Elt F) f4) (BitVec.ofNat 32 (i 1).val) 0 (qv0 (arg3.view.read (Elt F) f3) (arg6.view.read (Elt F) f6))) (2 * (i 2).val)) (kblk (arg5.view.read (Elt F) f5) (2 * (i 2).val) 0) (AN (scN (arg4.view.read (Elt F) f4) (BitVec.ofNat 32 (i 1).val) 0 (qv0 (arg3.view.read (Elt F) f3) (arg6.view.read (Elt F) f6))) (fun m => kblk (arg5.view.read (Elt F) f5) m 0) (2 * (i 2).val))) = A
  unfold mkT; rw [← word1]; rfl

theorem top1_eq : k0_pay102 (BitVec.ofNat 32 (i 2).val) k0_pay63 (attnRun.sl.v143 i) (attnRun.sl.v266 c i arg3 harg3 arg4 harg4 arg5 harg5 arg6 harg6 arg7 harg7 arg8 harg8 arg9 harg9 arg10 harg10 arg11 harg11 f3 f4 f5 f6 f9) (attnRun.sl.v281 c i arg3 harg3 arg4 harg4 arg5 harg5 arg6 harg6 arg7 harg7 arg8 harg8 arg9 harg9 arg10 harg10 arg11 harg11 f3 f4 f5 f6 f9) (View.readAt (Elt F) arg5.view (Rect.unit (s := S1x4096x256) (k0_off11 i) S1x256x128.size (k0_off11_inb i)).toLoadRect f5) (attnRun.sl.v296 c i arg3 harg3 arg4 harg4 arg5 harg5 arg6 harg6 arg7 harg7 arg8 harg8 arg9 harg9 arg10 harg10 arg11 harg11 f3 f4 f5 f6 f9) = (finA (BitVec.ofNat 32 (i 2).val) (i 2).val (scN (arg4.view.read (Elt F) f4) (BitVec.ofNat 32 (i 1).val) 1 (qv1 (arg3.view.read (Elt F) f3) (arg6.view.read (Elt F) f6))) (fun m => kblk (arg5.view.read (Elt F) f5) m 1)) := by
  have e := readAt_kblk arg5.view f5 _ 1 (k0_off11_inb i) (off11_r i)
  rw [v266_eq, v281_eq, v296_eq, e]
  unfold finA
  generalize (mxT (mkT (BitVec.ofNat 32 (i 2).val) (2 * (i 2).val) ((scN (arg4.view.read (Elt F) f4) (BitVec.ofNat 32 (i 1).val) 1 (qv1 (arg3.view.read (Elt F) f3) (arg6.view.read (Elt F) f6))) (2 * (i 2).val))) (MN (scN (arg4.view.read (Elt F) f4) (BitVec.ofNat 32 (i 1).val) 1 (qv1 (arg3.view.read (Elt F) f3) (arg6.view.read (Elt F) f6))) (2 * (i 2).val))) = M; generalize (acT (mkT (BitVec.ofNat 32 (i 2).val) (2 * (i 2).val) ((scN (arg4.view.read (Elt F) f4) (BitVec.ofNat 32 (i 1).val) 1 (qv1 (arg3.view.read (Elt F) f3) (arg6.view.read (Elt F) f6))) (2 * (i 2).val))) (MN (scN (arg4.view.read (Elt F) f4) (BitVec.ofNat 32 (i 1).val) 1 (qv1 (arg3.view.read (Elt F) f3) (arg6.view.read (Elt F) f6))) (2 * (i 2).val)) (kblk (arg5.view.read (Elt F) f5) (2 * (i 2).val) 1) (AN (scN (arg4.view.read (Elt F) f4) (BitVec.ofNat 32 (i 1).val) 1 (qv1 (arg3.view.read (Elt F) f3) (arg6.view.read (Elt F) f6))) (fun m => kblk (arg5.view.read (Elt F) f5) m 1) (2 * (i 2).val))) = A
  unfold mkT; rw [← word1]; rfl

/-- What the run writes into the output block, whatever the buffers held before. -/
theorem attnRun_eq : (attnRun c i arg3 harg3 arg4 harg4 arg5 harg5 arg6 harg6 arg7 harg7 arg8 harg8 arg9 harg9 arg10 harg10 arg11 harg11 f3 f4 f5 f6 f9).1 = outL i (arg3.view.read (Elt F) f3) (arg4.view.read (Elt F) f4) (arg5.view.read (Elt F) f5) (arg6.view.read (Elt F) f6) := by
  unfold attnRun; dsimp only
  unfold attnRun.sl.v309 attnRun.sl.v311 attnRun.sl.v187 attnRun.sl.v189
  unfold attnRun.sl.H11_4 attnRun.sl.H11_2
  rw [top0_eq, top1_eq]
  rw [readCov_lo arg11.view 1]
  rw [readCov_hi arg11.view 1]
  rw [readCov_lo arg11.view 0, readCov_hi arg11.view 0]
  rfl

end Out

end Cert.KernelIdeal.Attn
-- ==== Proof.AttnFrame.lean ====
module

public import proofs.«01_k».proof.Proof.AttnOut
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a grid point leaves in the output block -/

/-- The output block after the body, from the grid point and the four input blocks. -/
def out0_4 (i : grid0.Coords) (x0 : Vec F S1x512x256 .bf16) (x1 x2 : Vec F S1x4096x256 .bf16) (x3 : Vec F S1x512x128 .f32) : Vec F S1x512x256 .bf16 :=
  View.canon (outL i x0 x1 x2 x3)

/-- The two heads' columns tile the block. -/
theorem cover0_4 (p0 p1 : Vec F S1x512x128 .bf16) (y : S1x512x256.Idx) :
    ∃ pc ∈ ([⟨Rect.unit (s := S1x512x256) ![0, 0, 128] S1x512x128.size inb_S1x512x256_S1x512x128_0_0_128, p0⟩, ⟨Rect.unit (s := S1x512x256) ![0, 0, 0] S1x512x128.size inb_S1x512x256_S1x512x128_0_0_0, p1⟩] : List (View.Piece (Elt F) S1x512x256 .bf16)), y ∈ pc.1.set :=
  View.cover_of_tiled [⟨Rect.unit (s := S1x512x256) ![0, 0, 128] S1x512x128.size inb_S1x512x256_S1x512x128_0_0_128, p0⟩, ⟨Rect.unit (s := S1x512x256) ![0, 0, 0] S1x512x128.size inb_S1x512x256_S1x512x128_0_0_0, p1⟩] S1x512x128.size (by rfl) y

/-- The body on whole buffers: the inputs stay, the output block ends at `out0_4`, the scratch at something. -/
theorem sound_kernel (c : Dev nD) (E : Set ℕ) (i : grid0.Coords) (arg3 : Memref sig .tc .vmem S1x512x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x512x128 .f32) (harg6 : arg6.IsWhole) (arg7 : Memref sig .tc .vmem S1x512x256 .bf16) (harg7 : arg7.IsWhole) (arg8 : Memref sig .tc .vmem S2x512x256 .bf16) (harg8 : arg8.IsWhole) (arg9 : Memref sig .tc .vmem S2x2x512x256 .f32) (harg9 : arg9.IsWhole) (arg10 : Memref sig .tc .vmem S2x512x128 .f32) (harg10 : arg10.IsWhole) (arg11 : Memref sig .tc .vmem S2x512x256 .f32) (harg11 : arg11.IsWhole)
    (x0 : Vec F S1x512x256 .bf16) (x1 x2 : Vec F S1x4096x256 .bf16) (x3 : Vec F S1x512x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out0_4 i x0 x1 x2 x3) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_moba_attn i arg3 harg3 arg4 harg4 arg5 harg5 arg6 harg6 arg7 harg7 arg8 harg8 arg9 harg9 arg10 harg10 arg11 harg11) K := by
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3
  iapply ((attnRun c i arg3 harg3 arg4 harg4 arg5 harg5 arg6 harg6 arg7 harg7 arg8 harg8 arg9 harg9 arg10 harg10 arg11 harg11 f0 f1 f2 f3 f9).2 E f7 f8 f10 f11 K)
  isplitl [H0]; · iexact H0
  isplitl [H1]; · iexact H1
  isplitl [H2]; · iexact H2
  isplitl [H3]; · iexact H3
  isplitl [H7]; · iexact H7
  isplitl [H8]; · iexact H8
  isplitl [H9]; · iexact H9
  isplitl [H10]; · iexact H10
  isplitl [H11]; · iexact H11
  iintro ⟨H0, H1, H2, H3, H7, ⟨%g8, H8⟩, ⟨%g9, H9⟩, ⟨%g10, H10⟩, ⟨%g11, H11⟩⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H7]
  · iexists _; isplitr
    swap; · iexact H7
    ipureintro
    rw [attnRun_eq]
    exact View.read_writes_eq_canon _ _ _ (cover0_4 _ _)
  isplitl [H8]
  · iexists (arg8.view.read (Elt F) g8), g8; isplitr; · ipureintro; rfl
    iexact H8
  isplitl [H9]
  · iexists (arg9.view.read (Elt F) g9), g9; isplitr; · ipureintro; rfl
    iexact H9
  isplitl [H10]
  · iexists (arg10.view.read (Elt F) g10), g10; isplitr; · ipureintro; rfl
    iexact H10
  iexists (arg11.view.read (Elt F) g11), g11; isplitr; · ipureintro; rfl
  iexact H11

/-! ## The pipeline's proof data -/

/-- The proof data: the arrays as launched, each input's buffer at its block, the output's at `out0_4` of the blocks;
    the scratch at anything between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (grid0.coords t) (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- The scratch buffers held whole, as the body takes them. -/
theorem scratch_eq (c : Dev nD) : (Pipeline.scopedRest (Ix := Unit) (Name := ℕ) (U := UR sig nD τ) (Lvl := ℕ) (Val := Elt F) spec0 c : sProp 𝕄)
    = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) := by
  rw [scopedRest0_eq]; simp only [owns_whole]

def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4]
  unfold Pipeline.ΦA
  rw [scratch_eq]
  iintro ⟨⟨⟨S0, S1, S2, S3⟩, HP⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  isplitl [S3]; · iexact S3
  iintro ⟨H0, H1, H2, H3, H4, S0, S1, S2, S3⟩
  isplitl [S0 S1 S2 S3 HP]
  · isplitl [S0 S1 S2 S3]
    · isplitl [S0]; · iexact S0
      isplitl [S1]; · iexact S1
      isplitl [S2]; · iexact S2
      iexact S3
    iexact HP
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The program runs, every array ends at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the program terminates, its arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Attn

end
-- ==== Proof.AttnMath.lean ====
module

public import Idealize.ShloMosaic.PureOps.Ideal
public import Idealize.ShloMosaic.Lib.Pointwise

@[expose] public section

set_option maxRecDepth 16384

noncomputable section

namespace Cert.AttnMath

open Idealize.ShloMosaic
open scoped BigOperators

/-! ## The exponential of a difference -/

theorem exp_bot : Ideal.exp ⊥ = 0 := rfl
theorem exp_coe (r : ℝ) : Ideal.exp (r : EReal) = (Real.exp r : EReal) := rfl

theorem exp_nonneg (x : EReal) : 0 ≤ Ideal.exp x := by
  induction x using EReal.rec with
  | bot => exact le_refl _
  | top => exact le_top
  | coe r => rw [exp_coe]; exact_mod_cast (Real.exp_pos r).le

/-- The factor that moves a sum of weights to a larger maximum is finite. -/
theorem exp_sub_ne_top {a b : EReal} (h : a ≤ b) : Ideal.exp (a - b) ≠ ⊤ := by
  induction b using EReal.rec with
  | bot => rw [le_bot_iff.mp h]; exact EReal.zero_ne_top
  | top => rw [EReal.sub_top]; exact EReal.zero_ne_top
  | coe r =>
    induction a using EReal.rec with
    | bot => rw [EReal.bot_sub]; exact EReal.zero_ne_top
    | top => exact absurd (top_le_iff.mp h) (EReal.coe_ne_top r)
    | coe q => rw [← EReal.coe_sub, exp_coe]; exact EReal.coe_ne_top _

/-- Moving a weight from the maximum `a` to the larger maximum `b`. -/
theorem exp_shift {s a b : EReal} (h : s ≤ a) (h' : a ≤ b) : Ideal.exp (a - b) * Ideal.exp (s - a) = Ideal.exp (s - b) := by
  induction b using EReal.rec with
  | bot =>
    rw [le_bot_iff.mp h'] at h ⊢
    rw [le_bot_iff.mp h, EReal.bot_sub, exp_bot, zero_mul]
  | top => rw [EReal.sub_top, EReal.sub_top, exp_bot, zero_mul]
  | coe r =>
    induction a using EReal.rec with
    | bot => rw [le_bot_iff.mp h, EReal.bot_sub, EReal.bot_sub, exp_bot, zero_mul]
    | top => exact absurd (top_le_iff.mp h') (EReal.coe_ne_top r)
    | coe q =>
      induction s using EReal.rec with
      | bot => rw [EReal.bot_sub, EReal.bot_sub, exp_bot, mul_zero]
      | top => exact absurd (top_le_iff.mp h) (EReal.coe_ne_top q)
      | coe p =>
        rw [← EReal.coe_sub, ← EReal.coe_sub, ← EReal.coe_sub, exp_coe, exp_coe, exp_coe, ← EReal.coe_mul, ← Real.exp_add]
        congr 2; ring

/-- A finite factor that is not negative goes into a sum. -/
theorem mul_sum' {ι : Type} (s : Finset ι) (c : EReal) (h : 0 ≤ c) (h' : c ≠ ⊤) (f : ι → EReal) : c * ∑ i ∈ s, f i = ∑ i ∈ s, c * f i := by
  classical
  induction s using Finset.induction_on with
  | empty => simp
  | insert i s hi ih => rw [Finset.sum_insert hi, Finset.sum_insert hi, EReal.left_distrib_of_nonneg_of_ne_top h h', ih]

/-! ## The running maximum -/

/-- The maximum of a row's scores, from below everything. -/
theorem fold_max_le {ι : Type} (s : Finset ι) (f : ι → EReal) (b : EReal) (h : ∀ i ∈ s, f i ≤ b) : s.fold max ⊥ f ≤ b :=
  Finset.fold_max_le b |>.mpr ⟨bot_le, h⟩

theorem le_fold_max {ι : Type} (s : Finset ι) (f : ι → EReal) (i : ι) (h : i ∈ s) : f i ≤ s.fold max ⊥ f :=
  (Finset.le_fold_max _).mpr (Or.inr ⟨i, h, le_refl _⟩)

theorem fold_max_ne_top {ι : Type} (s : Finset ι) (f : ι → EReal) (h : ∀ i ∈ s, f i ≠ ⊤) : s.fold max ⊥ f ≠ ⊤ :=
  ne_of_lt (Finset.fold_max_lt _ |>.mpr ⟨bot_lt_top, fun i hi => lt_top_iff_ne_top.mpr (h i hi)⟩)

variable (s : ℕ → Fin 256 → EReal)

/-- The running maximum after `n` blocks of 256 scores. -/
def mr : ℕ → EReal
  | 0 => ⊥
  | n + 1 => max (mr n) ((Finset.univ : Finset (Fin 256)).fold max ⊥ (s n))

theorem mr_mono (n : ℕ) : mr s n ≤ mr s (n + 1) := le_max_left _ _
theorem le_mr_succ (n : ℕ) (j : Fin 256) : s n j ≤ mr s (n + 1) := (le_fold_max _ _ _ (Finset.mem_univ j)).trans (le_max_right _ _)
theorem le_mr (n : ℕ) : ∀ n' < n, ∀ j, s n' j ≤ mr s n := by
  induction n with
  | zero => intro n' h; omega
  | succ n ih =>
    intro n' h j
    rcases Nat.lt_succ_iff_lt_or_eq.mp h with h | h
    · exact (ih n' h j).trans (mr_mono s n)
    · rw [h]; exact le_mr_succ s n j
theorem mr_le (b : EReal) (n : ℕ) (h : ∀ n' < n, ∀ j, s n' j ≤ b) : mr s n ≤ b := by
  induction n with
  | zero => exact bot_le
  | succ n ih => exact max_le (ih fun n' h' => h n' (by omega)) (fold_max_le _ _ _ fun j _ => h n (by omega) j)

/-- The running sums, rescaled whenever the maximum grows. -/
def ar (w : ℕ → Fin 256 → EReal) : ℕ → EReal
  | 0 => 0
  | n + 1 => Ideal.exp (mr s n - mr s (n + 1)) * ar w n + ∑ j, Ideal.exp (s n j - mr s (n + 1)) * w n j

/-- The running sums are the weighted sums at the running maximum. -/
theorem ar_eq (w : ℕ → Fin 256 → EReal) (n : ℕ) : ar s w n = ∑ n' ∈ Finset.range n, ∑ j, Ideal.exp (s n' j - mr s n) * w n' j := by
  induction n with
  | zero => rfl
  | succ n ih =>
    rw [Finset.sum_range_succ, ar, ih, mul_sum' _ _ (exp_nonneg _) (exp_sub_ne_top (mr_mono s n))]
    refine congrArg (· + _) (Finset.sum_congr rfl fun n' hn' => ?_)
    rw [mul_sum' _ _ (exp_nonneg _) (exp_sub_ne_top (mr_mono s n))]
    refine Finset.sum_congr rfl fun j _ => ?_
    rw [← mul_assoc, exp_shift (le_mr s n n' (Finset.mem_range.mp hn') j) (mr_mono s n)]

/-! ## All the keys at once -/

/-- Blocks of 256 laid side by side. -/
theorem sum_blocks (n : ℕ) (f : ℕ → EReal) : (∑ n' ∈ Finset.range n, ∑ j : Fin 256, f (256 * n' + j.val)) = ∑ k ∈ Finset.range (256 * n), f k := by
  induction n with
  | zero => rfl
  | succ n ih => rw [Finset.sum_range_succ, ih, Nat.mul_succ, Finset.sum_range_add, Finset.sum_range fun j => f (256 * n + j)]

/-- With every later score at minus infinity the first `n` blocks carry the whole sum and the whole maximum. -/
theorem row_max (sm : ℕ → EReal) (n : ℕ) (hn : n ≤ 16) (hs : ∀ n' < n, ∀ j, s n' j = sm (256 * n' + j.val)) (hm : ∀ k, 256 * n ≤ k → sm k = ⊥) :
    mr s n = (Finset.univ : Finset (Fin 4096)).fold max ⊥ fun k => sm k.val := by
  refine le_antisymm (mr_le s _ n fun n' h j => ?_) (fold_max_le _ _ _ fun k _ => ?_)
  · rw [hs n' h j]
    have hj := j.isLt
    exact le_fold_max _ (fun k : Fin 4096 => sm k.val) ⟨256 * n' + j.val, by omega⟩ (Finset.mem_univ _)
  · by_cases hk : 256 * n ≤ k.val
    · rw [hm _ hk]; exact bot_le
    · have h := le_mr s n (k.val / 256) (by omega) ⟨k.val % 256, Nat.mod_lt _ (by decide)⟩
      rw [hs _ (by omega)] at h
      rwa [Nat.div_add_mod] at h

theorem row_sum (sm wm : ℕ → EReal) (w : ℕ → Fin 256 → EReal) (n : ℕ) (hn : n ≤ 16) (hs : ∀ n' < n, ∀ j, s n' j = sm (256 * n' + j.val))
    (hw : ∀ n' < n, ∀ j, w n' j = wm (256 * n' + j.val)) (hm : ∀ k, 256 * n ≤ k → sm k = ⊥) :
    ar s w n = ∑ k : Fin 4096, Ideal.exp (sm k.val - (Finset.univ : Finset (Fin 4096)).fold max ⊥ fun k => sm k.val) * wm k.val := by
  rw [← row_max s sm n hn hs hm, ar_eq]
  refine Eq.trans (Finset.sum_congr rfl fun n' h => Finset.sum_congr rfl fun j _ => ?_)
    ((sum_blocks n fun k => Ideal.exp (sm k - mr s n) * wm k).trans ?_)
  · rw [hs n' (Finset.mem_range.mp h), hw n' (Finset.mem_range.mp h)]
  · rw [← Finset.sum_range fun k => Ideal.exp (sm k - mr s n) * wm k]
    refine Finset.sum_subset (fun k hk => Finset.mem_range.mpr (by have := Finset.mem_range.mp hk; omega)) fun k _ hk => ?_
    rw [hm k (not_lt.mp fun h => hk (Finset.mem_range.mpr h)), EReal.bot_sub, exp_bot, zero_mul]

/-! ## Dividing before or after the sum -/

/-- Weights divided by a sum that is not zero: the division may follow the weighted sum. -/
theorem div_after {ι : Type} [Fintype ι] (e v : ι → EReal) (L : EReal) (h0 : 0 ≤ L) (hL : L ≠ 0) :
    (∑ k, v k * Ideal.div (e k) L) = Ideal.div (∑ k, e k * v k) L := by
  have hi : (0 : EReal) ≤ L⁻¹ := EReal.inv_nonneg_of_nonneg h0
  have ht : L⁻¹ ≠ ⊤ := by
    induction L using EReal.rec with
    | bot => rw [EReal.inv_bot]; exact EReal.zero_ne_top
    | top => rw [EReal.inv_top]; exact EReal.zero_ne_top
    | coe r => rw [← EReal.coe_inv]; exact EReal.coe_ne_top _
  unfold Ideal.div
  simp only [if_neg hL]
  rw [mul_comm _ L⁻¹, mul_sum' _ _ hi ht]
  refine Finset.sum_congr rfl fun k _ => ?_
  rw [mul_comm (v k), mul_assoc, mul_left_comm]

/-- A sum of weights is not zero when one score and the maximum are real. -/
theorem sum_ne_zero {ι : Type} [Fintype ι] (s : ι → EReal) (M : EReal) (k : ι) (hb : s k ≠ ⊥) (hk : s k ≤ M) (hM : M ≠ ⊤) :
    (∑ k, Ideal.exp (s k - M)) ≠ 0 := by
  intro h
  have h1 := (Finset.sum_eq_zero_iff_of_nonneg fun i _ => exp_nonneg (s i - M)).mp h k (Finset.mem_univ k)
  induction M using EReal.rec with
  | bot => exact hb (le_bot_iff.mp hk)
  | top => exact hM rfl
  | coe r =>
    generalize s k = x at *
    induction x using EReal.rec with
    | bot => exact hb rfl
    | top => exact absurd (top_le_iff.mp hk) (EReal.coe_ne_top r)
    | coe p =>
      rw [← EReal.coe_sub, exp_coe] at h1
      exact (Real.exp_pos (p - r)).ne' (by exact_mod_cast h1)

end Cert.AttnMath

end
-- ==== Proof.AttnPoint.lean ====
module

public import proofs.«01_k».proof.Proof.AttnOut
public import proofs.«01_k».proof.Proof.AttnMath
public import Idealize.ShloMosaic.Lib.Pointwise

@[expose] public section

set_option maxRecDepth 16384

noncomputable section

namespace Cert.KernelIdeal.Attn

open Cert.KernelIdeal.Gen Cert.AttnMath
open Idealize.ShloMosaic Idealize.ShloMosaic.TcCoe
open scoped BigOperators

theorem ofBits_neg_inf : Ideal.ofBits .f32 0xFF800000#32 = ⊥ := rfl

theorem ofBits_zero : Ideal.ofBits .f32 0x00000000#32 = 0 := Ideal.ofBits_zero_f32

/-- A sum over 256 in two halves. -/
theorem sum_halves (f : Fin 256 → EReal) : (∑ x : Fin 128, f ⟨x.val, by omega⟩) + (∑ x : Fin 128, f ⟨128 + x.val, by omega⟩) = ∑ j, f j :=
  (Fin.sum_univ_add (a := 128) (b := 128) f).symm

section Step

variable (s : FVec Ideal S512x256 .f32) (m : Vec Ideal S1x512x128 .f32) (v : Vec Ideal S1x256x128 .bf16) (a : Vec Ideal S1x512x256 .f32) (r : Fin 512)
  (μ : EReal) (hm : ∀ l : Fin 128, m (ix3 0 r l) = μ)

/-- The new maximum, the same in every lane. -/
theorem mxT_at (l : Fin 128) (h : m (ix3 0 r l) = μ) :
    mxT (F := Ideal) s m (ix3 0 r l) = max μ ((Finset.univ : Finset (Fin 256)).fold max ⊥ fun j => s (ix2 r j)) := by
  pointwise [mxT, k0_pay8, k0_pay6, k0_pay5]
  rw [h]; rfl

include hm in
/-- The weighted values. -/
theorem acT_lo (l : Fin 128) :
    acT (F := Ideal) s m v a (ix3 0 r (⟨l.val, by omega⟩ : Fin 256)) =
      Ideal.exp (μ - max μ ((Finset.univ : Finset (Fin 256)).fold max ⊥ fun j => s (ix2 r j))) * a (ix3 0 r (⟨l.val, by omega⟩ : Fin 256)) +
      ∑ j : Fin 256, Ideal.exp (s (ix2 r j) - max μ ((Finset.univ : Finset (Fin 256)).fold max ⊥ fun j => s (ix2 r j))) * v (ix3 0 j l) := by
  have hl := l.isLt
  pointwise [acT, k0_pay7, k0_pay63, k0_pay6, k0_pay5]
  simp only [hm, ofBits_neg_inf, hl, dite_true]
  congr 1
  exact sum_halves fun j => Ideal.exp (s (ix2 r j) - max μ ((Finset.univ : Finset (Fin 256)).fold max ⊥ fun j => s (ix2 r j))) * v (ix3 0 j l)

include hm in
/-- The weights' sum. -/
theorem acT_hi (l : Fin 128) :
    acT (F := Ideal) s m v a (ix3 0 r (⟨128 + l.val, by omega⟩ : Fin 256)) =
      Ideal.exp (μ - max μ ((Finset.univ : Finset (Fin 256)).fold max ⊥ fun j => s (ix2 r j))) * a (ix3 0 r (⟨128 + l.val, by omega⟩ : Fin 256)) +
      ∑ j : Fin 256, Ideal.exp (s (ix2 r j) - max μ ((Finset.univ : Finset (Fin 256)).fold max ⊥ fun j => s (ix2 r j))) * 1 := by
  have hl : ¬ 128 + l.val < 128 := by omega
  pointwise [acT, k0_pay7, k0_pay63, k0_pay6, k0_pay5]
  simp only [hm, ofBits_neg_inf, hl, dite_false]
  congr 1
  exact sum_halves fun j => Ideal.exp (s (ix2 r j) - max μ ((Finset.univ : Finset (Fin 256)).fold max ⊥ fun j => s (ix2 r j)))

end Step

/-- The scores of a key block as rows. -/
theorem pay4_at (s : FVec Ideal S1x1x512x256 .f32) (r : Fin 512) (j : Fin 256) : k0_pay4 (F := Ideal) s (ix2 r j) = s (ix4 0 0 r j) := by
  pointwise [k0_pay4]

theorem cmp_sle (a b c d : ℕ) (ha : a < 256) (hb : b < 16) (hc : c < 512) (hd : d < 8) :
    IntOp.cmpi CmpIPredicate.sle (IntOp.addi (BitVec.ofNat 32 a) (Scalar.muli (BitVec.ofNat 32 b) 256#32)) (IntOp.addi (BitVec.ofNat 32 c) (Scalar.muli (BitVec.ofNat 32 d) 512#32))
      = if 256 * b + a ≤ 512 * d + c then 1#1 else 0#1 := by
  have e1 : IntOp.addi (BitVec.ofNat 32 a) (Scalar.muli (BitVec.ofNat 32 b) 256#32) = BitVec.ofNat 32 (256 * b + a) := by
    apply BitVec.eq_of_toNat_eq
    simp [IntOp.addi, Scalar.muli, IntOp.muli]
    omega
  have e2 : IntOp.addi (BitVec.ofNat 32 c) (Scalar.muli (BitVec.ofNat 32 d) 512#32) = BitVec.ofNat 32 (512 * d + c) := by
    apply BitVec.eq_of_toNat_eq
    simp [IntOp.addi, Scalar.muli, IntOp.muli]
    omega
  rw [e1, e2]
  have h : (BitVec.ofNat 32 (256 * b + a)).sle (BitVec.ofNat 32 (512 * d + c)) = decide (256 * b + a ≤ 512 * d + c) := by
    rw [BitVec.sle_eq_decide]
    rw [BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp only [Nat.cast_le]
  unfold IntOp.cmpi
  simp only [h]
  by_cases hh : 256 * b + a ≤ 512 * d + c
  · rw [if_pos hh, decide_eq_true hh]; rfl
  · rw [if_neg hh, decide_eq_false hh]; rfl

theorem mkT_at (t n : ℕ) (ht : t < 8) (hn : n < 16) (s : FVec Ideal S1x1x512x256 .f32) (r : Fin 512) (j : Fin 256) :
    mkT (F := Ideal) (BitVec.ofNat 32 t) n s (ix2 r j) = if 256 * n + j.val ≤ 512 * t + r.val then s (ix4 0 0 r j) else ⊥ := by
  pointwise [mkT, k0_pay99]
  rw [cmp_sle _ _ _ _ j.isLt hn r.isLt ht]
  have hN : (Named.named (F := Ideal) (φ := .f32) κ "mask" (4048155338#32 : BitVec 32)) = (⊥ : EReal) := IdealRules.named_const.ideal_named_scalar _ _ _ _ rfl
  rw [hN]
  by_cases hh : 256 * n + j.val ≤ 512 * t + r.val
  · rw [if_pos hh, if_pos hh]; rfl
  · rw [if_neg hh, if_neg hh]; rfl

theorem scT_at (col : ℕ) (hc : col < 128) (kj : Vec Ideal S1x256x128 .bf16) (q : Vec Ideal S1x512x256 .bf16) (r : Fin 512) (j : Fin 256) :
    scT (F := Ideal) (BitVec.ofNat 32 col) kj q (ix4 0 0 r j) = (∑ d : Fin 128, q (ix3 0 r (⟨d.val, by omega⟩ : Fin 256)) * kj (ix3 0 j d)) + q (ix3 0 r (⟨128 + col, by omega⟩ : Fin 256)) := by
  pointwise [scT, k0_pay11, k0_pay10, lane]
  refine congrArg (_ + ·) ?_
  have h : ∀ x : Fin 128, IntOp.cmpi CmpIPredicate.eq (BitVec.ofNat 32 x.val) (BitVec.ofNat 32 col) = if x = ⟨col, hc⟩ then 1#1 else 0#1 := by
    intro x
    have hx := x.isLt
    have hh : BitVec.ofNat 32 x.val = BitVec.ofNat 32 col ↔ x = ⟨col, hc⟩ := by
      constructor
      · intro h
        have h := congrArg BitVec.toNat h
        simp only [BitVec.toNat_ofNat] at h
        rw [Nat.mod_eq_of_lt (by omega), Nat.mod_eq_of_lt (by omega)] at h
        exact Fin.ext h
      · intro h; rw [h]
    unfold IntOp.cmpi
    by_cases hx : x = ⟨col, hc⟩
    · rw [if_pos hx, beq_iff_eq.mpr (hh.mpr hx)]; rfl
    · rw [if_neg hx, beq_eq_false_iff_ne.mpr (mt hh.mp hx)]; rfl
  simp only [h]
  rw [Finset.sum_eq_single (⟨col, hc⟩ : Fin 128)]
  · rw [if_pos rfl]; rfl
  · intro b _ hb; rw [if_neg hb]; rfl
  · intro h; exact absurd (Finset.mem_univ _) h

section Row

variable (t : ℕ) (ht : t < 8) (S : ℕ → FVec Ideal S1x1x512x256 .f32) (V : ℕ → Vec Ideal S1x256x128 .bf16) (r : Fin 512)
  (sc : ℕ → EReal) (vv : ℕ → Fin 128 → EReal)
  (hS : ∀ n < 16, ∀ j : Fin 256, S n (ix4 0 0 r j) = sc (256 * n + j.val))
  (hV : ∀ n < 16, ∀ (j : Fin 256) (d : Fin 128), V n (ix3 0 j d) = vv (256 * n + j.val) d)

/-- The scores of row `r` of query block `t`, later keys at minus infinity. -/
def smk (t : ℕ) (r : Fin 512) (sc : ℕ → EReal) (k : ℕ) : EReal := if k ≤ 512 * t + r.val then sc k else ⊥

include ht hS in
theorem MN_at (n : ℕ) (hn : n ≤ 2 * t) (l : Fin 128) : MN (F := Ideal) S n (ix3 0 r l) = mr (fun n j => smk t r sc (256 * n + j.val)) n := by
  induction n with
  | zero => rfl
  | succ n ih =>
    unfold MN
    rw [mxT_at _ _ _ _ l (ih (by omega))]
    have e : (fun j => k0_pay4 (F := Ideal) (S n) (ix2 r j)) = fun j : Fin 256 => smk t r sc (256 * n + j.val) := by
      funext j
      have hj := j.isLt
      rw [pay4_at, hS n (by omega) j]
      exact (if_pos (by omega)).symm
    rw [e]
    rfl

include ht hS in
theorem row_pay4 (n : ℕ) (hn : n < 2 * t) : (fun j => k0_pay4 (F := Ideal) (S n) (ix2 r j)) = fun j : Fin 256 => smk t r sc (256 * n + j.val) := by
  funext j
  have hj := j.isLt
  rw [pay4_at, hS n (by omega) j]
  exact (if_pos (by omega)).symm

include ht hS in
theorem row_mk (n : ℕ) (hn : n < 2 * t + 2) : (fun j => mkT (F := Ideal) (BitVec.ofNat 32 t) n (S n) (ix2 r j)) = fun j : Fin 256 => smk t r sc (256 * n + j.val) := by
  funext j
  rw [mkT_at t n ht (by omega), hS n (by omega) j]
  rfl

include ht hS hV in
theorem AN_lo (n : ℕ) (hn : n ≤ 2 * t) (l : Fin 128) : AN (F := Ideal) S V n (ix3 0 r (⟨l.val, by omega⟩ : Fin 256)) =
    ar (fun n j => smk t r sc (256 * n + j.val)) (fun n j => vv (256 * n + j.val) l) n := by
  induction n with
  | zero => exact ofBits_zero
  | succ n ih =>
    unfold AN
    rw [acT_lo _ _ _ _ r _ (fun l => MN_at t ht S r sc hS n (by omega) l) l, ih (by omega)]
    have e := row_pay4 t ht S r sc hS n (by omega)
    have e' := fun j => congrFun e j
    simp only [e', hV n (by omega)]
    rfl

include ht hS hV in
theorem AN_hi (n : ℕ) (hn : n ≤ 2 * t) (l : Fin 128) : AN (F := Ideal) S V n (ix3 0 r (⟨128 + l.val, by omega⟩ : Fin 256)) =
    ar (fun n j => smk t r sc (256 * n + j.val)) (fun _ _ => 1) n := by
  induction n with
  | zero => exact ofBits_zero
  | succ n ih =>
    unfold AN
    rw [acT_hi _ _ _ _ r _ (fun l => MN_at t ht S r sc hS n (by omega) l) l, ih (by omega)]
    have e := row_pay4 t ht S r sc hS n (by omega)
    have e' := fun j => congrFun e j
    simp only [e']
    rfl

include ht hS in
theorem mx_mk (l : Fin 128) : mxT (F := Ideal) (mkT (BitVec.ofNat 32 t) (2 * t) (S (2 * t))) (MN S (2 * t)) (ix3 0 r l) =
    mr (fun n j => smk t r sc (256 * n + j.val)) (2 * t + 1) := by
  rw [mxT_at _ _ _ _ l (MN_at t ht S r sc hS _ (le_refl _) l), row_mk t ht S r sc hS _ (by omega)]
  rfl

theorem smk_late (k : ℕ) (hk : 256 * (2 * t + 1 + 1) ≤ k) : smk t r sc k = ⊥ := by
  have := r.isLt
  exact if_neg (by omega)

include ht hS hV in
/-- The weighted values of a row, all the keys at once. -/
theorem fin_lo (l : Fin 128) : finA (F := Ideal) (BitVec.ofNat 32 t) t S V (ix3 0 r (⟨l.val, by omega⟩ : Fin 256)) =
    ∑ k : Fin 4096, Ideal.exp (smk t r sc k.val - (Finset.univ : Finset (Fin 4096)).fold max ⊥ fun k => smk t r sc k.val) * vv k.val l := by
  rw [← row_sum (fun n j => smk t r sc (256 * n + j.val)) (smk t r sc) (fun k => vv k l) (fun n j => vv (256 * n + j.val) l) (2 * t + 1 + 1)
    (by omega) (fun _ _ _ => rfl) (fun _ _ _ => rfl) (smk_late t r sc)]
  unfold finA
  rw [acT_lo _ _ _ _ r _ (mx_mk t ht S r sc hS) l, acT_lo _ _ _ _ r _ (fun l => MN_at t ht S r sc hS _ (le_refl _) l) l, AN_lo t ht S V r sc vv hS hV _ (le_refl _) l]
  have e1 := fun j => congrFun (row_mk t ht S r sc hS (2 * t) (by omega)) j
  have e2 := fun j => congrFun (row_mk t ht S r sc hS (2 * t + 1) (by omega)) j
  simp only [e1, e2, hV (2 * t) (by omega), hV (2 * t + 1) (by omega)]
  rfl

include ht hS hV in
/-- The weights' sum of a row. -/
theorem fin_hi (l : Fin 128) : finA (F := Ideal) (BitVec.ofNat 32 t) t S V (ix3 0 r (⟨128 + l.val, by omega⟩ : Fin 256)) =
    ∑ k : Fin 4096, Ideal.exp (smk t r sc k.val - (Finset.univ : Finset (Fin 4096)).fold max ⊥ fun k => smk t r sc k.val) * 1 := by
  rw [← row_sum (fun n j => smk t r sc (256 * n + j.val)) (smk t r sc) (fun _ => 1) (fun _ _ => 1) (2 * t + 1 + 1)
    (by omega) (fun _ _ _ => rfl) (fun _ _ _ => rfl) (smk_late t r sc)]
  unfold finA
  rw [acT_hi _ _ _ _ r _ (mx_mk t ht S r sc hS) l, acT_hi _ _ _ _ r _ (fun l => MN_at t ht S r sc hS _ (le_refl _) l) l, AN_hi t ht S V r sc vv hS hV _ (le_refl _) l]
  have e1 := fun j => congrFun (row_mk t ht S r sc hS (2 * t) (by omega)) j
  have e2 := fun j => congrFun (row_mk t ht S r sc hS (2 * t + 1) (by omega)) j
  simp only [e1, e2]
  rfl

end Row

end Cert.KernelIdeal.Attn

end
-- ==== Proof.AttnTerm.lean ====
module

public import proofs.«01_k».proof.Proof.Gen.ReferenceIdeal.Run
public import Idealize.ShloMosaic.Lib.Pointwise

@[expose] public section

set_option maxRecDepth 16384

noncomputable section

namespace Cert.ReferenceIdeal.Pure

open Cert.ReferenceIdeal Cert.ReferenceIdeal.Gen Idealize.ShloMosaic Idealize.ShloMosaic.TcCoe Idealize.SL.Sem

variable {F : FTy → Type} [FloatOps F]

/-- The scores, later keys at minus infinity. -/
def SC (a0 : FVec F S4x4096x8192 .bf16) (a1 : FVec F S4x4096x128 .f32) : FVec F S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (Host.dotGeneral dot_S4x4096x8x128_S4x4096x8x128_S4x8x4096x4096_3_3_1_1_02_02 none (shapeCast _ (extractStridedSlice S4x4096x1024 ![0, 0, 1024] (extf .f32 a0 bitsLt_bf16_f32) slices_S4x4096x8192_S4x4096x1024_0_0_1024) shapeCasts_S4x4096x1024_S4x4096x8x128) (shapeCast _ (extractStridedSlice S4x4096x1024 ![0, 0, 2048] (extf .f32 a0 bitsLt_bf16_f32) slices_S4x4096x8192_S4x4096x1024_0_0_2048) shapeCasts_S4x4096x1024_S4x4096x8x128)) (shapeCast _ (broadcastInDim S4x8x4096x16x256 ![0, 1, 2, 3] bcast_S4x8x4096x16_S4x8x4096x16x256_0_1_2_3 (transpose S4x8x4096x16 [0, 3, 1, 2] (shapeCast _ a1 shapeCasts_S4x4096x128_S4x4096x16x8) transposes_S4x4096x16x8_S4x8x4096x16_0_3_1_2)) shapeCasts_S4x8x4096x16x256_S4x8x4096x4096)) (broadcastInDim S4x8x4096x4096 ![] bcast_S_S4x8x4096x4096 (id (constant S_ .f32 0xFF800000#32)))

/-- The rows' maxima. -/
def MX (a0 : FVec F S4x4096x8192 .bf16) (a1 : FVec F S4x4096x128 .f32) : FVec F S4x8x4096 .f32 :=
  Host.reduce FloatOps.maximumf (SC a0 a1) (constant S_ .f32 0xFF800000#32) reducesTo_S4x8x4096x4096_S4x8x4096_d3 h_S_

/-- The rows' maxima, from below everything. -/
def MM (a0 : FVec F S4x4096x8192 .bf16) (a1 : FVec F S4x4096x128 .f32) : FVec F S4x8x4096 .f32 :=
  maximumf (broadcastInDim S4x8x4096 ![] bcast_S_S4x8x4096 (constant S_ .f32 0xFF800000#32)) (MX a0 a1)

/-- The exponentials of the scores less their row's maximum. -/
def EX (a0 : FVec F S4x4096x8192 .bf16) (a1 : FVec F S4x4096x128 .f32) : FVec F S4x8x4096x4096 .f32 :=
  Host.exp (subf (SC a0 a1) (broadcastInDim S4x8x4096x4096 ![0, 1, 2, 3] bcast_S4x8x4096x1_S4x8x4096x4096_0_1_2_3 (broadcastInDim S4x8x4096x1 ![0, 1, 2] bcast_S4x8x4096_S4x8x4096x1_0_1_2 (MM a0 a1))))

/-- The reference's result, as a function of its arguments. -/
def REF (a0 : FVec F S4x4096x8192 .bf16) (a1 : FVec F S4x4096x128 .f32) : FVec F S4x4096x1024 .bf16 :=
  truncf .bf16 (shapeCast _ (transpose S4x4096x8x128 [0, 3, 1, 2] (Host.dotGeneral dot_S4x4096x8x128_S4x8x4096x4096_S4x8x128x4096_1_3_3_2_02_01 none (shapeCast _ (extractStridedSlice S4x4096x1024 ![0, 0, 3072] (extf .f32 a0 bitsLt_bf16_f32) slices_S4x4096x8192_S4x4096x1024_0_0_3072) shapeCasts_S4x4096x1024_S4x4096x8x128) (Host.divf (EX a0 a1) (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd (EX a0 a1) (constant S_ .f32 0x00000000#32) reducesTo_S4x8x4096x4096_S4x8x4096_d3 h_S_))))) transposes_S4x8x128x4096_S4x4096x8x128_0_3_1_2) shapeCasts_S4x4096x8x128_S4x4096x1024) bitsLt_bf16_f32

end Cert.ReferenceIdeal.Pure

end
-- ==== Proof.AttnRef.lean ====
module

public import proofs.«01_k».proof.Proof.AttnTerm
public import proofs.«01_k».proof.Proof.AttnMath
public import Idealize.ShloMosaic.Lib.Pointwise
public import Idealize.ShloMosaic.Lib.ReduceAll
public import proofs.«01_k».proof.Pre_finite

@[expose] public section

set_option maxRecDepth 16384

noncomputable section

namespace Cert.ReferenceIdeal.Pure

open Cert.ReferenceIdeal Cert.ReferenceIdeal.Gen Cert.AttnMath Idealize.ShloMosaic Idealize.ShloMosaic.TcCoe
open scoped BigOperators

/-! ## The reference at an index -/

theorem red_max {n0 n1 n2 n3 : ℕ} {u : Shape} (v : FVec Ideal ⟨4, ![n0, n1, n2, n3]⟩ .f32) (c : FVec Ideal u .f32)
    (h : (⟨4, ![n0, n1, n2, n3]⟩ : Shape).ReducesTo [3] ⟨3, ![n0, n1, n2]⟩) (hu : 0 < u.numel) (a : Fin n0) (b : Fin n1) (d : Fin n2) :
    Host.reduce FloatOps.maximumf v c h hu (ix3 a b d) = Finset.univ.fold max (c (Shape.Idx.first hu)) fun k : Fin n3 => v (ix4 a b d k) := by
  simp only [pointwise]

theorem max_low {S : Shape} (x y : FVec Ideal S .f32) (j : S.Idx) (h : x j = (⊥ : EReal)) : maximumf x y j = y j := by
  show max (x j : EReal) (y j) = y j
  rw [h]
  exact max_eq_right bot_le

theorem bc_const {S T : Shape} {dims : Fin S.rank → Fin T.rank} (h) (b : BitVec 32) (j : T.Idx) :
    broadcastInDim T dims h (constant (F := Ideal) S .f32 b) j = Ideal.ofBits .f32 b := rfl

variable (a0 : FVec Ideal S4x4096x8192 .bf16) (a1 : FVec Ideal S4x4096x128 .f32)

theorem MM_at (j : S4x8x4096.Idx) : MM (F := Ideal) a0 a1 j = MX (F := Ideal) a0 a1 j := by
  unfold MM
  exact max_low _ _ j (bc_const _ _ j)

theorem MX_at (b : Fin 4) (h : Fin 8) (q : Fin 4096) :
    MX (F := Ideal) a0 a1 (ix3 b h q) = (Finset.univ : Finset (Fin 4096)).fold max (⊥ : EReal) fun k => SC (F := Ideal) a0 a1 (ix4 b h q k) :=
  red_max (n0 := 4) (n1 := 8) (n2 := 4096) (n3 := 4096) _ _ _ _ b h q

theorem EX_at (b : Fin 4) (h : Fin 8) (q k : Fin 4096) :
   EX (F := Ideal) a0 a1 (ix4 b h q k) = Ideal.exp (SC (F := Ideal) a0 a1 (ix4 b h q k) - MM (F := Ideal) a0 a1 (ix3 b h q)) := by
  pointwise [EX]

/-- The score of key `k` for query `q` in head `h`, with the bias of the key's block. -/
def sco (b : Fin 4) (h : Fin 8) (q : Fin 4096) (k : ℕ) : EReal :=
  (∑ d : Fin 128, a0 (ix3 b q (⟨1024 + (h.val * 128 + d.val), by omega⟩ : Fin 8192)) * a0 (ix3 b (⟨k % 4096, Nat.mod_lt _ (by decide)⟩ : Fin 4096) (⟨2048 + (h.val * 128 + d.val), by omega⟩ : Fin 8192)))
    + a1 (ix3 b q (⟨k / 256 % 16 * 8 + h.val, by omega⟩ : Fin 128))

theorem cmp_le (k q : ℕ) (hk : k < 4096) (hq : q < 4096) : IntOp.cmpi CmpIPredicate.sle (BitVec.ofNat 32 k) (BitVec.ofNat 32 q) = if k ≤ q then 1#1 else 0#1 := by
  have h : (BitVec.ofNat 32 k).sle (BitVec.ofNat 32 q) = decide (k ≤ q) := by
    rw [BitVec.sle_eq_decide]
    rw [BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp only [Nat.cast_le]
  unfold IntOp.cmpi
  simp only [h]
  by_cases hh : k ≤ q
  · rw [if_pos hh, decide_eq_true hh]; rfl
  · rw [if_neg hh, decide_eq_false hh]; rfl

theorem SC_at (b : Fin 4) (h : Fin 8) (q k : Fin 4096) :
    SC (F := Ideal) a0 a1 (ix4 b h q k) = if k.val ≤ q.val then sco a0 a1 b h q k.val else ⊥ := by
  have hk := k.isLt
  pointwise [SC]
  rw [cmp_le _ _ k.isLt q.isLt]
  by_cases hh : k.val ≤ q.val
  · rw [if_pos hh, if_pos hh]
    have e1 : k = ⟨k.val % 4096, Nat.mod_lt _ (by decide)⟩ := Fin.ext (Nat.mod_eq_of_lt hk).symm
    have e2 : (⟨k.val / 256 * 8 + h.val, by omega⟩ : Fin 128) = ⟨k.val / 256 % 16 * 8 + h.val, by omega⟩ := Fin.ext (by simp only []; omega)
    unfold sco
    rw [← e1, ← e2]
    rfl
  · rw [if_neg hh, if_neg hh]; rfl

/-- The row's maximum. -/
def rmx (b : Fin 4) (h : Fin 8) (q : Fin 4096) : EReal :=
  (Finset.univ : Finset (Fin 4096)).fold max ⊥ fun k => if k.val ≤ q.val then sco a0 a1 b h q k.val else ⊥

/-- The reference at an index: the softmax-weighted sum of the values. -/
theorem REF_at (b : Fin 4) (q : Fin 4096) (h : Fin 8) (d : Fin 128) :
    REF (F := Ideal) a0 a1 (ix3 b q (⟨h.val * 128 + d.val, by omega⟩ : Fin 1024)) =
      ∑ k : Fin 4096, a0 (ix3 b k (⟨3072 + (h.val * 128 + d.val), by omega⟩ : Fin 8192)) *
        Ideal.div (Ideal.exp ((if k.val ≤ q.val then sco a0 a1 b h q k.val else ⊥) - rmx a0 a1 b h q))
          (∑ k : Fin 4096, Ideal.exp ((if k.val ≤ q.val then sco a0 a1 b h q k.val else ⊥) - rmx a0 a1 b h q)) := by
  pointwise [REF]
  have e : ∀ k, EX (F := Ideal) a0 a1 (ix4 b h q k) = Ideal.exp ((if k.val ≤ q.val then sco a0 a1 b h q k.val else ⊥) - rmx a0 a1 b h q) := by
    intro k
    rw [EX_at, MM_at, MX_at, SC_at]
    simp only [SC_at]
    rfl
  simp only [e]

/-! ## Finite arguments -/

theorem sum_real {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert i s hi ih =>
    obtain ⟨x, hx⟩ := h i (Finset.mem_insert_self _ _)
    obtain ⟨y, hy⟩ := ih fun j hj => h j (Finset.mem_insert_of_mem hj)
    exact ⟨x + y, by rw [Finset.sum_insert hi, hx, hy, EReal.coe_add]⟩

theorem sco_real (h0 : ∀ j, ∃ r : ℝ, a0 j = (r : EReal)) (h1 : ∀ j, ∃ r : ℝ, a1 j = (r : EReal)) (b : Fin 4) (h : Fin 8) (q : Fin 4096) (k : ℕ) :
    ∃ r : ℝ, sco a0 a1 b h q k = (r : EReal) := by
  unfold sco
  obtain ⟨x, hx⟩ := sum_real Finset.univ (fun d : Fin 128 => (a0 (ix3 b q (⟨1024 + (h.val * 128 + d.val), by omega⟩ : Fin 8192)) * a0 (ix3 b (⟨k % 4096, Nat.mod_lt _ (by decide)⟩ : Fin 4096) (⟨2048 + (h.val * 128 + d.val), by omega⟩ : Fin 8192)) : EReal)) fun d _ => by
    obtain ⟨x, hx⟩ := h0 (ix3 b q (⟨1024 + (h.val * 128 + d.val), by omega⟩ : Fin 8192))
    obtain ⟨y, hy⟩ := h0 (ix3 b (⟨k % 4096, Nat.mod_lt _ (by decide)⟩ : Fin 4096) (⟨2048 + (h.val * 128 + d.val), by omega⟩ : Fin 8192))
    exact ⟨x * y, by rw [hx, hy, EReal.coe_mul]⟩
  obtain ⟨y, hy⟩ := h1 (ix3 b q (⟨k / 256 % 16 * 8 + h.val, by omega⟩ : Fin 128))
  exact ⟨x + y, by rw [hx, hy, EReal.coe_add]⟩

/-- With finite arguments the division may follow the weighted sum. -/
theorem REF_div (h0 : ∀ j, ∃ r : ℝ, a0 j = (r : EReal)) (h1 : ∀ j, ∃ r : ℝ, a1 j = (r : EReal)) (b : Fin 4) (q : Fin 4096) (h : Fin 8) (d : Fin 128) :
    REF (F := Ideal) a0 a1 (ix3 b q (⟨h.val * 128 + d.val, by omega⟩ : Fin 1024)) =
      Ideal.div (∑ k : Fin 4096, Ideal.exp ((if k.val ≤ q.val then sco a0 a1 b h q k.val else ⊥) - rmx a0 a1 b h q) * a0 (ix3 b k (⟨3072 + (h.val * 128 + d.val), by omega⟩ : Fin 8192)))
        (∑ k : Fin 4096, Ideal.exp ((if k.val ≤ q.val then sco a0 a1 b h q k.val else ⊥) - rmx a0 a1 b h q)) := by
  rw [REF_at]
  refine div_after (fun k : Fin 4096 => Ideal.exp ((if k.val ≤ q.val then sco a0 a1 b h q k.val else ⊥) - rmx a0 a1 b h q)) (fun k => a0 (ix3 b k (⟨3072 + (h.val * 128 + d.val), by omega⟩ : Fin 8192))) _
    (Finset.sum_nonneg fun k _ => exp_nonneg _) (sum_ne_zero (fun k : Fin 4096 => if k.val ≤ q.val then sco a0 a1 b h q k.val else ⊥) _ 0 ?_ ?_ ?_)
  · obtain ⟨x, hx⟩ := sco_real a0 a1 h0 h1 b h q 0
    show (if 0 ≤ q.val then sco a0 a1 b h q 0 else ⊥) ≠ ⊥
    rw [if_pos (Nat.zero_le _), hx]
    exact EReal.coe_ne_bot _
  · exact le_fold_max _ (fun k : Fin 4096 => if k.val ≤ q.val then sco a0 a1 b h q k.val else ⊥) 0 (Finset.mem_univ _)
  · refine fold_max_ne_top _ _ fun k _ => ?_
    obtain ⟨x, hx⟩ := sco_real a0 a1 h0 h1 b h q k.val
    split
    · rw [hx]; exact EReal.coe_ne_top _
    · exact bot_ne_top

end Cert.ReferenceIdeal.Pure

namespace Cert.Pre_finite.Hand

open Cert.Pre_finite Idealize.ShloMosaic

/-- The side conditions of the precondition's operations. -/
instance facts : Cert.Pre_finite.Facts where
  bitsLt_bf16_f32 := by decide
  bcast_S_S4x4096x8192 := by decide
  reducesTo_S4x4096x8192_S_d0_1_2 := by decide
  h_S_ := by decide
  bcast_S_S4x4096x128 := by decide
  reducesTo_S4x4096x128_S_d0_1_2 := by decide

instance : Subsingleton S_.Idx := ⟨fun a b => funext fun i => i.elim0⟩

theorem real_of_lt (x : EReal) (h : Ideal.cmp .olt (max x (-x)) ⊤ = 1#1) : ∃ r : ℝ, x = r := by
  induction x using EReal.rec with
  | bot => simp [Ideal.cmp] at h
  | top => simp [Ideal.cmp] at h
  | coe r => exact ⟨r, rfl⟩

theorem reals (a0 : FVec Ideal S4x4096x8192 .bf16) (a1 : FVec Ideal S4x4096x128 .f32) (h : fn (F := Ideal) a0 a1 = fun _ => 1#1) :
    (∀ j, ∃ r : ℝ, a0 j = (r : EReal)) ∧ ∀ j, ∃ r : ℝ, a1 j = (r : EReal) := by
  have h := congrFun h (fun i => i.elim0)
  obtain ⟨h0, h1⟩ := IntOp.andi_eq_one.1 h
  constructor
  · intro j
    have := Host.reduce_andi_all _ _ _ _ _ h0 j
    exact real_of_lt _ this
  · intro j
    have := Host.reduce_andi_all _ _ _ _ _ h1 j
    exact real_of_lt _ this

end Cert.Pre_finite.Hand

end
-- ==== Proof.AttnFinal.lean ====
module

public import proofs.«01_k».proof.Proof.AttnFrame
public import proofs.«01_k».proof.Proof.AttnPoint
public import proofs.«01_k».proof.Proof.AttnRef
public import Idealize.ShloMosaic.Lib.Pipeline.ValueKit
public import Idealize.ShloMosaic.Lib.StableHlo.Run

@[expose] public section

set_option maxRecDepth 16384

noncomputable section

namespace Cert.KernelIdeal.Attn

open Cert.KernelIdeal Cert.KernelIdeal.Gen Cert.AttnMath
open Idealize.ShloMosaic Idealize.ShloMosaic.TcCoe Idealize.SL.Sem
open Idealize.ShloMosaic.Pipeline (Dat)
open Cert.ReferenceIdeal.Pure (REF REF_div sco rmx)
open scoped BigOperators

theorem idx3_ext {α : Type} {n0 n1 n2 : ℕ} (f : (⟨3, ![n0, n1, n2]⟩ : Shape).Idx → α) (a a' : Fin n0) (b b' : Fin n1) (c c' : Fin n2)
    (ha : a.val = a'.val) (hb : b.val = b'.val) (hc : c.val = c'.val) : f (ix3 a b c) = f (ix3 a' b' c') := by
  rw [Fin.ext ha, Fin.ext hb, Fin.ext hc]

theorem colW_eq (hp n h : ℕ) (hhp : hp < 4) (hn : n < 16) (hh : h < 2) :
    colW (BitVec.ofNat 32 hp) (BitVec.ofNat 32 n) (BitVec.ofNat 32 h) = BitVec.ofNat 32 (n * 8 + hp * 2 + h) := by
  apply BitVec.eq_of_toNat_eq
  simp [colW, Scalar.addi, Scalar.muli, IntOp.addi, IntOp.muli]

section Head

variable (a0 : FVec Ideal S4x4096x8192 .bf16) (a1 : FVec Ideal S4x4096x128 .f32)
  (h0 : ∀ j, ∃ r : ℝ, a0 j = (r : EReal)) (h1 : ∀ j, ∃ r : ℝ, a1 j = (r : EReal))
  (b : Fin 4) (hp : ℕ) (hhp : hp < 4) (t : ℕ) (ht : t < 8) (h : ℕ) (hh : h < 2)
  (x4 x5 : Vec Ideal S1x4096x256 .bf16) (q : Vec Ideal S1x512x256 .bf16)
  (hql : ∀ (r : Fin 512) (y : Fin 128), q (ix3 0 r (⟨y.val, by omega⟩ : Fin 256)) = a0 (ix3 b (⟨512 * t + r.val, by omega⟩ : Fin 4096) (⟨1024 + ((hp * 2 + h) * 128 + y.val), by omega⟩ : Fin 8192)))
  (hqh : ∀ (r : Fin 512) (y : Fin 128), q (ix3 0 r (⟨128 + y.val, by omega⟩ : Fin 256)) = a1 (ix3 b (⟨512 * t + r.val, by omega⟩ : Fin 4096) y))
  (hx4 : ∀ (k : Fin 4096) (y : Fin 256), x4 (ix3 0 k y) = a0 (ix3 b k (⟨2048 + (hp * 256 + y.val), by omega⟩ : Fin 8192)))
  (hx5 : ∀ (k : Fin 4096) (y : Fin 256), x5 (ix3 0 k y) = a0 (ix3 b k (⟨3072 + (hp * 256 + y.val), by omega⟩ : Fin 8192)))

include hhp ht hh hql hqh hx4 in
theorem scN_at (r : Fin 512) (n : ℕ) (hn : n < 16) (j : Fin 256) :
    scN (F := Ideal) x4 (BitVec.ofNat 32 hp) h q n (ix4 0 0 r j) = sco a0 a1 b (⟨hp * 2 + h, by omega⟩ : Fin 8) (⟨512 * t + r.val, by omega⟩ : Fin 4096) (256 * n + j.val) := by
  have hj := j.isLt
  unfold scN
  rw [colW_eq hp n h hhp hn hh, scT_at _ (by omega)]
  unfold sco
  have e2 : q (ix3 0 r (⟨128 + (n * 8 + hp * 2 + h), by omega⟩ : Fin 256)) = a1 (ix3 b (⟨512 * t + r.val, by omega⟩ : Fin 4096) (⟨(256 * n + j.val) / 256 % 16 * 8 + (hp * 2 + h), by omega⟩ : Fin 128)) := by
    refine (hqh r ⟨n * 8 + hp * 2 + h, by omega⟩).trans (idx3_ext _ _ _ _ _ _ _ rfl rfl ?_)
    show n * 8 + hp * 2 + h = (256 * n + j.val) / 256 % 16 * 8 + (hp * 2 + h)
    omega
  rw [e2]
  congr 1
  refine Finset.sum_congr rfl fun d _ => ?_
  have hd := d.isLt
  rw [hql r d]
  congr 1
  refine (hx4 _ _).trans (idx3_ext _ _ _ _ _ _ _ rfl rfl ?_)
  show 2048 + (hp * 256 + (128 * h + d.val) % 256) = 2048 + ((hp * 2 + h) * 128 + d.val)
  omega

include h0 h1 hhp ht hh hql hqh hx4 hx5 in
/-- One head of one query block: the reference's columns. -/
theorem head_at (r : Fin 512) (l : Fin 128) :
    Ideal.div (finA (F := Ideal) (BitVec.ofNat 32 t) t (scN x4 (BitVec.ofNat 32 hp) h q) (fun n => kblk x5 n h) (ix3 0 r (⟨l.val, by omega⟩ : Fin 256)))
        (finA (F := Ideal) (BitVec.ofNat 32 t) t (scN x4 (BitVec.ofNat 32 hp) h q) (fun n => kblk x5 n h) (ix3 0 r (⟨128 + l.val, by omega⟩ : Fin 256))) =
      REF (F := Ideal) a0 a1 (ix3 b (⟨512 * t + r.val, by omega⟩ : Fin 4096) (⟨(hp * 2 + h) * 128 + l.val, by omega⟩ : Fin 1024)) := by
  have hS := fun n (hn : n < 16) j => scN_at a0 a1 b hp hhp t ht h hh x4 q hql hqh hx4 r n hn j
  have hV : ∀ n < 16, ∀ (j : Fin 256) (d : Fin 128), kblk x5 n h (ix3 0 j d) =
      (fun k (d : Fin 128) => a0 (ix3 b (⟨k % 4096, Nat.mod_lt _ (by decide)⟩ : Fin 4096) (⟨3072 + ((hp * 2 + h) * 128 + d.val), by omega⟩ : Fin 8192))) (256 * n + j.val) d := by
    intro n hn j d
    have hd := d.isLt
    refine (hx5 _ _).trans (idx3_ext _ _ _ _ _ _ _ rfl rfl ?_)
    show 3072 + (hp * 256 + (128 * h + d.val) % 256) = 3072 + ((hp * 2 + h) * 128 + d.val)
    omega
  have e1 := fin_lo t ht (scN x4 (BitVec.ofNat 32 hp) h q) (fun n => kblk x5 n h) r (sco a0 a1 b (⟨hp * 2 + h, by omega⟩ : Fin 8) (⟨512 * t + r.val, by omega⟩ : Fin 4096)) (fun k (d : Fin 128) => a0 (ix3 b (⟨k % 4096, Nat.mod_lt _ (by decide)⟩ : Fin 4096) (⟨3072 + ((hp * 2 + h) * 128 + d.val), by omega⟩ : Fin 8192))) hS hV l
  have e2 := fin_hi t ht (scN x4 (BitVec.ofNat 32 hp) h q) (fun n => kblk x5 n h) r (sco a0 a1 b (⟨hp * 2 + h, by omega⟩ : Fin 8) (⟨512 * t + r.val, by omega⟩ : Fin 4096)) (fun k (d : Fin 128) => a0 (ix3 b (⟨k % 4096, Nat.mod_lt _ (by decide)⟩ : Fin 4096) (⟨3072 + ((hp * 2 + h) * 128 + d.val), by omega⟩ : Fin 8192))) hS hV l
  rw [e1, e2]
  have hR := REF_div a0 a1 h0 h1 b (⟨512 * t + r.val, by omega⟩ : Fin 4096) (⟨hp * 2 + h, by omega⟩ : Fin 8) l
  refine Eq.trans ?_ hR.symm
  simp only [mul_one]
  have e : ∀ k : Fin 4096, (⟨k.val % 4096, Nat.mod_lt _ (by decide)⟩ : Fin 4096) = k := fun k => Fin.ext (Nat.mod_eq_of_lt k.isLt)
  simp only [e]
  rfl

end Head

variable (m : (ℓ : Loc nD τ sig) → Buf (Elt Ideal) ℓ)

/-- Every window's block index at every grid point. -/
theorem idx : ∀ t : Fin cfg0.N, win0_0.index t = ![(grid0.coords t 0).val, (grid0.coords t 2).val, 4 + (grid0.coords t 1).val]
    ∧ win0_1.index t = ![(grid0.coords t 0).val, 0, 8 + (grid0.coords t 1).val]
    ∧ win0_2.index t = ![(grid0.coords t 0).val, 0, 12 + (grid0.coords t 1).val]
    ∧ win0_3.index t = ![(grid0.coords t 0).val, (grid0.coords t 2).val, 0]
    ∧ win0_4.index t = ![(grid0.coords t 0).val, (grid0.coords t 2).val, (grid0.coords t 1).val] :=
  (by decide +kernel : ∀ t : Fin grid0.N, _)

theorem qv0_lo (x3 : Vec Ideal S1x512x256 .bf16) (x6 : Vec Ideal S1x512x128 .f32) (r : Fin 512) (y : Fin 128) :
    qv0 (F := Ideal) x3 x6 (ix3 0 r (⟨y.val, by omega⟩ : Fin 256)) = x3 (ix3 0 r (⟨y.val, by omega⟩ : Fin 256)) := by
  have hy := y.isLt
  unfold qv0 L8
  generalize e : (Rect.unit (s := S2x512x256) ![0, 0, 0] S1x512x256.size inb_S2x512x256_S1x512x256_0_0_0).toLoadRect.idx (ix3 0 r (⟨y.val, by omega⟩ : Fin 256)) = z
  have e0 : (z 0).val = 0 := by rw [← e]; rfl
  have e1 : (z 1).val = r.val := by rw [← e]; show 0 + 1 * r.val = r.val; omega
  have e2 : (z 2).val = y.val := by rw [← e]; show 0 + 1 * (y.val) = y.val; omega
  canon_tiles x h
  all_goals try (exfalso; omega)
  open_payloads
  pointwise
  refine idx3_ext _ _ _ _ _ _ _ rfl ?_ ?_
  · omega
  · simp only []; omega

theorem qv0_hi (x3 : Vec Ideal S1x512x256 .bf16) (x6 : Vec Ideal S1x512x128 .f32) (r : Fin 512) (y : Fin 128) :
    qv0 (F := Ideal) x3 x6 (ix3 0 r (⟨128 + y.val, by omega⟩ : Fin 256)) = x6 (ix3 0 r y) := by
  have hy := y.isLt
  unfold qv0 L8
  generalize e : (Rect.unit (s := S2x512x256) ![0, 0, 0] S1x512x256.size inb_S2x512x256_S1x512x256_0_0_0).toLoadRect.idx (ix3 0 r (⟨128 + y.val, by omega⟩ : Fin 256)) = z
  have e0 : (z 0).val = 0 := by rw [← e]; rfl
  have e1 : (z 1).val = r.val := by rw [← e]; show 0 + 1 * r.val = r.val; omega
  have e2 : (z 2).val = 128 + y.val := by rw [← e]; show 0 + 1 * (128 + y.val) = 128 + y.val; omega
  canon_tiles x h
  all_goals try (exfalso; omega)
  open_payloads
  pointwise
  blk_ext

theorem qv1_lo (x3 : Vec Ideal S1x512x256 .bf16) (x6 : Vec Ideal S1x512x128 .f32) (r : Fin 512) (y : Fin 128) :
    qv1 (F := Ideal) x3 x6 (ix3 0 r (⟨y.val, by omega⟩ : Fin 256)) = x3 (ix3 0 r (⟨128 + y.val, by omega⟩ : Fin 256)) := by
  have hy := y.isLt
  unfold qv1 L8
  generalize e : (Rect.unit (s := S2x512x256) ![1, 0, 0] S1x512x256.size inb_S2x512x256_S1x512x256_1_0_0).toLoadRect.idx (ix3 0 r (⟨y.val, by omega⟩ : Fin 256)) = z
  have e0 : (z 0).val = 1 := by rw [← e]; rfl
  have e1 : (z 1).val = r.val := by rw [← e]; show 0 + 1 * r.val = r.val; omega
  have e2 : (z 2).val = y.val := by rw [← e]; show 0 + 1 * (y.val) = y.val; omega
  canon_tiles x h
  all_goals try (exfalso; omega)
  open_payloads
  pointwise
  refine idx3_ext _ _ _ _ _ _ _ rfl ?_ ?_
  · omega
  · simp only []; omega

theorem qv1_hi (x3 : Vec Ideal S1x512x256 .bf16) (x6 : Vec Ideal S1x512x128 .f32) (r : Fin 512) (y : Fin 128) :
    qv1 (F := Ideal) x3 x6 (ix3 0 r (⟨128 + y.val, by omega⟩ : Fin 256)) = x6 (ix3 0 r y) := by
  have hy := y.isLt
  unfold qv1 L8
  generalize e : (Rect.unit (s := S2x512x256) ![1, 0, 0] S1x512x256.size inb_S2x512x256_S1x512x256_1_0_0).toLoadRect.idx (ix3 0 r (⟨128 + y.val, by omega⟩ : Fin 256)) = z
  have e0 : (z 0).val = 1 := by rw [← e]; rfl
  have e1 : (z 1).val = r.val := by rw [← e]; show 0 + 1 * r.val = r.val; omega
  have e2 : (z 2).val = 128 + y.val := by rw [← e]; show 0 + 1 * (128 + y.val) = 128 + y.val; omega
  canon_tiles x h
  all_goals try (exfalso; omega)
  open_payloads
  pointwise
  blk_ext

theorem pay2_at (a : FVec Ideal S1x512x256 .f32) (x : S1x512x128.Idx) : k0_pay2 (F := Ideal) (loA a) (hiA a) x =
    Ideal.div (a (ix3 0 (⟨(x 1).val, (x 1).isLt⟩ : Fin 512) (⟨(x 2).val, by have : (x 2).val < 128 := (x 2).isLt; omega⟩ : Fin 256))) (a (ix3 0 (⟨(x 1).val, (x 1).isLt⟩ : Fin 512) (⟨128 + (x 2).val, by have : (x 2).val < 128 := (x 2).isLt; omega⟩ : Fin 256))) := by
  pointwise [k0_pay2, loA, hiA]
  rfl
theorem pay89_at (a : FVec Ideal S1x512x256 .f32) (x : S1x512x128.Idx) : k0_pay89 (F := Ideal) (loA a) (hiA a) x =
    Ideal.div (a (ix3 0 (⟨(x 1).val, (x 1).isLt⟩ : Fin 512) (⟨(x 2).val, by have : (x 2).val < 128 := (x 2).isLt; omega⟩ : Fin 256))) (a (ix3 0 (⟨(x 1).val, (x 1).isLt⟩ : Fin 512) (⟨128 + (x 2).val, by have : (x 2).val < 128 := (x 2).isLt; omega⟩ : Fin 256))) := by
  pointwise [k0_pay89, loA, hiA]
  rfl

theorem in0 (c : Dev nD) (t : Fin cfg0.N) (r : Fin 512) (y : Fin 256) : iblk m c 0 t (ix3 0 r y) =
    m ((c : Thread nD τ).loc main_arg0) (ix3 (⟨(grid0.coords t 0).val, (grid0.coords t 0).isLt⟩ : Fin 4) (⟨512 * (grid0.coords t 2).val + r.val, by have : (grid0.coords t 2).val < 8 := (grid0.coords t 2).isLt; omega⟩ : Fin 4096) (⟨1024 + ((grid0.coords t 1).val * 256 + y.val), by have : (grid0.coords t 1).val < 4 := (grid0.coords t 1).isLt; omega⟩ : Fin 8192)) := by
  blk_point [iblk, V, idx t]

theorem in1 (c : Dev nD) (t : Fin cfg0.N) (r : Fin 4096) (y : Fin 256) : iblk m c 1 t (ix3 0 r y) =
    m ((c : Thread nD τ).loc main_arg0) (ix3 (⟨(grid0.coords t 0).val, (grid0.coords t 0).isLt⟩ : Fin 4) r (⟨2048 + ((grid0.coords t 1).val * 256 + y.val), by have : (grid0.coords t 1).val < 4 := (grid0.coords t 1).isLt; omega⟩ : Fin 8192)) := by
  blk_point [iblk, V, idx t]

theorem in2 (c : Dev nD) (t : Fin cfg0.N) (r : Fin 4096) (y : Fin 256) : iblk m c 2 t (ix3 0 r y) =
    m ((c : Thread nD τ).loc main_arg0) (ix3 (⟨(grid0.coords t 0).val, (grid0.coords t 0).isLt⟩ : Fin 4) r (⟨3072 + ((grid0.coords t 1).val * 256 + y.val), by have : (grid0.coords t 1).val < 4 := (grid0.coords t 1).isLt; omega⟩ : Fin 8192)) := by
  blk_point [iblk, V, idx t]

theorem in3 (c : Dev nD) (t : Fin cfg0.N) (r : Fin 512) (y : Fin 128) : iblk m c 3 t (ix3 0 r y) =
    m ((c : Thread nD τ).loc main_arg1) (ix3 (⟨(grid0.coords t 0).val, (grid0.coords t 0).isLt⟩ : Fin 4) (⟨512 * (grid0.coords t 2).val + r.val, by have : (grid0.coords t 2).val < 8 := (grid0.coords t 2).isLt; omega⟩ : Fin 4096) y) := by
  blk_point [iblk, V, idx t]

set_option maxHeartbeats 1600000 in
/-- A grid point's output block is the reference's. -/
theorem point (c : Dev nD) (h0 : ∀ j, ∃ r : ℝ, m ((c : Thread nD τ).loc main_arg0) j = (r : EReal)) (h1 : ∀ j, ∃ r : ℝ, m ((c : Thread nD τ).loc main_arg1) j = (r : EReal))
    (t : Fin cfg0.N) (y) :
    out0_4 (grid0.coords t) (iblk m c 0 t) (iblk m c 1 t) (iblk m c 2 t) (iblk m c 3 t) y
      = REF (F := Ideal) (m ((c : Thread nD τ).loc main_arg0)) (m ((c : Thread nD τ).loc main_arg1)) (((cfg0.win 4).blk t).view.emb y) := by
  have ht : (grid0.coords t 2).val < 8 := (grid0.coords t 2).isLt
  have hp : (grid0.coords t 1).val < 4 := (grid0.coords t 1).isLt
  unfold out0_4 outL
  canon_tiles x hx
  · rw [pay2_at]
    refine (head_at (m ((c : Thread nD τ).loc main_arg0)) (m ((c : Thread nD τ).loc main_arg1)) h0 h1 (⟨(grid0.coords t 0).val, (grid0.coords t 0).isLt⟩ : Fin 4) (grid0.coords t 1).val hp (grid0.coords t 2).val ht 1 (by omega)
      (iblk m c 1 t) (iblk m c 2 t) (qv1 (iblk m c 0 t) (iblk m c 3 t)) ?_ ?_ (in1 m c t) (in2 m c t) (⟨(x 1).val, (x 1).isLt⟩ : Fin 512) (⟨(x 2).val, (x 2).isLt⟩ : Fin 128)).trans ?_
    · intro r y
      refine (qv1_lo _ _ r y).trans ((in0 m c t r _).trans (idx3_ext _ _ _ _ _ _ _ rfl rfl ?_))
      simp only []; omega
    · intro r y
      exact (qv1_hi _ _ r y).trans (in3 m c t r y)
    · blk_point [idx t]
  · rw [pay89_at]
    refine (head_at (m ((c : Thread nD τ).loc main_arg0)) (m ((c : Thread nD τ).loc main_arg1)) h0 h1 (⟨(grid0.coords t 0).val, (grid0.coords t 0).isLt⟩ : Fin 4) (grid0.coords t 1).val hp (grid0.coords t 2).val ht 0 (by omega)
      (iblk m c 1 t) (iblk m c 2 t) (qv0 (iblk m c 0 t) (iblk m c 3 t)) ?_ ?_ (in1 m c t) (in2 m c t) (⟨(x 1).val, (x 1).isLt⟩ : Fin 512) (⟨(x 2).val, (x 2).isLt⟩ : Fin 128)).trans ?_
    · intro r y
      refine (qv0_lo _ _ r y).trans ((in0 m c t r _).trans (idx3_ext _ _ _ _ _ _ _ rfl rfl ?_))
      simp only []; omega
    · intro r y
      exact (qv0_hi _ _ r y).trans (in3 m c t r y)
    · blk_point [idx t]

theorem final (c : Dev nD) (h0 : ∀ j, ∃ r : ℝ, m ((c : Thread nD τ).loc main_arg0) j = (r : EReal)) (h1 : ∀ j, ∃ r : ℝ, m ((c : Thread nD τ).loc main_arg1) j = (r : EReal)) :
    (dats m 0 c).arrAt 4 (cfgs 0).N = REF (F := Ideal) (m ((c : Thread nD τ).loc main_arg0)) (m ((c : Thread nD τ).loc main_arg1)) := by
  refine (dats m 0 c).arrAt_eq_of_covers 4 _ (by decide +kernel) fun t hf y => ?_
  blk_simp; rw [after0_4]
  exact point m c h0 h1 t y

end Cert.KernelIdeal.Attn

end
-- ==== Proof.FfnIdealMem.lean ====
module

public import proofs.«01_k».proof.Proof.Gen.FfnIdeal.Frame
public import proofs.«01_k».proof.Proof.Gen.FfnIdeal.Skeleton
public import proofs.«01_k».proof.Proof.Gen.FfnIdeal.Loops
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Parts of a buffer -/

/-- Rows `o … o + 255` of a buffer of 520 rows. -/
def ldz (x : Vec F S520x512 .f32) (o : ℕ) : Vec F S256x512 .f32 := fun y =>
  x (ix2 (⟨(o + (y 0).val) % 520, Nat.mod_lt _ (by decide)⟩ : Fin 520) (⟨(y 1).val, (y 1).isLt⟩ : Fin 512))
/-- The last 8 rows of a buffer of 520 rows. -/
def ldt (x : Vec F S520x512 .f32) : Vec F S8x512 .f32 := fun y =>
  x (ix2 (⟨512 + (y 0).val, by have : (y 0).val < 8 := (y 0).isLt; omega⟩ : Fin 520) (⟨(y 1).val, (y 1).isLt⟩ : Fin 512))
/-- Rows `o … o + 255` of a buffer of 512 rows. -/
def ldr {φ : EltTy} (x : Vec F S512x2048 φ) (o : ℕ) : Vec F S256x2048 φ := fun y =>
  x (ix2 (⟨(o + (y 0).val) % 512, Nat.mod_lt _ (by decide)⟩ : Fin 512) (⟨(y 1).val, (y 1).isLt⟩ : Fin 2048))
/-- Rows `o … o + 127` of a buffer of 512 rows. -/
def lds {φ : EltTy} (x : Vec F S512x2048 φ) (o : ℕ) : Vec F S128x2048 φ := fun y =>
  x (ix2 (⟨(o + (y 0).val) % 512, Nat.mod_lt _ (by decide)⟩ : Fin 512) (⟨(y 1).val, (y 1).isLt⟩ : Fin 2048))
/-- Block `n` of the 11 blocks kept from the row tile before. -/
def ldh (x : Vec F S11x8x512 .f32) (n : ℕ) : Vec F S1x8x512 .f32 := fun y =>
  x (ix3 (⟨n % 11, Nat.mod_lt _ (by decide)⟩ : Fin 11) (⟨(y 1).val, (y 1).isLt⟩ : Fin 8) (⟨(y 2).val, (y 2).isLt⟩ : Fin 512))
/-- Rows `o … o + 255` replaced. -/
def upz (x : Vec F S520x512 .f32) (o : ℕ) (v : Vec F S256x512 .f32) : Vec F S520x512 .f32 := fun y =>
  if o ≤ (y 0).val ∧ (y 0).val < o + 256 then v (ix2 (⟨((y 0).val - o) % 256, Nat.mod_lt _ (by decide)⟩ : Fin 256) (⟨(y 1).val, (y 1).isLt⟩ : Fin 512)) else x y
/-- The first 8 rows replaced. -/
def upt (x : Vec F S520x512 .f32) (v : Vec F S8x512 .f32) : Vec F S520x512 .f32 := fun y =>
  if (y 0).val < 8 then v (ix2 (⟨(y 0).val % 8, Nat.mod_lt _ (by decide)⟩ : Fin 8) (⟨(y 1).val, (y 1).isLt⟩ : Fin 512)) else x y
/-- Rows `o … o + 255` replaced. -/
def upr (x : Vec F S512x2048 .f32) (o : ℕ) (v : Vec F S256x2048 .f32) : Vec F S512x2048 .f32 := fun y =>
  if o ≤ (y 0).val ∧ (y 0).val < o + 256 then v (ix2 (⟨((y 0).val - o) % 256, Nat.mod_lt _ (by decide)⟩ : Fin 256) (⟨(y 1).val, (y 1).isLt⟩ : Fin 2048)) else x y
/-- Block `n` replaced. -/
def uph (x : Vec F S11x8x512 .f32) (n : ℕ) (v : Vec F S1x8x512 .f32) : Vec F S11x8x512 .f32 := fun y =>
  if (y 0).val = n then v (ix3 (0 : Fin 1) (⟨(y 1).val, (y 1).isLt⟩ : Fin 8) (⟨(y 2).val, (y 2).isLt⟩ : Fin 512)) else x y

/-- The normalised rows of a tile, 128 rows at a time. -/
def hN (x : Vec F S512x2048 .f32) (g : Vec F S1x2048 .f32) : Vec F S512x2048 .bf16 := fun y =>
  k0_pay5 (lds x (128 * ((y 0).val / 128))) g (ix2 (⟨(y 0).val % 128, Nat.mod_lt _ (by decide)⟩ : Fin 128) (⟨(y 1).val, (y 1).isLt⟩ : Fin 2048))
/-- The tile's rows plus the normalised accumulated rows, 128 rows at a time. -/
def oN (x o : Vec F S512x2048 .f32) (g : Vec F S1x2048 .f32) : Vec F S512x2048 .f32 := fun y =>
  k0_pay4 (lds x (128 * ((y 0).val / 128))) (lds o (128 * ((y 0).val / 128))) g (ix2 (⟨(y 0).val % 128, Nat.mod_lt _ (by decide)⟩ : Fin 128) (⟨(y 1).val, (y 1).isLt⟩ : Fin 2048))

/-- A load of a whole buffer reads it. -/
theorem readAt_whole {S : Shape} {e : EltTy} (v : View sig .tc .vmem S e) (f : v.ty.Contents (Elt F)) {off : Fin S.rank → ℕ} (inb : ∀ a, off a + S.size a ≤ S.size a) :
    v.readAt (Elt F) (Rect.unit off S.size inb).toLoadRect f = v.read (Elt F) f := by
  funext y
  rw [View.readAt_apply]
  congr 1
  funext a
  refine Fin.ext ?_
  have := inb a
  show off a + 1 * (y a).val = (y a).val
  omega

/-- A store of a whole buffer leaves what was stored. -/
theorem read_writes_all {S : Shape} {e : EltTy} (v : View sig .tc .vmem S e) (f : v.ty.Contents (Elt F)) {off : Fin S.rank → ℕ} (inb : ∀ a, off a + S.size a ≤ S.size a)
    (w : (Rect.unit off S.size inb).shape.Idx → Elt F e) (L : List (View.Piece (Elt F) S e)) :
    v.read (Elt F) (v.writes (Elt F) f (⟨Rect.unit off S.size inb, w⟩ :: L)) = w := by
  funext y
  have e0 : ∀ a, off a = 0 := fun a => by have := inb a; omega
  exact View.read_writes_cons_unit_of_mem v f inb w L y y rfl (fun a => by rw [e0 a, Nat.zero_add])

theorem whole_a (v : View sig .tc .vmem S1x2048x512 .bf16) (f : v.ty.Contents (Elt F)) (inb : ∀ a, (![0, 0, 0] : Fin 3 → ℕ) a + (![1, 2048, 512] : Fin 3 → ℕ) a ≤ S1x2048x512.size a) :
    v.readAt (Elt F) (Rect.unit (s := S1x2048x512) ![0, 0, 0] ![1, 2048, 512] inb).toLoadRect f = v.read (Elt F) f := readAt_whole v f inb

theorem whole_b (v : View sig .tc .vmem S1x3x512 .f32) (f : v.ty.Contents (Elt F)) (inb : ∀ a, (![0, 0, 0] : Fin 3 → ℕ) a + (![1, 3, 512] : Fin 3 → ℕ) a ≤ S1x3x512.size a) :
    v.readAt (Elt F) (Rect.unit (s := S1x3x512) ![0, 0, 0] ![1, 3, 512] inb).toLoadRect f = v.read (Elt F) f := readAt_whole v f inb

theorem whole_c (v : View sig .tc .vmem S1x1x512 .f32) (f : v.ty.Contents (Elt F)) (inb : ∀ a, (![0, 0, 0] : Fin 3 → ℕ) a + (![1, 1, 512] : Fin 3 → ℕ) a ≤ S1x1x512.size a) :
    v.readAt (Elt F) (Rect.unit (s := S1x1x512) ![0, 0, 0] ![1, 1, 512] inb).toLoadRect f = v.read (Elt F) f := readAt_whole v f inb

theorem whole_d (v : View sig .tc .vmem S1x512x2048 .bf16) (f : v.ty.Contents (Elt F)) (inb : ∀ a, (![0, 0, 0] : Fin 3 → ℕ) a + (![1, 512, 2048] : Fin 3 → ℕ) a ≤ S1x512x2048.size a) :
    v.readAt (Elt F) (Rect.unit (s := S1x512x2048) ![0, 0, 0] ![1, 512, 2048] inb).toLoadRect f = v.read (Elt F) f := readAt_whole v f inb

theorem whole_e (v : View sig .tc .vmem S1x2048 .f32) (f : v.ty.Contents (Elt F)) (inb : ∀ a, (![0, 0] : Fin 2 → ℕ) a + (![1, 2048] : Fin 2 → ℕ) a ≤ S1x2048.size a) :
    v.readAt (Elt F) (Rect.unit (s := S1x2048) ![0, 0] ![1, 2048] inb).toLoadRect f = v.read (Elt F) f := readAt_whole v f inb

theorem whole_f (v : View sig .tc .vmem S512x2048 .f32) (f : v.ty.Contents (Elt F)) (inb : ∀ a, (![0, 0] : Fin 2 → ℕ) a + (![512, 2048] : Fin 2 → ℕ) a ≤ S512x2048.size a) :
    v.readAt (Elt F) (Rect.unit (s := S512x2048) ![0, 0] ![512, 2048] inb).toLoadRect f = v.read (Elt F) f := readAt_whole v f inb

theorem writes_f (v : View sig .tc .vmem S512x2048 .f32) (f : v.ty.Contents (Elt F)) (inb : ∀ a, (![0, 0] : Fin 2 → ℕ) a + (![512, 2048] : Fin 2 → ℕ) a ≤ S512x2048.size a)
    (w : Vec F S512x2048 .f32) (L : List (View.Piece (Elt F) S512x2048 .f32)) :
    v.read (Elt F) (v.writes (Elt F) f (⟨Rect.unit (s := S512x2048) ![0, 0] ![512, 2048] inb, w⟩ :: L)) = w := read_writes_all v f inb w L

theorem readAt_z (v : View sig .tc .vmem S520x512 .f32) (f : v.ty.Contents (Elt F)) (o : ℕ) (inb : ∀ a, (![o, 0] : Fin 2 → ℕ) a + (![256, 512] : Fin 2 → ℕ) a ≤ S520x512.size a) :
    v.readAt (Elt F) (Rect.unit (s := S520x512) ![o, 0] ![256, 512] inb).toLoadRect f = ldz (v.read (Elt F) f) o := by
  funext y
  rw [View.readAt_apply]
  unfold ldz
  congr 1
  funext a
  refine Fin.ext ?_
  have y0 : (y 0).val < 256 := (y 0).isLt
  have hb : o + 256 ≤ 520 := inb 0
  match a with
  | 0 => show o + 1 * (y 0).val = (o + (y 0).val) % 520; omega
  | 1 => show 0 + 1 * (y 1).val = (y 1).val; omega

theorem readAt_t (v : View sig .tc .vmem S520x512 .f32) (f : v.ty.Contents (Elt F)) (inb : ∀ a, (![512, 0] : Fin 2 → ℕ) a + (![8, 512] : Fin 2 → ℕ) a ≤ S520x512.size a) :
    v.readAt (Elt F) (Rect.unit (s := S520x512) ![512, 0] ![8, 512] inb).toLoadRect f = ldt (v.read (Elt F) f) := by
  funext y
  rw [View.readAt_apply]
  unfold ldt
  congr 1
  funext a
  refine Fin.ext ?_
  match a with
  | 0 => show 512 + 1 * (y 0).val = 512 + (y 0).val; omega
  | 1 => show 0 + 1 * (y 1).val = (y 1).val; omega

theorem readAt_r {φ : EltTy} (v : View sig .tc .vmem S512x2048 φ) (f : v.ty.Contents (Elt F)) (o : ℕ) (inb : ∀ a, (![o, 0] : Fin 2 → ℕ) a + (![256, 2048] : Fin 2 → ℕ) a ≤ S512x2048.size a) :
    v.readAt (Elt F) (Rect.unit (s := S512x2048) ![o, 0] ![256, 2048] inb).toLoadRect f = ldr (φ := φ) (v.read (Elt F) f) o := by
  funext y
  rw [View.readAt_apply]
  unfold ldr
  congr 1
  funext a
  refine Fin.ext ?_
  have y0 : (y 0).val < 256 := (y 0).isLt
  have hb : o + 256 ≤ 512 := inb 0
  match a with
  | 0 => show o + 1 * (y 0).val = (o + (y 0).val) % 512; omega
  | 1 => show 0 + 1 * (y 1).val = (y 1).val; omega

theorem readAt_s {φ : EltTy} (v : View sig .tc .vmem S512x2048 φ) (f : v.ty.Contents (Elt F)) (off : Fin 2 → ℕ) (o : ℕ) (he : off = ![o, 0]) (inb : ∀ a, off a + (![128, 2048] : Fin 2 → ℕ) a ≤ S512x2048.size a) :
    v.readAt (Elt F) (Rect.unit (s := S512x2048) off ![128, 2048] inb).toLoadRect f = lds (φ := φ) (v.read (Elt F) f) o := by
  subst he
  funext y
  rw [View.readAt_apply]
  unfold lds
  congr 1
  funext a
  refine Fin.ext ?_
  have y0 : (y 0).val < 128 := (y 0).isLt
  have hb : o + 128 ≤ 512 := inb 0
  match a with
  | 0 => show o + 1 * (y 0).val = (o + (y 0).val) % 512; omega
  | 1 => show 0 + 1 * (y 1).val = (y 1).val; omega

theorem readAt_h (v : View sig .tc .vmem S11x8x512 .f32) (f : v.ty.Contents (Elt F)) (off : Fin 3 → ℕ) (n : ℕ) (he : off = ![n, 0, 0]) (inb : ∀ a, off a + (![1, 8, 512] : Fin 3 → ℕ) a ≤ S11x8x512.size a) :
    v.readAt (Elt F) (Rect.unit (s := S11x8x512) off ![1, 8, 512] inb).toLoadRect f = ldh (v.read (Elt F) f) n := by
  subst he
  funext y
  rw [View.readAt_apply]
  unfold ldh
  congr 1
  funext a
  refine Fin.ext ?_
  have y0 : (y 0).val < 1 := (y 0).isLt
  have hb : n + 1 ≤ 11 := inb 0
  match a with
  | 0 => show n + 1 * (y 0).val = n % 11; omega
  | 1 => show 0 + 1 * (y 1).val = (y 1).val; omega
  | 2 => show 0 + 1 * (y 2).val = (y 2).val; omega

theorem writes_z (v : View sig .tc .vmem S520x512 .f32) (f : v.ty.Contents (Elt F)) (o : ℕ) (inb : ∀ a, (![o, 0] : Fin 2 → ℕ) a + (![256, 512] : Fin 2 → ℕ) a ≤ S520x512.size a)
    (w : Vec F S256x512 .f32) (L : List (View.Piece (Elt F) S520x512 .f32)) :
    v.read (Elt F) (v.writes (Elt F) f (⟨Rect.unit (s := S520x512) ![o, 0] ![256, 512] inb, w⟩ :: L)) = upz (v.read (Elt F) (v.writes (Elt F) f L)) o w := by
  funext y
  unfold upz
  split
  · refine View.read_writes_cons_unit_of_mem v f inb w L y _ rfl (fun a => ?_)
    match a with
    | 0 => show (y 0).val = o + ((y 0).val - o) % 256; omega
    | 1 => show (y 1).val = 0 + (y 1).val; omega
  · exact View.read_writes_cons_unit_of_not_mem v f inb w L y rfl 0 (show (y 0).val < o ∨ o + 256 ≤ (y 0).val by omega)

theorem writes_t (v : View sig .tc .vmem S520x512 .f32) (f : v.ty.Contents (Elt F)) (inb : ∀ a, (![0, 0] : Fin 2 → ℕ) a + (![8, 512] : Fin 2 → ℕ) a ≤ S520x512.size a)
    (w : Vec F S8x512 .f32) (L : List (View.Piece (Elt F) S520x512 .f32)) :
    v.read (Elt F) (v.writes (Elt F) f (⟨Rect.unit (s := S520x512) ![0, 0] ![8, 512] inb, w⟩ :: L)) = upt (v.read (Elt F) (v.writes (Elt F) f L)) w := by
  funext y
  unfold upt
  split
  · refine View.read_writes_cons_unit_of_mem v f inb w L y _ rfl (fun a => ?_)
    match a with
    | 0 => show (y 0).val = 0 + (y 0).val % 8; omega
    | 1 => show (y 1).val = 0 + (y 1).val; omega
  · exact View.read_writes_cons_unit_of_not_mem v f inb w L y rfl 0 (show (y 0).val < 0 ∨ 0 + 8 ≤ (y 0).val by omega)

theorem writes_r (v : View sig .tc .vmem S512x2048 .f32) (f : v.ty.Contents (Elt F)) (o : ℕ) (inb : ∀ a, (![o, 0] : Fin 2 → ℕ) a + (![256, 2048] : Fin 2 → ℕ) a ≤ S512x2048.size a)
    (w : Vec F S256x2048 .f32) (L : List (View.Piece (Elt F) S512x2048 .f32)) :
    v.read (Elt F) (v.writes (Elt F) f (⟨Rect.unit (s := S512x2048) ![o, 0] ![256, 2048] inb, w⟩ :: L)) = upr (v.read (Elt F) (v.writes (Elt F) f L)) o w := by
  funext y
  unfold upr
  split
  · refine View.read_writes_cons_unit_of_mem v f inb w L y _ rfl (fun a => ?_)
    match a with
    | 0 => show (y 0).val = o + ((y 0).val - o) % 256; omega
    | 1 => show (y 1).val = 0 + (y 1).val; omega
  · exact View.read_writes_cons_unit_of_not_mem v f inb w L y rfl 0 (show (y 0).val < o ∨ o + 256 ≤ (y 0).val by omega)

theorem writes_h (v : View sig .tc .vmem S11x8x512 .f32) (f : v.ty.Contents (Elt F)) (off : Fin 3 → ℕ) (n : ℕ) (he : off = ![n, 0, 0]) (inb : ∀ a, off a + (![1, 8, 512] : Fin 3 → ℕ) a ≤ S11x8x512.size a)
    (w : Vec F S1x8x512 .f32) (L : List (View.Piece (Elt F) S11x8x512 .f32)) :
    v.read (Elt F) (v.writes (Elt F) f (⟨Rect.unit (s := S11x8x512) off ![1, 8, 512] inb, w⟩ :: L)) = uph (v.read (Elt F) (v.writes (Elt F) f L)) n w := by
  funext y
  unfold uph
  split
  · refine View.read_writes_cons_unit_of_mem v f inb w L y _ he (fun a => ?_)
    match a with
    | 0 => show (y 0).val = n + 0; omega
    | 1 => show (y 1).val = 0 + (y 1).val; omega
    | 2 => show (y 2).val = 0 + (y 2).val; omega
  · exact View.read_writes_cons_unit_of_not_mem v f inb w L y he 0 (show (y 0).val < n ∨ n + 1 ≤ (y 0).val by omega)

end Cert.FfnIdeal.Hand

end
-- ==== Proof.FfnIdealStrip.lean ====
module

public import proofs.«01_k».proof.Proof.FfnIdealMem
public import proofs.«01_k».proof.Proof.Gen.FfnIdeal.Skeleton
public import proofs.«01_k».proof.Proof.Gen.FfnIdeal.Loops
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off1_eq (k : Fin k0_t1_loop.trips) : k0_off1 k = ![128 * k.val, 0] := by
  revert k; decide +kernel
theorem off4_eq (k : Fin k0_t2_loop.trips) : k0_off4 k = ![128 * k.val, 0] := by
  revert k; decide +kernel
theorem trips_t1 : k0_t1_loop.trips = 4 := by decide +kernel
theorem trips_t2 : k0_t2_loop.trips = 4 := by decide +kernel

/-- A block just stored is the block read. -/
theorem ldh_uph (x : Vec F S11x8x512 .f32) (n : ℕ) (hn : n < 11) (v : Vec F S1x8x512 .f32) : ldh (uph x n v) n = v := by
  funext y
  unfold ldh uph
  have y0 : (y 0).val < 1 := (y 0).isLt
  refine (if_pos (show n % 11 = n by omega)).trans ?_
  congr 1
  funext a
  refine Fin.ext ?_
  match a with
  | 0 => show 0 = (y 0).val; omega
  | 1 => rfl
  | 2 => rfl

theorem ldz_hi6 (x : Vec F S520x512 .f32) (w : Vec F S256x512 .f32) : ldz (upz x 264 w) 6 = ldz x 6 := by
  funext y
  have y0 : (y 0).val < 256 := (y 0).isLt
  unfold ldz upz
  refine if_neg ?_
  rintro ⟨h, -⟩
  have h' : 264 ≤ (6 + (y 0).val) % 520 := h
  omega

theorem ldz_hi7 (x : Vec F S520x512 .f32) (w : Vec F S256x512 .f32) : ldz (upz x 264 w) 7 = ldz x 7 := by
  funext y
  have y0 : (y 0).val < 256 := (y 0).isLt
  unfold ldz upz
  refine if_neg ?_
  rintro ⟨h, -⟩
  have h' : 264 ≤ (7 + (y 0).val) % 520 := h
  omega

theorem ldz_hi8 (x : Vec F S520x512 .f32) (w : Vec F S256x512 .f32) : ldz (upz x 264 w) 8 = ldz x 8 := by
  funext y
  have y0 : (y 0).val < 256 := (y 0).isLt
  unfold ldz upz
  refine if_neg ?_
  rintro ⟨h, -⟩
  have h' : 264 ≤ (8 + (y 0).val) % 520 := h
  omega

/-- One trip's stores of normalised rows. -/
theorem trip1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x512 .f32) (harg16 : arg16.IsWhole) (arg17 : Memref sig .tc .vmem S11x8x512 .f32) (harg17 : arg17.IsWhole) (h : k0_cond1 i = 1#1) (f2 : BufTy.Contents (Elt F) arg2.view.ty) (f3 : BufTy.Contents (Elt F) arg3.view.ty) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f3 k
      = [⟨Rect.unit (s := S512x2048) (k0_off1 k) S128x2048.size (k0_off1_inb i k h), k0_pay5 (lds (arg2.view.read (Elt F) f2) (128 * k.val)) (arg3.view.read (Elt F) f3)⟩] := by
  have e1 := readAt_s arg2.view f2 (k0_off1 k) (128 * k.val) (off1_eq k) (k0_off1_inb i k h)
  have e2 := readAt_whole arg3.view f3 inb_S1x2048_S1x2048_0_0
  rw [← e1, ← e2]
  unfold tripL_k0_t1 trip_k0_t1
  rfl

/-- The rows the trips before `n` have filled. -/
theorem read_h_at (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x512 .f32) (harg16 : arg16.IsWhole) (arg17 : Memref sig .tc .vmem S11x8x512 .f32) (harg17 : arg17.IsWhole) (h : k0_cond1 i = 1#1) (f2 : BufTy.Contents (Elt F) arg2.view.ty) (f3 : BufTy.Contents (Elt F) arg3.view.ty) (f13 : BufTy.Contents (Elt F) arg13.view.ty) : ∀ (n : ℕ), n ≤ 4 → ∀ y : S512x2048.Idx, (y 0).val < 128 * n →
    arg13.view.read (Elt F) (arg13.view.writes (Elt F) f13 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f3 n)) y
      = hN (arg2.view.read (Elt F) f2) (arg3.view.read (Elt F) f3) y
  | 0, _, y, hy => by omega
  | n + 1, hn, y, hy => by
    have hk : n < k0_t1_loop.trips := by rw [trips_t1]; omega
    have e := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f3 ⟨n, hk⟩
    rw [e, trip1]
    dsimp only [List.cons_append, List.nil_append]
    by_cases hlt : (y 0).val < 128 * n
    · refine (View.read_writes_cons_unit_of_not_mem arg13.view f13 _ _ _ y (off1_eq ⟨n, hk⟩) 0 (.inl hlt)).trans ?_
      exact read_h_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f3 f13 n (by omega) y hlt
    · refine (View.read_writes_cons_unit_of_mem arg13.view f13 _ _ _ y (ix2 (⟨(y 0).val % 128, Nat.mod_lt _ (by decide)⟩ : Fin 128) (⟨(y 1).val, (y 1).isLt⟩ : Fin 2048)) (off1_eq ⟨n, hk⟩) (fun a => ?_)).trans ?_
      · match a with
        | 0 => show (y 0).val = 128 * n + (y 0).val % 128; omega
        | 1 => show (y 1).val = 0 + (y 1).val; omega
      · unfold hN
        rw [show (y 0).val / 128 = n by omega]

/-- What the loop leaves of the normalised rows. -/
theorem read_h (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x512 .f32) (harg16 : arg16.IsWhole) (arg17 : Memref sig .tc .vmem S11x8x512 .f32) (harg17 : arg17.IsWhole) (h : k0_cond1 i = 1#1) (f2 : BufTy.Contents (Elt F) arg2.view.ty) (f3 : BufTy.Contents (Elt F) arg3.view.ty) (f13 : BufTy.Contents (Elt F) arg13.view.ty) :
    arg13.view.read (Elt F) (arg13.view.writes (Elt F) f13 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f3 k0_t1_loop.trips))
      = hN (arg2.view.read (Elt F) f2) (arg3.view.read (Elt F) f3) := by
  rw [trips_t1]
  funext y
  exact read_h_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f3 f13 4 (Nat.le_refl 4) y (by have : (y 0).val < 512 := (y 0).isLt; omega)

/-- One trip's stores of finished rows. -/
theorem trip2 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x512 .f32) (harg16 : arg16.IsWhole) (arg17 : Memref sig .tc .vmem S11x8x512 .f32) (harg17 : arg17.IsWhole) (h : k0_cond3 i = 1#1) (f2 : BufTy.Contents (Elt F) arg2.view.ty) (f11 : BufTy.Contents (Elt F) arg11.view.ty) (k : Fin k0_t2_loop.trips) (g : BufTy.Contents (Elt F) arg12.view.ty) :
    tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f11 k g
      = [⟨Rect.unit (s := S512x2048) (k0_off4 k) S128x2048.size (k0_off4_inb i k h), k0_pay4 (lds (arg2.view.read (Elt F) f2) (128 * k.val)) (lds (arg12.view.read (Elt F) g) (128 * k.val)) (arg11.view.read (Elt F) f11)⟩] := by
  have e1 := readAt_s arg2.view f2 (k0_off4 k) (128 * k.val) (off4_eq k) (k0_off4_inb i k h)
  have e3 := readAt_s arg12.view g (k0_off4 k) (128 * k.val) (off4_eq k) (k0_off4_inb i k h)
  have e2 := readAt_whole arg11.view f11 inb_S1x2048_S1x2048_0_0
  rw [← e1, ← e2, ← e3]
  unfold tripL_k0_t2 trip_k0_t2
  rfl

/-- The rows the trips before `n` have finished, the others as they were. -/
theorem read_o_at (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x512 .f32) (harg16 : arg16.IsWhole) (arg17 : Memref sig .tc .vmem S11x8x512 .f32) (harg17 : arg17.IsWhole) (h : k0_cond3 i = 1#1) (f2 : BufTy.Contents (Elt F) arg2.view.ty) (f11 : BufTy.Contents (Elt F) arg11.view.ty) (g : BufTy.Contents (Elt F) arg12.view.ty) : ∀ (n : ℕ), n ≤ 4 → ∀ y : S512x2048.Idx,
    arg12.view.read (Elt F) (arg12.view.writes (Elt F) g (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f11 g n)) y
      = if (y 0).val < 128 * n then oN (arg2.view.read (Elt F) f2) (arg12.view.read (Elt F) g) (arg11.view.read (Elt F) f11) y else arg12.view.read (Elt F) g y
  | 0, _, y => by rw [if_neg (by omega)]; rfl
  | n + 1, hn, y => by
    have hk : n < k0_t2_loop.trips := by rw [trips_t2]; omega
    have e := pb_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f11 g ⟨n, hk⟩
    have ih := read_o_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f11 g n (by omega)
    rw [e, trip2]
    dsimp only [List.cons_append, List.nil_append]
    by_cases hlt : (y 0).val < 128 * n
    · refine (View.read_writes_cons_unit_of_not_mem arg12.view g _ _ _ y (off4_eq ⟨n, hk⟩) 0 (.inl hlt)).trans ?_
      rw [ih y, if_pos hlt, if_pos (by omega)]
    · by_cases hge : 128 * n + 128 ≤ (y 0).val
      · refine (View.read_writes_cons_unit_of_not_mem arg12.view g _ _ _ y (off4_eq ⟨n, hk⟩) 0 (.inr hge)).trans ?_
        rw [ih y, if_neg hlt, if_neg (by omega)]
      · refine (View.read_writes_cons_unit_of_mem arg12.view g _ _ _ y (ix2 (⟨(y 0).val % 128, Nat.mod_lt _ (by decide)⟩ : Fin 128) (⟨(y 1).val, (y 1).isLt⟩ : Fin 2048)) (off4_eq ⟨n, hk⟩) (fun a => ?_)).trans ?_
        · match a with
          | 0 => show (y 0).val = 128 * n + (y 0).val % 128; omega
          | 1 => show (y 1).val = 0 + (y 1).val; omega
        · rw [if_pos (by omega)]
          unfold oN
          rw [show (y 0).val / 128 = n by omega]
          have el : lds (arg12.view.read (Elt F) (arg12.view.writes (Elt F) g (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f11 g n))) (128 * n) = lds (arg12.view.read (Elt F) g) (128 * n) := by
            funext z
            have z0 : (z 0).val < 128 := (z 0).isLt
            unfold lds
            rw [ih, if_neg]
            show ¬ (128 * n + (z 0).val) % 512 < 128 * n
            omega
          exact congrFun (congrArg (fun q => k0_pay4 (lds (arg2.view.read (Elt F) f2) (128 * n)) q (arg11.view.read (Elt F) f11)) el) _

/-- What the loop leaves of the output tile. -/
theorem read_o (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x512 .f32) (harg16 : arg16.IsWhole) (arg17 : Memref sig .tc .vmem S11x8x512 .f32) (harg17 : arg17.IsWhole) (h : k0_cond3 i = 1#1) (f2 : BufTy.Contents (Elt F) arg2.view.ty) (f11 : BufTy.Contents (Elt F) arg11.view.ty) (g : BufTy.Contents (Elt F) arg12.view.ty) :
    arg12.view.read (Elt F) (arg12.view.writes (Elt F) g (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f11 g k0_t2_loop.trips))
      = oN (arg2.view.read (Elt F) f2) (arg12.view.read (Elt F) g) (arg11.view.read (Elt F) f11) := by
  rw [trips_t2]
  funext y
  rw [read_o_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h f2 f11 g 4 (Nat.le_refl 4) y, if_pos (by have : (y 0).val < 512 := (y 0).isLt; omega)]

end Cert.FfnIdeal.Hand

end
-- ==== Proof.FfnIdealParts.lean ====
module

public import proofs.«01_k».proof.Proof.FfnIdealStrip
public import proofs.«01_k».proof.Proof.Gen.FfnIdeal.Skeleton
public import proofs.«01_k».proof.Proof.Gen.FfnIdeal.Loops
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first strip's rows and the second strip's first half. -/
theorem part2 (c : Dev nD) (E : Set ℕ) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x512 .f32) (harg16 : arg16.IsWhole) (arg17 : Memref sig .tc .vmem S11x8x512 .f32) (harg17 : arg17.IsWhole) (wa : Vec F S1x2048x512 .bf16) (wv : Vec F S1x2048x512 .bf16) (cv : Vec F S1x3x512 .f32) (ba : Vec F S1x1x512 .f32) (bv : Vec F S1x1x512 .f32) (h : Vec F S512x2048 .bf16) (za : Vec F S520x512 .f32) (zv : Vec F S520x512 .f32) (n : ℕ) (hn : n < 11) (h3 : k0_off3 i = ![n, 0, 0]) (h2 : k0_off2 i = ![n, 0, 0]) (K : (Σ' (v31 : FVec F S3x512 .f32) (v33 : FVec F S1x512 .f32) (v35 : FVec F S1x512 .f32), Vec F S256x2048 .bf16) → sProp 𝕄) :
    iprop(owns (c : Thread nD τ) arg4 fullShare wa ∗ owns (c : Thread nD τ) arg5 fullShare wv ∗ owns (c : Thread nD τ) arg7 fullShare cv ∗ owns (c : Thread nD τ) arg8 fullShare ba ∗ owns (c : Thread nD τ) arg9 fullShare bv ∗ owns (c : Thread nD τ) arg13 fullShare h ∗ owns (c : Thread nD τ) arg14 fullShare za ∗ owns (c : Thread nD τ) arg15 fullShare zv
      ∗ (iprop(owns (c : Thread nD τ) arg4 fullShare wa ∗ owns (c : Thread nD τ) arg5 fullShare wv ∗ owns (c : Thread nD τ) arg7 fullShare cv ∗ owns (c : Thread nD τ) arg8 fullShare ba ∗ owns (c : Thread nD τ) arg9 fullShare bv ∗ owns (c : Thread nD τ) arg13 fullShare h ∗ owns (c : Thread nD τ) arg14 fullShare (upz (upz za 8 (k0_pay15 (ldr h 0) wa)) 264 (k0_pay17 (ldr h 256) wa)) ∗ owns (c : Thread nD τ) arg15 fullShare (upz zv 8 (k0_pay16 (ldr h 0) wv))) -∗ K ⟨k0_pay12 cv, k0_pay13 ba, k0_pay14 bv, ldr h 256⟩))
    ⊢ wp frame (wpE (defs₀ (F := F)) Variants.none c none) E (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f4, %hf4, H4⟩, ⟨%f5, %hf5, H5⟩, ⟨%f7, %hf7, H7⟩, ⟨%f8, %hf8, H8⟩, ⟨%f9, %hf9, H9⟩, ⟨%f13, %hf13, H13⟩, ⟨%f14, %hf14, H14⟩, ⟨%f15, %hf15, H15⟩, Hk⟩
  subst hf4 hf5 hf7 hf8 hf9 hf13 hf14 hf15
  rw [k0_part2_eq_skeleton]; unfold k0_part2_skel
  sl_exec
  sl_step
  simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
  iapply Hk
  isplitl [H4]
  · iexists _; isplitr
    swap; · iexact H4
    ipureintro
    rfl
  isplitl [H5]
  · iexists _; isplitr
    swap; · iexact H5
    ipureintro
    rfl
  isplitl [H7]
  · iexists _; isplitr
    swap; · iexact H7
    ipureintro
    rfl
  isplitl [H8]
  · iexists _; isplitr
    swap; · iexact H8
    ipureintro
    rfl
  isplitl [H9]
  · iexists _; isplitr
    swap; · iexact H9
    ipureintro
    rfl
  isplitl [H13]
  · iexists _; isplitr
    swap; · iexact H13
    ipureintro
    rfl
  isplitl [H14]
  · iexists _; isplitr
    swap; · iexact H14
    ipureintro
    try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
  iexists _; isplitr
  swap; · iexact H15
  ipureintro
  try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]

set_option maxHeartbeats 4000000 in
/-- The second strip's rows; the first strip convolved and gated. -/
theorem part3 (c : Dev nD) (E : Set ℕ) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x512 .f32) (harg16 : arg16.IsWhole) (arg17 : Memref sig .tc .vmem S11x8x512 .f32) (harg17 : arg17.IsWhole) (wv : Vec F S1x2048x512 .bf16) (za : Vec F S520x512 .f32) (zv : Vec F S520x512 .f32) (v29 : FVec F S3x512 .f32) (v31 : FVec F S3x512 .f32) (v33 : FVec F S1x512 .f32) (v35 : FVec F S1x512 .f32) (v49 : Vec F S256x2048 .bf16) (n : ℕ) (hn : n < 11) (h3 : k0_off3 i = ![n, 0, 0]) (h2 : k0_off2 i = ![n, 0, 0]) (K : FVec F S256x512 .bf16 → sProp 𝕄) :
    iprop(owns (c : Thread nD τ) arg5 fullShare wv ∗ owns (c : Thread nD τ) arg14 fullShare za ∗ owns (c : Thread nD τ) arg15 fullShare zv
      ∗ (iprop(owns (c : Thread nD τ) arg5 fullShare wv ∗ owns (c : Thread nD τ) arg14 fullShare za ∗ owns (c : Thread nD τ) arg15 fullShare (upz zv 264 (k0_pay18 v49 wv))) -∗ K (k0_pay19 v29 v31 v33 v35 (ldz za 8) (ldz za 7) (ldz za 6) (ldz (upz zv 264 (k0_pay18 v49 wv)) 8) (ldz (upz zv 264 (k0_pay18 v49 wv)) 7) (ldz (upz zv 264 (k0_pay18 v49 wv)) 6))))
    ⊢ wp frame (wpE (defs₀ (F := F)) Variants.none c none) E (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v29 v31 v33 v35 v49) K := by
  unfold owns
  iintro ⟨⟨%f5, %hf5, H5⟩, ⟨%f14, %hf14, H14⟩, ⟨%f15, %hf15, H15⟩, Hk⟩
  subst hf5 hf14 hf15
  rw [k0_part3_eq_skeleton]; unfold k0_part3_skel
  sl_exec
  sl_step
  delta part3.sl.v78 part3.sl.v79 part3.sl.v80
  simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
  iapply Hk
  isplitl [H5]
  · iexists _; isplitr
    swap; · iexact H5
    ipureintro
    rfl
  isplitl [H14]
  · iexists _; isplitr
    swap; · iexact H14
    ipureintro
    rfl
  iexists _; isplitr
  swap; · iexact H15
  ipureintro
  try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]

set_option maxHeartbeats 4000000 in
/-- The first strip's product added; the second strip convolved and gated. -/
theorem part4 (c : Dev nD) (E : Set ℕ) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x512 .f32) (harg16 : arg16.IsWhole) (arg17 : Memref sig .tc .vmem S11x8x512 .f32) (harg17 : arg17.IsWhole) (wd : Vec F S1x512x2048 .bf16) (o : Vec F S512x2048 .f32) (za : Vec F S520x512 .f32) (zv : Vec F S520x512 .f32) (v29 : FVec F S3x512 .f32) (v31 : FVec F S3x512 .f32) (v33 : FVec F S1x512 .f32) (v35 : FVec F S1x512 .f32) (v97 : FVec F S256x512 .bf16) (n : ℕ) (hn : n < 11) (h3 : k0_off3 i = ![n, 0, 0]) (h2 : k0_off2 i = ![n, 0, 0]) (K : (Σ' (v136 : FVec F S256x512 .f32), FVec F S256x512 .f32) → sProp 𝕄) :
    iprop(owns (c : Thread nD τ) arg10 fullShare wd ∗ owns (c : Thread nD τ) arg12 fullShare o ∗ owns (c : Thread nD τ) arg14 fullShare za ∗ owns (c : Thread nD τ) arg15 fullShare zv
      ∗ (iprop(owns (c : Thread nD τ) arg10 fullShare wd ∗ owns (c : Thread nD τ) arg12 fullShare (upr o 0 (k0_pay20 v97 (ldr o 0) wd)) ∗ owns (c : Thread nD τ) arg14 fullShare za ∗ owns (c : Thread nD τ) arg15 fullShare zv) -∗ K ⟨k0_pay21 v31 v35 (ldz zv 264) (ldz zv 263) (ldz zv 262), k0_pay22 v29 v33 (ldz za 264) (ldz za 263) (ldz za 262)⟩))
    ⊢ wp frame (wpE (defs₀ (F := F)) Variants.none c none) E (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v29 v31 v33 v35 v97) K := by
  unfold owns
  iintro ⟨⟨%f10, %hf10, H10⟩, ⟨%f12, %hf12, H12⟩, ⟨%f14, %hf14, H14⟩, ⟨%f15, %hf15, H15⟩, Hk⟩
  subst hf10 hf12 hf14 hf15
  rw [k0_part4_eq_skeleton]; unfold k0_part4_skel
  sl_exec
  sl_step
  simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
  iapply Hk
  isplitl [H10]
  · iexists _; isplitr
    swap; · iexact H10
    ipureintro
    rfl
  isplitl [H12]
  · iexists _; isplitr
    swap; · iexact H12
    ipureintro
    try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
  isplitl [H14]
  · iexists _; isplitr
    swap; · iexact H14
    ipureintro
    rfl
  iexists _; isplitr
  swap; · iexact H15
  ipureintro
  rfl

set_option maxHeartbeats 4000000 in
/-- The row tile's start: the rows normalised, the accumulator cleared, the kept rows put in front. -/
theorem part1 (c : Dev nD) (E : Set ℕ) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x512 .f32) (harg16 : arg16.IsWhole) (arg17 : Memref sig .tc .vmem S11x8x512 .f32) (harg17 : arg17.IsWhole) (x : Vec F S512x2048 .f32) (g : Vec F S1x2048 .f32) (ca : Vec F S1x3x512 .f32) (o : Vec F S512x2048 .f32) (h : Vec F S512x2048 .bf16) (za : Vec F S520x512 .f32) (zv : Vec F S520x512 .f32) (ha : Vec F S11x8x512 .f32) (hv : Vec F S11x8x512 .f32) (n : ℕ) (hn : n < 11) (h3 : k0_off3 i = ![n, 0, 0]) (h2 : k0_off2 i = ![n, 0, 0]) (K : (Σ' (arg1 : BitVec 32), FVec F S3x512 .f32) → sProp 𝕄) :
    iprop(owns (c : Thread nD τ) arg2 fullShare x ∗ owns (c : Thread nD τ) arg3 fullShare g ∗ owns (c : Thread nD τ) arg6 fullShare ca ∗ owns (c : Thread nD τ) arg12 fullShare o ∗ owns (c : Thread nD τ) arg13 fullShare h ∗ owns (c : Thread nD τ) arg14 fullShare za ∗ owns (c : Thread nD τ) arg15 fullShare zv ∗ owns (c : Thread nD τ) arg16 fullShare ha ∗ owns (c : Thread nD τ) arg17 fullShare hv
      ∗ (iprop(owns (c : Thread nD τ) arg2 fullShare x ∗ owns (c : Thread nD τ) arg3 fullShare g ∗ owns (c : Thread nD τ) arg6 fullShare ca ∗ owns (c : Thread nD τ) arg12 fullShare (if k0_cond1 i = 1#1 then k0_pay6 else o) ∗ owns (c : Thread nD τ) arg13 fullShare (if k0_cond1 i = 1#1 then hN x g else h) ∗ owns (c : Thread nD τ) arg14 fullShare (upt za (k0_pay9 (ldh (if k0_cond2 i = 1#1 then uph ha n k0_pay7 else ha) n))) ∗ owns (c : Thread nD τ) arg15 fullShare (upt zv (k0_pay10 (ldh (if k0_cond2 i = 1#1 then uph hv n k0_pay8 else hv) n))) ∗ owns (c : Thread nD τ) arg16 fullShare (if k0_cond2 i = 1#1 then uph ha n k0_pay7 else ha) ∗ owns (c : Thread nD τ) arg17 fullShare (if k0_cond2 i = 1#1 then uph hv n k0_pay8 else hv)) -∗ K ⟨BitVec.ofNat 32 (i 1).val, k0_pay11 ca⟩))
    ⊢ wp frame (wpE (defs₀ (F := F)) Variants.none c none) E (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f2, %hf2, H2⟩, ⟨%f3, %hf3, H3⟩, ⟨%f6, %hf6, H6⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf2 hf3 hf6 hf12 hf13 hf14 hf15 hf16 hf17
  rw [k0_part1_eq_skeleton]; unfold k0_part1_skel
  by_cases h_c1 : k0_cond1 i = 1#1
  · rw [dif_pos h_c1]; simp only [if_pos h_c1]
    by_cases h_c2 : k0_cond2 i = 1#1
    · rw [dif_pos h_c2]; simp only [if_pos h_c2]
      sl_exec
      sl_step
      simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      iapply Hk
      isplitl [H2]
      · iexists _; isplitr
        swap; · iexact H2
        ipureintro
        rfl
      isplitl [H3]
      · iexists _; isplitr
        swap; · iexact H3
        ipureintro
        rfl
      isplitl [H6]
      · iexists _; isplitr
        swap; · iexact H6
        ipureintro
        rfl
      isplitl [H12]
      · iexists _; isplitr
        swap; · iexact H12
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      isplitl [H13]
      · iexists _; isplitr
        swap; · iexact H13
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        first | exact read_h c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h_c1 f2 f3 f13 | rfl
      isplitl [H14]
      · iexists _; isplitr
        swap; · iexact H14
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      isplitl [H15]
      · iexists _; isplitr
        swap; · iexact H15
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      isplitl [H16]
      · iexists _; isplitr
        swap; · iexact H16
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      iexists _; isplitr
      swap; · iexact H17
      ipureintro
      try delta part1.sl.v17
      try delta part1.sl.v17_1
      try delta part1.sl.v23
      try delta part1.sl.v23_1
      try delta part1.sl.H16_1
      try delta part1.sl.H17_1
      try delta part1.sl.H16_1_1
      try delta part1.sl.H17_1_1
      try delta View.readCov
      try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
    · rw [dif_neg h_c2]; simp only [if_neg h_c2]
      sl_exec
      sl_step
      simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      iapply Hk
      isplitl [H2]
      · iexists _; isplitr
        swap; · iexact H2
        ipureintro
        rfl
      isplitl [H3]
      · iexists _; isplitr
        swap; · iexact H3
        ipureintro
        rfl
      isplitl [H6]
      · iexists _; isplitr
        swap; · iexact H6
        ipureintro
        rfl
      isplitl [H12]
      · iexists _; isplitr
        swap; · iexact H12
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      isplitl [H13]
      · iexists _; isplitr
        swap; · iexact H13
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        first | exact read_h c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h_c1 f2 f3 f13 | rfl
      isplitl [H14]
      · iexists _; isplitr
        swap; · iexact H14
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      isplitl [H15]
      · iexists _; isplitr
        swap; · iexact H15
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      isplitl [H16]
      · iexists _; isplitr
        swap; · iexact H16
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      iexists _; isplitr
      swap; · iexact H17
      ipureintro
      try delta part1.sl.v17
      try delta part1.sl.v17_1
      try delta part1.sl.v23
      try delta part1.sl.v23_1
      try delta part1.sl.H16_1
      try delta part1.sl.H17_1
      try delta part1.sl.H16_1_1
      try delta part1.sl.H17_1_1
      try delta View.readCov
      try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
  · rw [dif_neg h_c1]; simp only [if_neg h_c1]
    by_cases h_c2 : k0_cond2 i = 1#1
    · rw [dif_pos h_c2]; simp only [if_pos h_c2]
      sl_exec
      sl_step
      simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      iapply Hk
      isplitl [H2]
      · iexists _; isplitr
        swap; · iexact H2
        ipureintro
        rfl
      isplitl [H3]
      · iexists _; isplitr
        swap; · iexact H3
        ipureintro
        rfl
      isplitl [H6]
      · iexists _; isplitr
        swap; · iexact H6
        ipureintro
        rfl
      isplitl [H12]
      · iexists _; isplitr
        swap; · iexact H12
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      isplitl [H13]
      · iexists _; isplitr
        swap; · iexact H13
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        first | exact read_h c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h_c1 f2 f3 f13 | rfl
      isplitl [H14]
      · iexists _; isplitr
        swap; · iexact H14
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      isplitl [H15]
      · iexists _; isplitr
        swap; · iexact H15
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      isplitl [H16]
      · iexists _; isplitr
        swap; · iexact H16
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      iexists _; isplitr
      swap; · iexact H17
      ipureintro
      try delta part1.sl.v17
      try delta part1.sl.v17_1
      try delta part1.sl.v23
      try delta part1.sl.v23_1
      try delta part1.sl.H16_1
      try delta part1.sl.H17_1
      try delta part1.sl.H16_1_1
      try delta part1.sl.H17_1_1
      try delta View.readCov
      try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
    · rw [dif_neg h_c2]; simp only [if_neg h_c2]
      sl_exec
      sl_step
      simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      iapply Hk
      isplitl [H2]
      · iexists _; isplitr
        swap; · iexact H2
        ipureintro
        rfl
      isplitl [H3]
      · iexists _; isplitr
        swap; · iexact H3
        ipureintro
        rfl
      isplitl [H6]
      · iexists _; isplitr
        swap; · iexact H6
        ipureintro
        rfl
      isplitl [H12]
      · iexists _; isplitr
        swap; · iexact H12
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      isplitl [H13]
      · iexists _; isplitr
        swap; · iexact H13
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        first | exact read_h c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h_c1 f2 f3 f13 | rfl
      isplitl [H14]
      · iexists _; isplitr
        swap; · iexact H14
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      isplitl [H15]
      · iexists _; isplitr
        swap; · iexact H15
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      isplitl [H16]
      · iexists _; isplitr
        swap; · iexact H16
        ipureintro
        try delta part1.sl.v17
        try delta part1.sl.v17_1
        try delta part1.sl.v23
        try delta part1.sl.v23_1
        try delta part1.sl.H16_1
        try delta part1.sl.H17_1
        try delta part1.sl.H16_1_1
        try delta part1.sl.H17_1_1
        try delta View.readCov
        try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]
      iexists _; isplitr
      swap; · iexact H17
      ipureintro
      try delta part1.sl.v17
      try delta part1.sl.v17_1
      try delta part1.sl.v23
      try delta part1.sl.v23_1
      try delta part1.sl.H16_1
      try delta part1.sl.H17_1
      try delta part1.sl.H16_1_1
      try delta part1.sl.H17_1_1
      try delta View.readCov
      try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8]

end Cert.FfnIdeal.Hand

end
-- ==== Proof.FfnIdealBody.lean ====
module

public import proofs.«01_k».proof.Proof.FfnIdealParts
public import proofs.«01_k».proof.Proof.Gen.FfnIdeal.Skeleton
public import proofs.«01_k».proof.Proof.Gen.FfnIdeal.Loops
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first half of the staged rows after a point's two products: the kept rows, then the two strips. -/
def zA (za : Vec F S520x512 .f32) (b : Vec F S1x8x512 .f32) (h : Vec F S512x2048 .bf16) (wa : Vec F S1x2048x512 .bf16) : Vec F S520x512 .f32 :=
  upz (upz (upt za (k0_pay9 b)) 8 (k0_pay15 (ldr h 0) wa)) 264 (k0_pay17 (ldr h 256) wa)
/-- The other half. -/
def zV (zv : Vec F S520x512 .f32) (b : Vec F S1x8x512 .f32) (h : Vec F S512x2048 .bf16) (wv : Vec F S1x2048x512 .bf16) : Vec F S520x512 .f32 :=
  upz (upz (upt zv (k0_pay10 b)) 8 (k0_pay16 (ldr h 0) wv)) 264 (k0_pay18 (ldr h 256) wv)
/-- The output tile after a point: what it held plus the point's share. -/
def oP (o : Vec F S512x2048 .f32) (za zv : Vec F S520x512 .f32) (ca cv : Vec F S1x3x512 .f32) (ba bv : Vec F S1x1x512 .f32) (wd : Vec F S1x512x2048 .bf16) : Vec F S512x2048 .f32 :=
  upr (upr o 0 (k0_pay20 (k0_pay19 (k0_pay11 ca) (k0_pay12 cv) (k0_pay13 ba) (k0_pay14 bv) (ldz za 8) (ldz za 7) (ldz za 6) (ldz zv 8) (ldz zv 7) (ldz zv 6)) (ldr o 0) wd))
    256 (k0_pay1 (k0_pay21 (k0_pay12 cv) (k0_pay14 bv) (ldz zv 264) (ldz zv 263) (ldz zv 262)) (k0_pay22 (k0_pay11 ca) (k0_pay13 ba) (ldz za 264) (ldz za 263) (ldz za 262))
      (ldr (upr o 0 (k0_pay20 (k0_pay19 (k0_pay11 ca) (k0_pay12 cv) (k0_pay13 ba) (k0_pay14 bv) (ldz za 8) (ldz za 7) (ldz za 6) (ldz zv 8) (ldz zv 7) (ldz zv 6)) (ldr o 0) wd)) 256) wd)

set_option maxHeartbeats 8000000 in
/-- The body on its buffers held whole. -/
theorem body_sound (c : Dev nD) (E : Set ℕ) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S520x512 .f32) (harg14 : arg14.IsWhole) (arg15 : Memref sig .tc .vmem S520x512 .f32) (harg15 : arg15.IsWhole) (arg16 : Memref sig .tc .vmem S11x8x512 .f32) (harg16 : arg16.IsWhole) (arg17 : Memref sig .tc .vmem S11x8x512 .f32) (harg17 : arg17.IsWhole) (x : Vec F S512x2048 .f32) (g : Vec F S1x2048 .f32) (wa : Vec F S1x2048x512 .bf16) (wv : Vec F S1x2048x512 .bf16) (ca : Vec F S1x3x512 .f32) (cv : Vec F S1x3x512 .f32) (ba : Vec F S1x1x512 .f32) (bv : Vec F S1x1x512 .f32) (wd : Vec F S1x512x2048 .bf16) (gp : Vec F S1x2048 .f32) (o : Vec F S512x2048 .f32) (h : Vec F S512x2048 .bf16) (za : Vec F S520x512 .f32) (zv : Vec F S520x512 .f32) (ha : Vec F S11x8x512 .f32) (hv : Vec F S11x8x512 .f32) (n : ℕ) (hn : n < 11) (h3 : k0_off3 i = ![n, 0, 0]) (h2 : k0_off2 i = ![n, 0, 0]) (K : PUnit → sProp 𝕄) :
    iprop(owns (c : Thread nD τ) arg2 fullShare x ∗ owns (c : Thread nD τ) arg3 fullShare g ∗ owns (c : Thread nD τ) arg4 fullShare wa ∗ owns (c : Thread nD τ) arg5 fullShare wv ∗ owns (c : Thread nD τ) arg6 fullShare ca ∗ owns (c : Thread nD τ) arg7 fullShare cv ∗ owns (c : Thread nD τ) arg8 fullShare ba ∗ owns (c : Thread nD τ) arg9 fullShare bv ∗ owns (c : Thread nD τ) arg10 fullShare wd ∗ owns (c : Thread nD τ) arg11 fullShare gp ∗ owns (c : Thread nD τ) arg12 fullShare o ∗ owns (c : Thread nD τ) arg13 fullShare h ∗ owns (c : Thread nD τ) arg14 fullShare za ∗ owns (c : Thread nD τ) arg15 fullShare zv ∗ owns (c : Thread nD τ) arg16 fullShare ha ∗ owns (c : Thread nD τ) arg17 fullShare hv
      ∗ (iprop(owns (c : Thread nD τ) arg2 fullShare x ∗ owns (c : Thread nD τ) arg3 fullShare g ∗ owns (c : Thread nD τ) arg4 fullShare wa ∗ owns (c : Thread nD τ) arg5 fullShare wv ∗ owns (c : Thread nD τ) arg6 fullShare ca ∗ owns (c : Thread nD τ) arg7 fullShare cv ∗ owns (c : Thread nD τ) arg8 fullShare ba ∗ owns (c : Thread nD τ) arg9 fullShare bv ∗ owns (c : Thread nD τ) arg10 fullShare wd ∗ owns (c : Thread nD τ) arg11 fullShare gp ∗ owns (c : Thread nD τ) arg12 fullShare (if k0_cond3 i = 1#1 then oN x (oP (if k0_cond1 i = 1#1 then k0_pay6 else o) (zA za (ldh (if k0_cond2 i = 1#1 then uph ha n k0_pay7 else ha) n) (if k0_cond1 i = 1#1 then hN x g else h) wa) (zV zv (ldh (if k0_cond2 i = 1#1 then uph hv n k0_pay8 else hv) n) (if k0_cond1 i = 1#1 then hN x g else h) wv) ca cv ba bv wd) gp else (oP (if k0_cond1 i = 1#1 then k0_pay6 else o) (zA za (ldh (if k0_cond2 i = 1#1 then uph ha n k0_pay7 else ha) n) (if k0_cond1 i = 1#1 then hN x g else h) wa) (zV zv (ldh (if k0_cond2 i = 1#1 then uph hv n k0_pay8 else hv) n) (if k0_cond1 i = 1#1 then hN x g else h) wv) ca cv ba bv wd)) ∗ owns (c : Thread nD τ) arg13 fullShare (if k0_cond1 i = 1#1 then hN x g else h) ∗ owns (c : Thread nD τ) arg14 fullShare (zA za (ldh (if k0_cond2 i = 1#1 then uph ha n k0_pay7 else ha) n) (if k0_cond1 i = 1#1 then hN x g else h) wa) ∗ owns (c : Thread nD τ) arg15 fullShare (zV zv (ldh (if k0_cond2 i = 1#1 then uph hv n k0_pay8 else hv) n) (if k0_cond1 i = 1#1 then hN x g else h) wv) ∗ owns (c : Thread nD τ) arg16 fullShare (uph (if k0_cond2 i = 1#1 then uph ha n k0_pay7 else ha) n (k0_pay2 (ldt (zA za (ldh (if k0_cond2 i = 1#1 then uph ha n k0_pay7 else ha) n) (if k0_cond1 i = 1#1 then hN x g else h) wa)))) ∗ owns (c : Thread nD τ) arg17 fullShare (uph (if k0_cond2 i = 1#1 then uph hv n k0_pay8 else hv) n (k0_pay3 (ldt (zV zv (ldh (if k0_cond2 i = 1#1 then uph hv n k0_pay8 else hv) n) (if k0_cond1 i = 1#1 then hN x g else h) wv))))) -∗ K ⟨⟩))
    ⊢ wp frame (wpE (defs₀ (F := F)) Variants.none c none) E (cc0_convglu_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_convglu_ffn_eq_skeleton]; unfold cc0_convglu_ffn_skel
  generalize hh1 : (if k0_cond1 i = 1#1 then hN x g else h) = h1
  generalize ho1 : (if k0_cond1 i = 1#1 then k0_pay6 else o) = o1
  generalize hha1 : (if k0_cond2 i = 1#1 then uph ha n k0_pay7 else ha) = ha1
  generalize hhv1 : (if k0_cond2 i = 1#1 then uph hv n k0_pay8 else hv) = hv1
  unfold zA zV oP
  iintro ⟨H2, H3, H4, H5, H6, H7, H8, H9, H10, H11, H12, H13, H14, H15, H16, H17, Hk⟩
  try simp only [wp_bind]
  iapply (part1 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x g ca o h za zv ha hv n hn h3 h2 _)
  isplitl [H2]; · iexact H2
  isplitl [H3]; · iexact H3
  isplitl [H6]; · iexact H6
  isplitl [H12]; · iexact H12
  isplitl [H13]; · iexact H13
  isplitl [H14]; · iexact H14
  isplitl [H15]; · iexact H15
  isplitl [H16]; · iexact H16
  isplitl [H17]; · iexact H17
  iintro ⟨H2, H3, H6, H12, H13, H14, H15, H16, H17⟩
  rw [hh1, ho1, hha1, hhv1]
  dsimp only
  try simp only [wp_bind]
  iapply (part2 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ n hn h3 h2 _)
  isplitl [H4]; · iexact H4
  isplitl [H5]; · iexact H5
  isplitl [H7]; · iexact H7
  isplitl [H8]; · iexact H8
  isplitl [H9]; · iexact H9
  isplitl [H13]; · iexact H13
  isplitl [H14]; · iexact H14
  isplitl [H15]; · iexact H15
  iintro ⟨H4, H5, H7, H8, H9, H13, H14, H15⟩
  dsimp only
  try simp only [wp_bind]
  iapply (part3 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ n hn h3 h2 _)
  isplitl [H5]; · iexact H5
  isplitl [H14]; · iexact H14
  isplitl [H15]; · iexact H15
  iintro ⟨H5, H14, H15⟩
  try simp only [wp_bind]
  iapply (part4 c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ n hn h3 h2 _)
  isplitl [H10]; · iexact H10
  isplitl [H12]; · iexact H12
  isplitl [H14]; · iexact H14
  isplitl [H15]; · iexact H15
  iintro ⟨H10, H12, H14, H15⟩
  dsimp only
  unfold owns
  icases H2 with ⟨%f2, %hf2, H2⟩
  icases H10 with ⟨%f10, %hf10, H10⟩
  icases H11 with ⟨%f11, %hf11, H11⟩
  icases H12 with ⟨%f12, %hf12, H12⟩
  icases H14 with ⟨%f14, %hf14, H14⟩
  icases H15 with ⟨%f15, %hf15, H15⟩
  icases H16 with ⟨%f16, %hf16, H16⟩
  icases H17 with ⟨%f17, %hf17, H17⟩
  by_cases h_c3 : k0_cond3 i = 1#1
  · rw [dif_pos h_c3]; simp only [if_pos h_c3]
    sl_exec
    sl_step
    iapply Hk
    isplitl [H2]
    · iexists _; isplitr
      swap; · iexact H2
      ipureintro
      exact hf2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr
      swap; · iexact H10
      ipureintro
      exact hf10
    isplitl [H11]
    · iexists _; isplitr
      swap; · iexact H11
      ipureintro
      exact hf11
    isplitl [H12]
    · iexists _; isplitr
      swap; · iexact H12
      ipureintro
      rw [View.writes_append]
      refine (read_o c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h_c3 f2 f11 _).trans ?_
      try delta body_sound.sl.r_1
      try delta body_sound.sl.r_2
      try delta body_sound.sl.r_3
      try delta body_sound.sl.r_4
      try delta body_sound.sl.r_5
      try delta body_sound.sl.r_6
      try delta body_sound.sl.r_7
      try delta body_sound.sl.r_8
      try delta body_sound.sl.r_9
      try delta body_sound.sl.r_10
      try delta body_sound.sl.r_11
      try delta body_sound.sl.r_12
      try delta body_sound.sl.r_13
      try delta body_sound.sl.r
      try delta body_sound.sl.H12_1
      try delta body_sound.sl.H12
      try delta body_sound.sl.v141
      try delta body_sound.sl.v148
      try delta body_sound.sl.v153
      try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8, hf2, hf10, hf11, hf12, hf14, hf15, hf16, hf17]
    isplitl [H13]; · iexact H13
    isplitl [H14]
    · iexists _; isplitr
      swap; · iexact H14
      ipureintro
      exact hf14
    isplitl [H15]
    · iexists _; isplitr
      swap; · iexact H15
      ipureintro
      exact hf15
    isplitl [H16]
    · iexists _; isplitr
      swap; · iexact H16
      ipureintro
      try delta body_sound.sl.r_1
      try delta body_sound.sl.r_2
      try delta body_sound.sl.r_3
      try delta body_sound.sl.r_4
      try delta body_sound.sl.r_5
      try delta body_sound.sl.r_6
      try delta body_sound.sl.r_7
      try delta body_sound.sl.r_8
      try delta body_sound.sl.r_9
      try delta body_sound.sl.r_10
      try delta body_sound.sl.r_11
      try delta body_sound.sl.r_12
      try delta body_sound.sl.r_13
      try delta body_sound.sl.r
      try delta body_sound.sl.H12_1
      try delta body_sound.sl.H12
      try delta body_sound.sl.v141
      try delta body_sound.sl.v148
      try delta body_sound.sl.v153
      try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8, hf2, hf10, hf11, hf12, hf14, hf15, hf16, hf17]
    iexists _; isplitr
    swap; · iexact H17
    ipureintro
    try delta body_sound.sl.r_1
    try delta body_sound.sl.r_2
    try delta body_sound.sl.r_3
    try delta body_sound.sl.r_4
    try delta body_sound.sl.r_5
    try delta body_sound.sl.r_6
    try delta body_sound.sl.r_7
    try delta body_sound.sl.r_8
    try delta body_sound.sl.r_9
    try delta body_sound.sl.r_10
    try delta body_sound.sl.r_11
    try delta body_sound.sl.r_12
    try delta body_sound.sl.r_13
    try delta body_sound.sl.r
    try delta body_sound.sl.H12_1
    try delta body_sound.sl.H12
    try delta body_sound.sl.v141
    try delta body_sound.sl.v148
    try delta body_sound.sl.v153
    try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8, hf2, hf10, hf11, hf12, hf14, hf15, hf16, hf17]
  · rw [dif_neg h_c3]; simp only [if_neg h_c3]
    sl_exec
    sl_step
    iapply Hk
    isplitl [H2]
    · iexists _; isplitr
      swap; · iexact H2
      ipureintro
      exact hf2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr
      swap; · iexact H10
      ipureintro
      exact hf10
    isplitl [H11]
    · iexists _; isplitr
      swap; · iexact H11
      ipureintro
      exact hf11
    isplitl [H12]
    · iexists _; isplitr
      swap; · iexact H12
      ipureintro
      try delta body_sound.sl.r_1
      try delta body_sound.sl.r_2
      try delta body_sound.sl.r_3
      try delta body_sound.sl.r_4
      try delta body_sound.sl.r_5
      try delta body_sound.sl.r_6
      try delta body_sound.sl.r_7
      try delta body_sound.sl.r_8
      try delta body_sound.sl.r_9
      try delta body_sound.sl.r_10
      try delta body_sound.sl.r_11
      try delta body_sound.sl.r_12
      try delta body_sound.sl.r_13
      try delta body_sound.sl.r
      try delta body_sound.sl.H12_1
      try delta body_sound.sl.H12
      try delta body_sound.sl.v141
      try delta body_sound.sl.v148
      try delta body_sound.sl.v153
      try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8, hf2, hf10, hf11, hf12, hf14, hf15, hf16, hf17]
    isplitl [H13]; · iexact H13
    isplitl [H14]
    · iexists _; isplitr
      swap; · iexact H14
      ipureintro
      exact hf14
    isplitl [H15]
    · iexists _; isplitr
      swap; · iexact H15
      ipureintro
      exact hf15
    isplitl [H16]
    · iexists _; isplitr
      swap; · iexact H16
      ipureintro
      try delta body_sound.sl.r_1
      try delta body_sound.sl.r_2
      try delta body_sound.sl.r_3
      try delta body_sound.sl.r_4
      try delta body_sound.sl.r_5
      try delta body_sound.sl.r_6
      try delta body_sound.sl.r_7
      try delta body_sound.sl.r_8
      try delta body_sound.sl.r_9
      try delta body_sound.sl.r_10
      try delta body_sound.sl.r_11
      try delta body_sound.sl.r_12
      try delta body_sound.sl.r_13
      try delta body_sound.sl.r
      try delta body_sound.sl.H12_1
      try delta body_sound.sl.H12
      try delta body_sound.sl.v141
      try delta body_sound.sl.v148
      try delta body_sound.sl.v153
      try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8, hf2, hf10, hf11, hf12, hf14, hf15, hf16, hf17]
    iexists _; isplitr
    swap; · iexact H17
    ipureintro
    try delta body_sound.sl.r_1
    try delta body_sound.sl.r_2
    try delta body_sound.sl.r_3
    try delta body_sound.sl.r_4
    try delta body_sound.sl.r_5
    try delta body_sound.sl.r_6
    try delta body_sound.sl.r_7
    try delta body_sound.sl.r_8
    try delta body_sound.sl.r_9
    try delta body_sound.sl.r_10
    try delta body_sound.sl.r_11
    try delta body_sound.sl.r_12
    try delta body_sound.sl.r_13
    try delta body_sound.sl.r
    try delta body_sound.sl.H12_1
    try delta body_sound.sl.H12
    try delta body_sound.sl.v141
    try delta body_sound.sl.v148
    try delta body_sound.sl.v153
    try simp only [whole_a, whole_b, whole_c, whole_d, whole_e, whole_f, readAt_z, readAt_t, readAt_r, readAt_h _ _ _ n h3, writes_f, writes_z, writes_t, writes_r, writes_h _ _ _ n h3, writes_h _ _ _ n h2, View.writes_nil, read_h, read_o, ldh_uph _ n hn, ldz_hi6, ldz_hi7, ldz_hi8, hf2, hf10, hf11, hf12, hf14, hf15, hf16, hf17]

end Cert.FfnIdeal.Hand

end
-- ==== Proof.FfnIdealFrame.lean ====
module

public import proofs.«01_k».proof.Proof.FfnIdealBody
public import Idealize.ShloMosaic.Lib.Pipeline.TableIdle
public import proofs.«01_k».proof.Proof.Gen.FfnIdeal.Skeleton
public import proofs.«01_k».proof.Proof.Gen.FfnIdeal.Loops
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- A staging buffer filled: 8 kept rows, then two strips of 256. -/
def zF (b : Vec F S8x512 .f32) (p q : Vec F S256x512 .f32) : Vec F S520x512 .f32 := fun y =>
  if (y 0).val < 8 then b (ix2 (⟨(y 0).val % 8, Nat.mod_lt _ (by decide)⟩ : Fin 8) (⟨(y 1).val, (y 1).isLt⟩ : Fin 512))
  else if (y 0).val < 264 then p (ix2 (⟨((y 0).val - 8) % 256, Nat.mod_lt _ (by decide)⟩ : Fin 256) (⟨(y 1).val, (y 1).isLt⟩ : Fin 512))
  else q (ix2 (⟨((y 0).val - 264) % 256, Nat.mod_lt _ (by decide)⟩ : Fin 256) (⟨(y 1).val, (y 1).isLt⟩ : Fin 512))
/-- The last 8 rows of a strip of 256. -/
def tail8 (q : Vec F S256x512 .f32) : Vec F S8x512 .f32 := fun y =>
  q (ix2 (⟨248 + (y 0).val, by have : (y 0).val < 8 := (y 0).isLt; omega⟩ : Fin 256) (⟨(y 1).val, (y 1).isLt⟩ : Fin 512))

theorem fill_eq (z : Vec F S520x512 .f32) (b : Vec F S8x512 .f32) (p q : Vec F S256x512 .f32) : upz (upz (upt z b) 8 p) 264 q = zF b p q := by
  funext y
  have y0 : (y 0).val < 520 := (y 0).isLt
  unfold upz upt zF
  by_cases h1 : (y 0).val < 8
  · rw [if_neg (by omega), if_neg (by omega), if_pos h1, if_pos h1]
  · by_cases h2 : (y 0).val < 264
    · rw [if_neg (by omega), if_pos (by omega), if_neg h1, if_pos h2]
    · rw [if_pos (by omega), if_neg h1, if_neg h2]

theorem ldt_zF (b : Vec F S8x512 .f32) (p q : Vec F S256x512 .f32) : ldt (zF b p q) = tail8 q := by
  funext y
  have y0 : (y 0).val < 8 := (y 0).isLt
  unfold ldt zF tail8
  refine (if_neg (show ¬ 512 + (y 0).val < 8 by omega)).trans ((if_neg (show ¬ 512 + (y 0).val < 264 by omega)).trans ?_)
  congr 1
  funext a
  refine Fin.ext ?_
  match a with
  | 0 => show (512 + (y 0).val - 264) % 256 = 248 + (y 0).val; omega
  | 1 => rfl

theorem ldh_uph_ne (x : Vec F S11x8x512 .f32) (n k : ℕ) (hk : k < 11) (hne : k ≠ n) (v : Vec F S1x8x512 .f32) : ldh (uph x n v) k = ldh x k := by
  funext y
  unfold ldh uph
  exact if_neg (show ¬ k % 11 = n by omega)

/-- Point `n`, counted round. -/
abbrev pt (n : ℕ) : Fin cfg0.N := ⟨n % cfg0.N, Nat.mod_lt _ (by decide +kernel)⟩
theorem pt_val (t : Fin cfg0.N) : pt t.val = t := Fin.ext (Nat.mod_eq_of_lt t.isLt)
theorem N_eq : cfg0.N = 352 := N_0
/-- The point of the row tile before, at the same columns. -/
abbrev back (t : Fin cfg0.N) : Fin cfg0.N := ⟨t.val - 11, Nat.lt_of_le_of_lt (Nat.sub_le _ _) t.isLt⟩

/-- The normalised rows of the point's row tile. -/
def H (c : Dev nD) (t : Fin cfg0.N) : Vec F S512x2048 .bf16 := hN (iblk m c 0 t) (iblk m c 1 t)
/-- The rows the point keeps for the row tile after: the last 8 of its product. -/
def TA (c : Dev nD) (t : Fin cfg0.N) : Vec F S1x8x512 .f32 := k0_pay2 (tail8 (k0_pay17 (ldr (H m c t) 256) (iblk m c 2 t)))
def TV (c : Dev nD) (t : Fin cfg0.N) : Vec F S1x8x512 .f32 := k0_pay3 (tail8 (k0_pay18 (ldr (H m c t) 256) (iblk m c 3 t)))
/-- The rows the point finds: zeros at a sequence's start, else those the row tile before kept. -/
def BA (c : Dev nD) (t : Fin cfg0.N) : Vec F S1x8x512 .f32 := if t.val / 11 % 8 = 0 then k0_pay7 else TA m c (back t)
def BV (c : Dev nD) (t : Fin cfg0.N) : Vec F S1x8x512 .f32 := if t.val / 11 % 8 = 0 then k0_pay8 else TV m c (back t)
/-- The staged products of the point. -/
def ZA (c : Dev nD) (t : Fin cfg0.N) : Vec F S520x512 .f32 :=
  zF (k0_pay9 (BA m c t)) (k0_pay15 (ldr (H m c t) 0) (iblk m c 2 t)) (k0_pay17 (ldr (H m c t) 256) (iblk m c 2 t))
def ZV (c : Dev nD) (t : Fin cfg0.N) : Vec F S520x512 .f32 :=
  zF (k0_pay10 (BV m c t)) (k0_pay16 (ldr (H m c t) 0) (iblk m c 3 t)) (k0_pay18 (ldr (H m c t) 256) (iblk m c 3 t))
/-- The point's share added to what the tile held. -/
def PC (c : Dev nD) (t : Fin cfg0.N) (o : Vec F S512x2048 .f32) : Vec F S512x2048 .f32 :=
  oP o (ZA m c t) (ZV m c t) (iblk m c 4 t) (iblk m c 5 t) (iblk m c 6 t) (iblk m c 7 t) (iblk m c 8 t)
/-- The tile after `n + 1` points, before it is finished. -/
def ACC (c : Dev nD) : ℕ → Vec F S512x2048 .f32
  | 0 => PC m c (pt 0) k0_pay6
  | n + 1 => PC m c (pt (n + 1)) (if (n + 1) % 11 = 0 then k0_pay6 else ACC c n)
/-- The tile a point leaves. -/
def OUT (c : Dev nD) (t : Fin cfg0.N) : Vec F S512x2048 .f32 :=
  if t.val % 11 = 10 then oN (iblk m c 0 t) (ACC m c t.val) (iblk m c 9 t) else ACC m c t.val
/-- The tile a point finds. -/
def O1 (c : Dev nD) (t : Fin cfg0.N) : Vec F S512x2048 .f32 :=
  if t.val % 11 = 0 then k0_pay6 else ACC m c (t.val - 1)

theorem ACC_eq (c : Dev nD) (t : Fin cfg0.N) : ACC m c t.val = PC m c t (O1 m c t) := by
  obtain ⟨n, hn⟩ := t
  cases n with
  | zero => exact congrArg (fun q => PC m c q k0_pay6) (pt_val ⟨0, hn⟩)
  | succ n => exact congrArg (fun q => PC m c q (if (n + 1) % 11 = 0 then k0_pay6 else ACC m c n)) (pt_val ⟨n + 1, hn⟩)

/-- Before point `n`: the normalised rows are those of the point before, the kept rows those of the last 11 points. -/
def Inv (c : Dev nD) (n : ℕ) : sProp 𝕄 :=
  iprop((∃ d, owns (c : Thread nD τ) (Memref.whole cc0_scratch0) fullShare d ∗ ⌜∀ s : Fin cfg0.N, s.val + 1 = n → d = H m c s⌝)
    ∗ (∃ d, owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d ∗ ⌜∀ s : Fin cfg0.N, s.val < n → n ≤ s.val + 11 → ldh d (s.val % 11) = TA m c s⌝)
    ∗ (∃ d, owns (c : Thread nD τ) (Memref.whole cc0_scratch4) fullShare d ∗ ⌜∀ s : Fin cfg0.N, s.val < n → n ≤ s.val + 11 → ldh d (s.val % 11) = TV m c s⌝)
    ∗ (∃ g, prngReg c g))

/-- The proof data: the arrays as launched, each input's buffer at its block, the output's at the tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => OUT m c t
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = OUT m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The point before. -/
abbrev prev (t : Fin cfg0.N) : Fin cfg0.N := ⟨t.val - 1, Nat.lt_of_le_of_lt (Nat.sub_le _ _) t.isLt⟩

/-- The row tile does not move within a row of the grid. -/
theorem same_rows (c : Dev nD) (t : Fin cfg0.N) (h : t.val % 11 ≠ 0) : iblk m c 0 t = iblk m c 0 (prev t) := by
  have hf : (cfg0.win 0).fetch t = false := by
    rw [Bool.eq_false_iff]; exact fun hh => h ((fetch0_0 t).mp hh)
  refine (before0_0 m c t (iblk m c 0 t)).symm.trans (((dats m 0 c).before_unfetched_in 0 rfl t hf (fun _ => rfl) (iblk m c 0 t)).trans ?_)
  exact after0_0 m c (prev t)

theorem same_gain (c : Dev nD) (t : Fin cfg0.N) (h : t.val % 11 ≠ 0) : iblk m c 1 t = iblk m c 1 (prev t) := by
  have hf : (cfg0.win 1).fetch t = false := by
    rw [Bool.eq_false_iff]; exact fun hh => by have := (fetch0_1 t).mp hh; omega
  refine (before0_1 m c t (iblk m c 1 t)).symm.trans (((dats m 0 c).before_unfetched_in 1 rfl t hf (fun _ => rfl) (iblk m c 1 t)).trans ?_)
  exact after0_1 m c (prev t)

theorem same_H (c : Dev nD) (t : Fin cfg0.N) (h : t.val % 11 ≠ 0) : H m c (prev t) = H m c t := by
  unfold H; rw [same_rows m c t h, same_gain m c t h]

theorem cond1_iff : ∀ t : Fin cfg0.N, k0_cond1 (grid0.coords t) = 1#1 ↔ t.val % 11 = 0 :=
  (by decide +kernel : ∀ t : Fin grid0.N, k0_cond1 (grid0.coords t) = 1#1 ↔ t.val % 11 = 0)
theorem cond2_iff : ∀ t : Fin cfg0.N, k0_cond2 (grid0.coords t) = 1#1 ↔ t.val / 11 % 8 = 0 :=
  (by decide +kernel : ∀ t : Fin grid0.N, k0_cond2 (grid0.coords t) = 1#1 ↔ t.val / 11 % 8 = 0)
theorem cond3_iff : ∀ t : Fin cfg0.N, k0_cond3 (grid0.coords t) = 1#1 ↔ t.val % 11 = 10 :=
  (by decide +kernel : ∀ t : Fin grid0.N, k0_cond3 (grid0.coords t) = 1#1 ↔ t.val % 11 = 10)
theorem off3_at : ∀ t : Fin cfg0.N, k0_off3 (grid0.coords t) = ![t.val % 11, 0, 0] :=
  (by decide +kernel : ∀ t : Fin grid0.N, k0_off3 (grid0.coords t) = ![t.val % 11, 0, 0])
theorem off2_at : ∀ t : Fin cfg0.N, k0_off2 (grid0.coords t) = ![t.val % 11, 0, 0] :=
  (by decide +kernel : ∀ t : Fin grid0.N, k0_off2 (grid0.coords t) = ![t.val % 11, 0, 0])

theorem before0_10 (c : Dev nD) (t : Fin cfg0.N) (h : t.val % 11 ≠ 0) (d) : (dats m 0 c).before 10 t d = ACC m c (t.val - 1) := by
  have hfl : (cfg0.win 10).flush (prev t) = false := by
    rw [Bool.eq_false_iff]
    exact fun hh => by have e : (t.val - 1) % 11 = 10 := (flush0_10 (prev t)).mp hh; omega
  refine ((dats m 0 c).before_out_kept 10 rfl t (by omega) hfl (fun _ => rfl) (fun _ _ => rfl) d).trans ?_
  refine (after0_10 m c (prev t)).trans ?_
  unfold OUT
  exact if_neg (show ¬ (t.val - 1) % 11 = 10 by omega)

/-! ## A point's values, from what it finds -/

theorem h_eq (c : Dev nD) (t : Fin cfg0.N) (d : Vec F S512x2048 .bf16) (hd : ∀ s : Fin cfg0.N, s.val + 1 = t.val → d = H m c s) :
    (if k0_cond1 (grid0.coords t) = 1#1 then hN (iblk m c 0 t) (iblk m c 1 t) else d) = H m c t := by
  by_cases h : t.val % 11 = 0
  · rw [if_pos ((cond1_iff t).mpr h)]; rfl
  · rw [if_neg (fun hh => h ((cond1_iff t).mp hh))]
    exact (hd (prev t) (by show t.val - 1 + 1 = t.val; omega)).trans (same_H m c t h)

theorem o_eq (c : Dev nD) (t : Fin cfg0.N) (d) :
    (if k0_cond1 (grid0.coords t) = 1#1 then k0_pay6 else (dats m 0 c).before 10 t d) = O1 m c t := by
  unfold O1
  by_cases h : t.val % 11 = 0
  · rw [if_pos ((cond1_iff t).mpr h), if_pos h]
  · rw [if_neg (fun hh => h ((cond1_iff t).mp hh)), if_neg h]
    exact before0_10 m c t h d

theorem ba_eq (c : Dev nD) (t : Fin cfg0.N) (d : Vec F S11x8x512 .f32) (hd : ∀ s : Fin cfg0.N, s.val < t.val → t.val ≤ s.val + 11 → ldh d (s.val % 11) = TA m c s) :
    ldh (if k0_cond2 (grid0.coords t) = 1#1 then uph d (t.val % 11) k0_pay7 else d) (t.val % 11) = BA m c t := by
  unfold BA
  by_cases h : t.val / 11 % 8 = 0
  · rw [if_pos ((cond2_iff t).mpr h), if_pos h]
    exact ldh_uph _ _ (Nat.mod_lt _ (by decide)) _
  · rw [if_neg (fun hh => h ((cond2_iff t).mp hh)), if_neg h]
    have e := hd (back t) (show t.val - 11 < t.val by omega) (show t.val ≤ t.val - 11 + 11 by omega)
    have e2 : (back t).val % 11 = t.val % 11 := show (t.val - 11) % 11 = t.val % 11 by omega
    rw [e2] at e
    exact e

theorem bv_eq (c : Dev nD) (t : Fin cfg0.N) (d : Vec F S11x8x512 .f32) (hd : ∀ s : Fin cfg0.N, s.val < t.val → t.val ≤ s.val + 11 → ldh d (s.val % 11) = TV m c s) :
    ldh (if k0_cond2 (grid0.coords t) = 1#1 then uph d (t.val % 11) k0_pay8 else d) (t.val % 11) = BV m c t := by
  unfold BV
  by_cases h : t.val / 11 % 8 = 0
  · rw [if_pos ((cond2_iff t).mpr h), if_pos h]
    exact ldh_uph _ _ (Nat.mod_lt _ (by decide)) _
  · rw [if_neg (fun hh => h ((cond2_iff t).mp hh)), if_neg h]
    have e := hd (back t) (show t.val - 11 < t.val by omega) (show t.val ≤ t.val - 11 + 11 by omega)
    have e2 : (back t).val % 11 = t.val % 11 := show (t.val - 11) % 11 = t.val % 11 by omega
    rw [e2] at e
    exact e

/-- The kept rows after the point. -/
theorem ta_next (c : Dev nD) (t : Fin cfg0.N) (d : Vec F S11x8x512 .f32) (v : Vec F S1x8x512 .f32) (hv : v = TA m c t) (w : Vec F S1x8x512 .f32)
    (hd : ∀ s : Fin cfg0.N, s.val < t.val → t.val ≤ s.val + 11 → ldh d (s.val % 11) = TA m c s)
    (s : Fin cfg0.N) (h1 : s.val < t.val + 1) (h2 : t.val + 1 ≤ s.val + 11) :
    ldh (uph (if k0_cond2 (grid0.coords t) = 1#1 then uph d (t.val % 11) w else d) (t.val % 11) v) (s.val % 11) = TA m c s := by
  by_cases e : s.val = t.val
  · rw [show s = t from Fin.ext e, ldh_uph _ _ (Nat.mod_lt _ (by decide)), hv]
  · have hne : s.val % 11 ≠ t.val % 11 := by omega
    rw [ldh_uph_ne _ _ _ (Nat.mod_lt _ (by decide)) hne]
    by_cases h : k0_cond2 (grid0.coords t) = 1#1
    · rw [if_pos h, ldh_uph_ne _ _ _ (Nat.mod_lt _ (by decide)) hne]
      exact hd s (by omega) (by omega)
    · rw [if_neg h]
      exact hd s (by omega) (by omega)

theorem tv_next (c : Dev nD) (t : Fin cfg0.N) (d : Vec F S11x8x512 .f32) (v : Vec F S1x8x512 .f32) (hv : v = TV m c t) (w : Vec F S1x8x512 .f32)
    (hd : ∀ s : Fin cfg0.N, s.val < t.val → t.val ≤ s.val + 11 → ldh d (s.val % 11) = TV m c s)
    (s : Fin cfg0.N) (h1 : s.val < t.val + 1) (h2 : t.val + 1 ≤ s.val + 11) :
    ldh (uph (if k0_cond2 (grid0.coords t) = 1#1 then uph d (t.val % 11) w else d) (t.val % 11) v) (s.val % 11) = TV m c s := by
  by_cases e : s.val = t.val
  · rw [show s = t from Fin.ext e, ldh_uph _ _ (Nat.mod_lt _ (by decide)), hv]
  · have hne : s.val % 11 ≠ t.val % 11 := by omega
    rw [ldh_uph_ne _ _ _ (Nat.mod_lt _ (by decide)) hne]
    by_cases h : k0_cond2 (grid0.coords t) = 1#1
    · rw [if_pos h, ldh_uph_ne _ _ _ (Nat.mod_lt _ (by decide)) hne]
      exact hd s (by omega) (by omega)
    · rw [if_neg h]
      exact hd s (by omega) (by omega)

theorem out_eq (c : Dev nD) (t : Fin cfg0.N) :
    (if k0_cond3 (grid0.coords t) = 1#1 then oN (iblk m c 0 t) (PC m c t (O1 m c t)) (iblk m c 9 t) else PC m c t (O1 m c t)) = OUT m c t := by
  unfold OUT
  rw [ACC_eq]
  by_cases h : t.val % 11 = 10
  · rw [if_pos ((cond3_iff t).mpr h), if_pos h]
  · rw [if_neg (fun hh => h ((cond3_iff t).mp hh)), if_neg h]

theorem za_eq (c : Dev nD) (t : Fin cfg0.N) (z : Vec F S520x512 .f32) : zA z (BA m c t) (H m c t) (iblk m c 2 t) = ZA m c t := by
  unfold zA ZA; exact fill_eq _ _ _ _
theorem zv_eq (c : Dev nD) (t : Fin cfg0.N) (z : Vec F S520x512 .f32) : zV z (BV m c t) (H m c t) (iblk m c 3 t) = ZV m c t := by
  unfold zV ZV; exact fill_eq _ _ _ _
theorem ta_eq (c : Dev nD) (t : Fin cfg0.N) : k0_pay2 (ldt (ZA m c t)) = TA m c t := by
  unfold ZA TA; rw [ldt_zF]
theorem tv_eq (c : Dev nD) (t : Fin cfg0.N) : k0_pay3 (ldt (ZV m c t)) = TV m c t := by
  unfold ZV TV; rw [ldt_zF]

/-! ## The body obligation -/

def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem inv_pre (c : Dev nD) (t : Fin cfg0.N) : (dats m 0 c).Φ t.castSucc = Inv m c t.val := by dsimp only [dats]; rfl
theorem inv_post (c : Dev nD) (t : Fin cfg0.N) : (dats m 0 c).Φ t.succ = Inv m c (t.val + 1) := by dsimp only [dats]; rfl

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [inv_pre, inv_post,
    show (dats m 0 c).owesAt () t.succ = (dats m 0 c).owesAt () t.castSucc from rfl,
    after0_0, after0_1, after0_2, after0_3, after0_4, after0_5, after0_6, after0_7, after0_8, after0_9, after0_10]
  unfold Inv
  iintro ⟨⟨⟨%d13, S0, %hd⟩, ⟨%d14, S1⟩, ⟨%d15, S2⟩, ⟨%d16, S3, %ha⟩, ⟨%d17, S4, %hv⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_sound c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) d13 d14 d15 d16 d17 (t.val % 11) (Nat.mod_lt _ (by decide)) (off3_at t) (off2_at t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  rw [h_eq m c t d13 hd, o_eq m c t d10, ba_eq m c t d16 ha, bv_eq m c t d17 hv, za_eq, zv_eq, ta_eq, tv_eq]
  iintro ⟨H0, H1, H2, H3, H4, H5, H6, H7, H8, H9, H10, S0, S1, S2, S3, S4⟩
  isplitl [S0 S1 S2 S3 S4 HP]
  · isplitl [S0]
    · iexists (H m c t)
      isplitl [S0]; · iexact S0
      ipureintro
      intro s hs
      rw [show s = t from Fin.ext (by omega)]
    isplitl [S1]; · iexists _; iexact S1
    isplitl [S2]; · iexists _; iexact S2
    isplitl [S3]
    · iexists _
      isplitl [S3]; · iexact S3
      ipureintro
      exact ta_next m c t d16 _ rfl _ ha
    isplitl [S4]
    · iexists _
      isplitl [S4]; · iexact S4
      ipureintro
      exact tv_next m c t d17 _ rfl _ hv
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [← out_eq]
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The scratch buffers held whole at anything. -/
theorem scratch_eq (c : Dev nD) : (Pipeline.scopedRest (Ix := Unit) (Name := ℕ) (U := UR sig nD τ) (Lvl := ℕ) (Val := Elt F) spec0 c : sProp 𝕄)
    = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) := by
  rw [scopedRest0_eq]; simp only [owns_whole]

theorem inv_in (c : Dev nD) : (Pipeline.ΦA spec0 c : sProp 𝕄) ⊢ (dats m 0 c).Φ 0 := by
  show _ ⊢ Inv m c 0
  unfold Pipeline.ΦA Inv
  rw [scratch_eq]
  iintro ⟨⟨⟨%d0, S0⟩, S1, S2, ⟨%d3, S3⟩, ⟨%d4, S4⟩⟩, HP⟩
  isplitl [S0]
  · iexists d0
    isplitl [S0]; · iexact S0
    ipureintro
    intro s hs
    omega
  isplitl [S1]; · iexact S1
  isplitl [S2]; · iexact S2
  isplitl [S3]
  · iexists d3
    isplitl [S3]; · iexact S3
    ipureintro
    intro s hs
    omega
  isplitl [S4]
  · iexists d4
    isplitl [S4]; · iexact S4
    ipureintro
    intro s hs
    omega
  iexact HP

theorem inv_out (c : Dev nD) : (dats m 0 c).Φ (Fin.last cfg0.N) ⊢ (Pipeline.ΦA spec0 c : sProp 𝕄) := by
  show Inv m c cfg0.N ⊢ _
  unfold Pipeline.ΦA Inv
  rw [scratch_eq]
  iintro ⟨⟨%d0, S0, -⟩, S1, S2, ⟨%d3, S3, -⟩, ⟨%d4, S4, -⟩, HP⟩
  isplitl [S0 S1 S2 S3 S4]
  · isplitl [S0]; · iexists d0; iexact S0
    isplitl [S1]; · iexact S1
    isplitl [S2]; · iexact S2
    isplitl [S3]; · iexists d3; iexact S3
    iexists d4; iexact S4
  iexact HP

set_option backward.isDefEq.respectTransparency.types false in
set_option maxHeartbeats 800000 in
/-- The program runs, every array ends at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the program terminates, its arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.FfnIdeal.Hand

end
-- ==== Proof.FfnTerm.lean ====
module

public import proofs.«01_k».proof.Proof.Gen.FfnRefIdeal.Run
public import Idealize.ShloMosaic.Lib.Pointwise

@[expose] public section

set_option maxRecDepth 16384

noncomputable section

namespace Cert.FfnRefIdeal.Pure

open Cert.FfnRefIdeal Cert.FfnRefIdeal.Gen Idealize.ShloMosaic Idealize.ShloMosaic.TcCoe Idealize.SL.Sem

variable {F : FTy → Type} [FloatOps F]

/-- The normalised rows. -/
def HR (a0 : FVec F S16384x2048 .f32) (a1 : FVec F S1x2048 .f32) : FVec F S4x4096x2048 .f32 :=
  mulf (mulf (shapeCast _ a0 shapeCasts_S16384x2048_S4x4096x2048) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (shapeCast _ a0 shapeCasts_S16384x2048_S4x4096x2048) (shapeCast _ a0 shapeCasts_S16384x2048_S4x4096x2048)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ a1 shapeCasts_S1x2048_S2048)))

/-- The rows times the up weights, behind two rows of zero. -/
def ZP (a0 : FVec F S16384x2048 .f32) (a1 : FVec F S1x2048 .f32) (a2 : FVec F S2x2048x11264 .bf16) : FVec F S4x4098x11264 .f32 :=
  pad S4x4098x11264 ![0, 2, 0] ![0, 0, 0] ![0, 0, 0] (Host.dotGeneral dot_S4x4096x2048_S2048x11264_S4x4096x11264_2_0_01_1_n_n none (HR a0 a1) (extf .f32 (shapeCast _ (extractStridedSlice S1x2048x11264 ![0, 0, 0] a2 slices_S2x2048x11264_S1x2048x11264_0_0_0) shapeCasts_S1x2048x11264_S2048x11264) bitsLt_bf16_f32)) (sitofp .f32 (constantI S_ 32 0#32)) pads_S4x4096x11264_S4x4098x11264_000_200_000 h_S_

/-- The convolution along the sequence and its bias. -/
def CR (a0 : FVec F S16384x2048 .f32) (a1 : FVec F S1x2048 .f32) (a2 : FVec F S2x2048x11264 .bf16) (a3 : FVec F S2x3x11264 .f32) (a4 : FVec F S2x1x11264 .f32) : FVec F S4x4096x11264 .f32 :=
  addf (addf (addf (mulf (extractStridedSlice S4x4096x11264 ![0, 0, 0] (ZP a0 a1 a2) slices_S4x4098x11264_S4x4096x11264_0_0_0) (broadcastInDim S4x4096x11264 ![0, 1, 2] bcast_S1x1x11264_S4x4096x11264_0_1_2 (broadcastInDim S1x1x11264 ![2] bcast_S11264_S1x1x11264_2 (shapeCast _ (extractStridedSlice S1x11264 ![0, 0] (shapeCast _ (extractStridedSlice S1x3x11264 ![0, 0, 0] a3 slices_S2x3x11264_S1x3x11264_0_0_0) shapeCasts_S1x3x11264_S3x11264) slices_S3x11264_S1x11264_0_0) shapeCasts_S1x11264_S11264)))) (mulf (extractStridedSlice S4x4096x11264 ![0, 1, 0] (ZP a0 a1 a2) slices_S4x4098x11264_S4x4096x11264_0_1_0) (broadcastInDim S4x4096x11264 ![0, 1, 2] bcast_S1x1x11264_S4x4096x11264_0_1_2 (broadcastInDim S1x1x11264 ![2] bcast_S11264_S1x1x11264_2 (shapeCast _ (extractStridedSlice S1x11264 ![1, 0] (shapeCast _ (extractStridedSlice S1x3x11264 ![0, 0, 0] a3 slices_S2x3x11264_S1x3x11264_0_0_0) shapeCasts_S1x3x11264_S3x11264) slices_S3x11264_S1x11264_1_0) shapeCasts_S1x11264_S11264))))) (mulf (extractStridedSlice S4x4096x11264 ![0, 2, 0] (ZP a0 a1 a2) slices_S4x4098x11264_S4x4096x11264_0_2_0) (broadcastInDim S4x4096x11264 ![0, 1, 2] bcast_S1x1x11264_S4x4096x11264_0_1_2 (broadcastInDim S1x1x11264 ![2] bcast_S11264_S1x1x11264_2 (shapeCast _ (extractStridedSlice S1x11264 ![2, 0] (shapeCast _ (extractStridedSlice S1x3x11264 ![0, 0, 0] a3 slices_S2x3x11264_S1x3x11264_0_0_0) shapeCasts_S1x3x11264_S3x11264) slices_S3x11264_S1x11264_2_0) shapeCasts_S1x11264_S11264))))) (broadcastInDim S4x4096x11264 ![0, 1, 2] bcast_S1x1x11264_S4x4096x11264_0_1_2 (broadcastInDim S1x1x11264 ![2] bcast_S11264_S1x1x11264_2 (shapeCast _ (extractStridedSlice S1x1x11264 ![0, 0, 0] a4 slices_S2x1x11264_S1x1x11264_0_0_0) shapeCasts_S1x1x11264_S11264)))

/-- One half passed through the gate and times the other. -/
def GR (a0 : FVec F S16384x2048 .f32) (a1 : FVec F S1x2048 .f32) (a2 : FVec F S2x2048x11264 .bf16) (a3 : FVec F S2x3x11264 .f32) (a4 : FVec F S2x1x11264 .f32) : FVec F S4x4096x5632 .f32 :=
  mulf (mulf (extractStridedSlice S4x4096x5632 ![0, 0, 0] (CR a0 a1 a2 a3 a4) slices_S4x4096x11264_S4x4096x5632_0_0_0) (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (extractStridedSlice S4x4096x5632 ![0, 0, 0] (CR a0 a1 a2 a3 a4) slices_S4x4096x11264_S4x4096x5632_0_0_0)))))) (extractStridedSlice S4x4096x5632 ![0, 0, 5632] (CR a0 a1 a2 a3 a4) slices_S4x4096x11264_S4x4096x5632_0_0_5632)

/-- The gated rows times the down weights. -/
def FR (a0 : FVec F S16384x2048 .f32) (a1 : FVec F S1x2048 .f32) (a2 : FVec F S2x2048x11264 .bf16) (a3 : FVec F S2x3x11264 .f32) (a4 : FVec F S2x1x11264 .f32) (a5 : FVec F S2x5632x2048 .bf16) : FVec F S4x4096x2048 .f32 :=
  Host.dotGeneral dot_S4x4096x5632_S5632x2048_S4x4096x2048_2_0_01_1_n_n none (GR a0 a1 a2 a3 a4) (extf .f32 (shapeCast _ (extractStridedSlice S1x5632x2048 ![0, 0, 0] a5 slices_S2x5632x2048_S1x5632x2048_0_0_0) shapeCasts_S1x5632x2048_S5632x2048) bitsLt_bf16_f32)

/-- The reference's result, as a function of its arguments. -/
def REF (a0 : FVec F S16384x2048 .f32) (a1 : FVec F S1x2048 .f32) (a2 : FVec F S2x2048x11264 .bf16) (a3 : FVec F S2x3x11264 .f32) (a4 : FVec F S2x1x11264 .f32) (a5 : FVec F S2x5632x2048 .bf16) (a6 : FVec F S1x2048 .f32) : FVec F S16384x2048 .f32 :=
  shapeCast _ (addf (shapeCast _ a0 shapeCasts_S16384x2048_S4x4096x2048) (mulf (mulf (FR a0 a1 a2 a3 a4 a5) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (FR a0 a1 a2 a3 a4 a5) (FR a0 a1 a2 a3 a4 a5)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ a6 shapeCasts_S1x2048_S2048))))) shapeCasts_S4x4096x2048_S16384x2048

end Cert.FfnRefIdeal.Pure

end
-- ==== Proof.FfnVal.lean ====
module

public import proofs.«01_k».proof.Proof.FfnIdealFrame
public import proofs.«01_k».proof.Proof.FfnTerm
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.FfnIdeal.FfnVal

open Cert.FfnIdeal Cert.FfnIdeal.Gen Cert.FfnIdeal.Hand
open Cert.FfnRefIdeal.Pure (HR ZP CR GR FR REF)

variable (m : (ℓ : Loc nD τ sig) → Buf (Elt Ideal) ℓ)

/-- The blocks' indices at every grid point. -/
theorem idx : ∀ t : Fin cfg0.N, win0_0.index t = ![t.val / 11, 0]
    ∧ win0_1.index t = ![0, 0]
    ∧ win0_2.index t = ![0, 0, t.val % 11]
    ∧ win0_3.index t = ![0, 0, 11 + t.val % 11]
    ∧ win0_4.index t = ![0, 0, t.val % 11]
    ∧ win0_5.index t = ![0, 0, 11 + t.val % 11]
    ∧ win0_6.index t = ![0, 0, t.val % 11]
    ∧ win0_7.index t = ![0, 0, 11 + t.val % 11]
    ∧ win0_8.index t = ![0, t.val % 11, 0]
    ∧ win0_9.index t = ![0, 0]
    ∧ win0_10.index t = ![t.val / 11, 0] :=
  (by decide +kernel : ∀ t : Fin grid0.N, _)

/-- The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)

/-- The sequence a point's rows lie in, and the places in it. -/
def bt (t : Fin cfg0.N) : Fin 4 := ⟨t.val / 88 % 4, Nat.mod_lt _ (by decide)⟩
def sq (t : Fin cfg0.N) (a : Fin 512) : Fin 4096 := ⟨512 * (t.val / 11 % 8) + a.val, by omega⟩

set_option maxHeartbeats 1600000 in
theorem H_at (c : Dev nD) (t : Fin cfg0.N) (a : Fin 512) (k : Fin 2048) :
    H m c t (ix2 a k) = HR (F := Ideal) (A0 m c) (A1 m c) (ix3 (bt t) (sq t a) k) := by
  obtain ⟨e0, e1, e2, e3, e4, e5, e6, e7, e8, e9, e10⟩ := idx t
  have ht : t.val < 352 := t.isLt
  unfold H hN
  pointwise [k0_pay5, HR, lds]
  blk_point [iblk, V, e0, e1, bt, sq]

/-! ## The blocks of the weights -/

theorem W2_at (c : Dev nD) (t : Fin cfg0.N) (k : Fin 2048) (l : Fin 512) (f : Fin 11264) (hf : f.val = 512 * (t.val % 11) + l.val) :
    iblk m c 2 t (ix3 (0 : Fin 1) k l) = A2 m c (ix3 (0 : Fin 2) k f) := by
  obtain ⟨e0, e1, e2, e3, e4, e5, e6, e7, e8, e9, e10⟩ := idx t
  blk_point [iblk, V, e2, hf]
theorem W3_at (c : Dev nD) (t : Fin cfg0.N) (k : Fin 2048) (l : Fin 512) (f : Fin 11264) (hf : f.val = 5632 + 512 * (t.val % 11) + l.val) :
    iblk m c 3 t (ix3 (0 : Fin 1) k l) = A2 m c (ix3 (0 : Fin 2) k f) := by
  obtain ⟨e0, e1, e2, e3, e4, e5, e6, e7, e8, e9, e10⟩ := idx t
  blk_point [iblk, V, e3, hf]
theorem W4_at (c : Dev nD) (t : Fin cfg0.N) (k : Fin 3) (l : Fin 512) (f : Fin 11264) (hf : f.val = 512 * (t.val % 11) + l.val) :
    iblk m c 4 t (ix3 (0 : Fin 1) k l) = A3 m c (ix3 (0 : Fin 2) k f) := by
  obtain ⟨e0, e1, e2, e3, e4, e5, e6, e7, e8, e9, e10⟩ := idx t
  blk_point [iblk, V, e4, hf]
theorem W5_at (c : Dev nD) (t : Fin cfg0.N) (k : Fin 3) (l : Fin 512) (f : Fin 11264) (hf : f.val = 5632 + 512 * (t.val % 11) + l.val) :
    iblk m c 5 t (ix3 (0 : Fin 1) k l) = A3 m c (ix3 (0 : Fin 2) k f) := by
  obtain ⟨e0, e1, e2, e3, e4, e5, e6, e7, e8, e9, e10⟩ := idx t
  blk_point [iblk, V, e5, hf]
theorem W6_at (c : Dev nD) (t : Fin cfg0.N) (l : Fin 512) (f : Fin 11264) (hf : f.val = 512 * (t.val % 11) + l.val) :
    iblk m c 6 t (ix3 (0 : Fin 1) (0 : Fin 1) l) = A4 m c (ix3 (0 : Fin 2) (0 : Fin 1) f) := by
  obtain ⟨e0, e1, e2, e3, e4, e5, e6, e7, e8, e9, e10⟩ := idx t
  blk_point [iblk, V, e6, hf]
theorem W7_at (c : Dev nD) (t : Fin cfg0.N) (l : Fin 512) (f : Fin 11264) (hf : f.val = 5632 + 512 * (t.val % 11) + l.val) :
    iblk m c 7 t (ix3 (0 : Fin 1) (0 : Fin 1) l) = A4 m c (ix3 (0 : Fin 2) (0 : Fin 1) f) := by
  obtain ⟨e0, e1, e2, e3, e4, e5, e6, e7, e8, e9, e10⟩ := idx t
  blk_point [iblk, V, e7, hf]
theorem W8_at (c : Dev nD) (t : Fin cfg0.N) (l : Fin 512) (d : Fin 2048) (f : Fin 5632) (hf : f.val = 512 * (t.val % 11) + l.val) :
    iblk m c 8 t (ix3 (0 : Fin 1) l d) = A5 m c (ix3 (0 : Fin 2) f d) := by
  obtain ⟨e0, e1, e2, e3, e4, e5, e6, e7, e8, e9, e10⟩ := idx t
  blk_point [iblk, V, e8, hf]

/-! ## The staged products -/

theorem ZP_lo (a0 a1 a2) (b : Fin 4) (p : Fin 4098) (f : Fin 11264) (hp : p.val < 2) : ZP (F := Ideal) a0 a1 a2 (ix3 b p f) = (0 : EReal) := by
  pointwise [ZP]
  rw [dif_neg (by omega)]
  show (((0#32 : BitVec 32).toInt : ℝ) : EReal) = 0
  simp
theorem ZP_hi (a0 a1 a2) (b : Fin 4) (p : Fin 4098) (s : Fin 4096) (f : Fin 11264) (hp : p.val = s.val + 2) :
    ZP (F := Ideal) a0 a1 a2 (ix3 b p f) = ∑ x : Fin 2048, HR (F := Ideal) a0 a1 (ix3 b s x) * a2 (ix3 (0 : Fin 2) x f) := by
  obtain rfl : p = ⟨s.val + 2, Nat.add_lt_add_right s.isLt 2⟩ := Fin.ext hp
  pointwise [ZP]
  exact dif_pos (by omega)

theorem X_at (c : Dev nD) (t : Fin cfg0.N) (a l : Fin 512) (b : Fin 4) (p : Fin 4098) (f : Fin 11264) (hb : b.val = t.val / 88) (hp : p.val = 512 * (t.val / 11 % 8) + a.val + 2)
    (hf : f.val = 512 * (t.val % 11) + l.val) :
    (∑ x : Fin 2048, H m c t (ix2 a x) * iblk m c 2 t (ix3 (0 : Fin 1) x l)) = ZP (F := Ideal) (A0 m c) (A1 m c) (A2 m c) (ix3 b p f) := by
  have ht : t.val < 352 := t.isLt
  obtain rfl : b = bt t := Fin.ext (by show b.val = t.val / 88 % 4; omega)
  rw [ZP_hi _ _ _ _ p (sq t a) f hp]
  exact Finset.sum_congr rfl fun x _ => congrArg₂ (· * ·) (H_at m c t a x) (W2_at m c t x l f hf)
theorem Y_at (c : Dev nD) (t : Fin cfg0.N) (a l : Fin 512) (b : Fin 4) (p : Fin 4098) (f : Fin 11264) (hb : b.val = t.val / 88) (hp : p.val = 512 * (t.val / 11 % 8) + a.val + 2)
    (hf : f.val = 5632 + 512 * (t.val % 11) + l.val) :
    (∑ x : Fin 2048, H m c t (ix2 a x) * iblk m c 3 t (ix3 (0 : Fin 1) x l)) = ZP (F := Ideal) (A0 m c) (A1 m c) (A2 m c) (ix3 b p f) := by
  have ht : t.val < 352 := t.isLt
  obtain rfl : b = bt t := Fin.ext (by show b.val = t.val / 88 % 4; omega)
  rw [ZP_hi _ _ _ _ p (sq t a) f hp]
  exact Finset.sum_congr rfl fun x _ => congrArg₂ (· * ·) (H_at m c t a x) (W3_at m c t x l f hf)

theorem g15 (h : Vec Ideal S256x2048 .bf16) (w : Vec Ideal S1x2048x512 .bf16) (i : Fin 256) (l : Fin 512) : k0_pay15 (F := Ideal) h w (ix2 i l) = ∑ x : Fin 2048, h (ix2 i x) * w (ix3 (0 : Fin 1) x l) := by
  pointwise [k0_pay15]
theorem g16 (h : Vec Ideal S256x2048 .bf16) (w : Vec Ideal S1x2048x512 .bf16) (i : Fin 256) (l : Fin 512) : k0_pay16 (F := Ideal) h w (ix2 i l) = ∑ x : Fin 2048, h (ix2 i x) * w (ix3 (0 : Fin 1) x l) := by
  pointwise [k0_pay16]
theorem g17 (h : Vec Ideal S256x2048 .bf16) (w : Vec Ideal S1x2048x512 .bf16) (i : Fin 256) (l : Fin 512) : k0_pay17 (F := Ideal) h w (ix2 i l) = ∑ x : Fin 2048, h (ix2 i x) * w (ix3 (0 : Fin 1) x l) := by
  pointwise [k0_pay17]
theorem g18 (h : Vec Ideal S256x2048 .bf16) (w : Vec Ideal S1x2048x512 .bf16) (i : Fin 256) (l : Fin 512) : k0_pay18 (F := Ideal) h w (ix2 i l) = ∑ x : Fin 2048, h (ix2 i x) * w (ix3 (0 : Fin 1) x l) := by
  pointwise [k0_pay18]

/-- Rows of a strip's product. -/
theorem p15 (c : Dev nD) (t : Fin cfg0.N) (i : Fin 256) (l : Fin 512) (a : Fin 512) (ha : a.val = i.val) :
    k0_pay15 (F := Ideal) (ldr (H m c t) 0) (iblk m c 2 t) (ix2 i l) = ∑ x : Fin 2048, H m c t (ix2 a x) * iblk m c 2 t (ix3 (0 : Fin 1) x l) := by
  obtain rfl : a = ⟨(0 + i.val) % 512, Nat.mod_lt _ (by decide)⟩ := Fin.ext (by show a.val = (0 + i.val) % 512; omega)
  exact (g15 _ _ i l).trans (Finset.sum_congr rfl fun x _ => rfl)
theorem p16 (c : Dev nD) (t : Fin cfg0.N) (i : Fin 256) (l : Fin 512) (a : Fin 512) (ha : a.val = i.val) :
    k0_pay16 (F := Ideal) (ldr (H m c t) 0) (iblk m c 3 t) (ix2 i l) = ∑ x : Fin 2048, H m c t (ix2 a x) * iblk m c 3 t (ix3 (0 : Fin 1) x l) := by
  obtain rfl : a = ⟨(0 + i.val) % 512, Nat.mod_lt _ (by decide)⟩ := Fin.ext (by show a.val = (0 + i.val) % 512; omega)
  exact (g16 _ _ i l).trans (Finset.sum_congr rfl fun x _ => rfl)
theorem p17 (c : Dev nD) (t : Fin cfg0.N) (i : Fin 256) (l : Fin 512) (a : Fin 512) (ha : a.val = 256 + i.val) :
    k0_pay17 (F := Ideal) (ldr (H m c t) 256) (iblk m c 2 t) (ix2 i l) = ∑ x : Fin 2048, H m c t (ix2 a x) * iblk m c 2 t (ix3 (0 : Fin 1) x l) := by
  obtain rfl : a = ⟨(256 + i.val) % 512, Nat.mod_lt _ (by decide)⟩ := Fin.ext (by show a.val = (256 + i.val) % 512; omega)
  exact (g17 _ _ i l).trans (Finset.sum_congr rfl fun x _ => rfl)
theorem p18 (c : Dev nD) (t : Fin cfg0.N) (i : Fin 256) (l : Fin 512) (a : Fin 512) (ha : a.val = 256 + i.val) :
    k0_pay18 (F := Ideal) (ldr (H m c t) 256) (iblk m c 3 t) (ix2 i l) = ∑ x : Fin 2048, H m c t (ix2 a x) * iblk m c 3 t (ix3 (0 : Fin 1) x l) := by
  obtain rfl : a = ⟨(256 + i.val) % 512, Nat.mod_lt _ (by decide)⟩ := Fin.ext (by show a.val = (256 + i.val) % 512; omega)
  exact (g18 _ _ i l).trans (Finset.sum_congr rfl fun x _ => rfl)

theorem p2 (q : Vec Ideal S8x512 .f32) (k : Fin 8) (l : Fin 512) : k0_pay2 (F := Ideal) q (ix3 (0 : Fin 1) k l) = q (ix2 k l) := by
  pointwise [k0_pay2]
theorem p3 (q : Vec Ideal S8x512 .f32) (k : Fin 8) (l : Fin 512) : k0_pay3 (F := Ideal) q (ix3 (0 : Fin 1) k l) = q (ix2 k l) := by
  pointwise [k0_pay3]
theorem p7 (k : Fin 8) (l : Fin 512) : k0_pay7 (F := Ideal) (ix3 (0 : Fin 1) k l) = (0 : EReal) := by
  pointwise [k0_pay7]
theorem p8 (k : Fin 8) (l : Fin 512) : k0_pay8 (F := Ideal) (ix3 (0 : Fin 1) k l) = (0 : EReal) := by
  pointwise [k0_pay8]
theorem p9 (q : Vec Ideal S1x8x512 .f32) (k : Fin 8) (l : Fin 512) : k0_pay9 (F := Ideal) q (ix2 k l) = q (ix3 (0 : Fin 1) k l) := by
  pointwise [k0_pay9]
theorem p10 (q : Vec Ideal S1x8x512 .f32) (k : Fin 8) (l : Fin 512) : k0_pay10 (F := Ideal) q (ix2 k l) = q (ix3 (0 : Fin 1) k l) := by
  pointwise [k0_pay10]

theorem ZA_at (c : Dev nD) (t : Fin cfg0.N) (r : Fin 520) (l : Fin 512) (b : Fin 4) (p : Fin 4098) (f : Fin 11264) (hr : 6 ≤ r.val) (hb : b.val = t.val / 88)
    (hp : p.val = 512 * (t.val / 11 % 8) + r.val - 6) (hf : f.val = 512 * (t.val % 11) + l.val) :
    ZA m c t (ix2 r l) = ZP (F := Ideal) (A0 m c) (A1 m c) (A2 m c) (ix3 b p f) := by
  have ht : t.val < 352 := t.isLt
  unfold ZA zF
  by_cases h1 : r.val < 8
  · refine (if_pos h1).trans ?_
    rw [p9]
    unfold BA
    by_cases h0 : t.val / 11 % 8 = 0
    · rw [if_pos h0, p7, ZP_lo _ _ _ _ _ _ (by omega)]
    · rw [if_neg h0]
      unfold TA
      rw [p2]
      unfold tail8
      rw [p17 m c (back t) _ _ (⟨504 + r.val % 8, by omega⟩ : Fin 512) (by show 504 + r.val % 8 = 256 + (248 + r.val % 8); omega)]
      exact X_at m c (back t) _ _ b p f (by show b.val = (t.val - 11) / 88; omega) (by show p.val = 512 * ((t.val - 11) / 11 % 8) + (504 + r.val % 8) + 2; omega)
        (by show f.val = 512 * ((t.val - 11) % 11) + l.val; omega)
  · refine (if_neg h1).trans ?_
    by_cases h2 : r.val < 264
    · refine (if_pos h2).trans ?_
      rw [p15 m c t _ _ (⟨r.val - 8, by omega⟩ : Fin 512) (by show r.val - 8 = (r.val - 8) % 256; omega)]
      exact X_at m c t _ _ b p f hb (by show p.val = 512 * (t.val / 11 % 8) + (r.val - 8) + 2; omega) hf
    · refine (if_neg h2).trans ?_
      rw [p17 m c t _ _ (⟨r.val - 8, by omega⟩ : Fin 512) (by show r.val - 8 = 256 + (r.val - 264) % 256; omega)]
      exact X_at m c t _ _ b p f hb (by show p.val = 512 * (t.val / 11 % 8) + (r.val - 8) + 2; omega) hf

theorem ZV_at (c : Dev nD) (t : Fin cfg0.N) (r : Fin 520) (l : Fin 512) (b : Fin 4) (p : Fin 4098) (f : Fin 11264) (hr : 6 ≤ r.val) (hb : b.val = t.val / 88)
    (hp : p.val = 512 * (t.val / 11 % 8) + r.val - 6) (hf : f.val = 5632 + 512 * (t.val % 11) + l.val) :
    ZV m c t (ix2 r l) = ZP (F := Ideal) (A0 m c) (A1 m c) (A2 m c) (ix3 b p f) := by
  have ht : t.val < 352 := t.isLt
  unfold ZV zF
  by_cases h1 : r.val < 8
  · refine (if_pos h1).trans ?_
    rw [p10]
    unfold BV
    by_cases h0 : t.val / 11 % 8 = 0
    · rw [if_pos h0, p8, ZP_lo _ _ _ _ _ _ (by omega)]
    · rw [if_neg h0]
      unfold TV
      rw [p3]
      unfold tail8
      rw [p18 m c (back t) _ _ (⟨504 + r.val % 8, by omega⟩ : Fin 512) (by show 504 + r.val % 8 = 256 + (248 + r.val % 8); omega)]
      exact Y_at m c (back t) _ _ b p f (by show b.val = (t.val - 11) / 88; omega) (by show p.val = 512 * ((t.val - 11) / 11 % 8) + (504 + r.val % 8) + 2; omega)
        (by show f.val = 5632 + 512 * ((t.val - 11) % 11) + l.val; omega)
  · refine (if_neg h1).trans ?_
    by_cases h2 : r.val < 264
    · refine (if_pos h2).trans ?_
      rw [p16 m c t _ _ (⟨r.val - 8, by omega⟩ : Fin 512) (by show r.val - 8 = (r.val - 8) % 256; omega)]
      exact Y_at m c t _ _ b p f hb (by show p.val = 512 * (t.val / 11 % 8) + (r.val - 8) + 2; omega) hf
    · refine (if_neg h2).trans ?_
      rw [p18 m c t _ _ (⟨r.val - 8, by omega⟩ : Fin 512) (by show r.val - 8 = 256 + (r.val - 264) % 256; omega)]
      exact Y_at m c t _ _ b p f hb (by show p.val = 512 * (t.val / 11 % 8) + (r.val - 8) + 2; omega) hf

/-! ## The convolution, the gate and a point's share -/

/-- The convolution of a staged row, with its bias. -/
def cvK (ca : Vec Ideal S1x3x512 .f32) (ba : Vec Ideal S1x1x512 .f32) (z : Vec Ideal S520x512 .f32) (a l : Fin 512) : EReal :=
  ca (ix3 (0 : Fin 1) (0 : Fin 3) l) * z (ix2 (⟨6 + a.val, by omega⟩ : Fin 520) l) + ca (ix3 (0 : Fin 1) (1 : Fin 3) l) * z (ix2 (⟨7 + a.val, by omega⟩ : Fin 520) l)
    + ca (ix3 (0 : Fin 1) (2 : Fin 3) l) * z (ix2 (⟨8 + a.val, by omega⟩ : Fin 520) l) + ba (ix3 (0 : Fin 1) (0 : Fin 1) l)
/-- The first half through the gate, times the second. -/
def gate (x y : EReal) : EReal := x * Ideal.logistic x * y

theorem p11 (q : Vec Ideal S1x3x512 .f32) (k : Fin 3) (l : Fin 512) : k0_pay11 (F := Ideal) q (ix2 k l) = q (ix3 (0 : Fin 1) k l) := by
  pointwise [k0_pay11]
theorem p12 (q : Vec Ideal S1x3x512 .f32) (k : Fin 3) (l : Fin 512) : k0_pay12 (F := Ideal) q (ix2 k l) = q (ix3 (0 : Fin 1) k l) := by
  pointwise [k0_pay12]
theorem p13 (q : Vec Ideal S1x1x512 .f32) (l : Fin 512) : k0_pay13 (F := Ideal) q (ix2 (0 : Fin 1) l) = q (ix3 (0 : Fin 1) (0 : Fin 1) l) := by
  pointwise [k0_pay13]
theorem p14 (q : Vec Ideal S1x1x512 .f32) (l : Fin 512) : k0_pay14 (F := Ideal) q (ix2 (0 : Fin 1) l) = q (ix3 (0 : Fin 1) (0 : Fin 1) l) := by
  pointwise [k0_pay14]

theorem ldz_at (z : Vec Ideal S520x512 .f32) (o : ℕ) (i : Fin 256) (l : Fin 512) (r : Fin 520) (hr : r.val = o + i.val) : ldz z o (ix2 i l) = z (ix2 r l) := by
  obtain rfl : r = ⟨(o + i.val) % 520, Nat.mod_lt _ (by decide)⟩ := Fin.ext (by show r.val = (o + i.val) % 520; omega)
  rfl
theorem ldr_at (x : Vec Ideal S512x2048 .f32) (o : ℕ) (i : Fin 256) (d : Fin 2048) (r : Fin 512) (hr : r.val = o + i.val) : ldr x o (ix2 i d) = x (ix2 r d) := by
  obtain rfl : r = ⟨(o + i.val) % 512, Nat.mod_lt _ (by decide)⟩ := Fin.ext (by show r.val = (o + i.val) % 512; omega)
  rfl

theorem p19 (a b d e p q r s t u) (i : Fin 256) (l : Fin 512) :
    k0_pay19 (F := Ideal) a b d e p q r s t u (ix2 i l)
      = gate (a (ix2 (0 : Fin 3) l) * r (ix2 i l) + a (ix2 (1 : Fin 3) l) * q (ix2 i l) + a (ix2 (2 : Fin 3) l) * p (ix2 i l) + d (ix2 (0 : Fin 1) l))
          (b (ix2 (0 : Fin 3) l) * u (ix2 i l) + b (ix2 (1 : Fin 3) l) * t (ix2 i l) + b (ix2 (2 : Fin 3) l) * s (ix2 i l) + e (ix2 (0 : Fin 1) l)) := by
  pointwise [k0_pay19]
  rfl
theorem p20 (a b d) (i : Fin 256) (j : Fin 2048) :
    k0_pay20 (F := Ideal) a b d (ix2 i j) = b (ix2 i j) + ∑ x : Fin 512, a (ix2 i x) * d (ix3 (0 : Fin 1) x j) := by
  pointwise [k0_pay20]
theorem p1 (a b d e) (i : Fin 256) (j : Fin 2048) :
    k0_pay1 (F := Ideal) a b d e (ix2 i j) = d (ix2 i j) + ∑ x : Fin 512, b (ix2 i x) * a (ix2 i x) * e (ix3 (0 : Fin 1) x j) := by
  pointwise [k0_pay1]
theorem p21 (a b d e p) (i : Fin 256) (l : Fin 512) :
    k0_pay21 (F := Ideal) a b d e p (ix2 i l)
      = a (ix2 (0 : Fin 3) l) * p (ix2 i l) + a (ix2 (1 : Fin 3) l) * e (ix2 i l) + a (ix2 (2 : Fin 3) l) * d (ix2 i l) + b (ix2 (0 : Fin 1) l) := by
  pointwise [k0_pay21]
theorem p22 (a b d e p) (i : Fin 256) (l : Fin 512) :
    k0_pay22 (F := Ideal) a b d e p (ix2 i l)
      = (a (ix2 (0 : Fin 3) l) * p (ix2 i l) + a (ix2 (1 : Fin 3) l) * e (ix2 i l) + a (ix2 (2 : Fin 3) l) * d (ix2 i l) + b (ix2 (0 : Fin 1) l))
        * Ideal.logistic (a (ix2 (0 : Fin 3) l) * p (ix2 i l) + a (ix2 (1 : Fin 3) l) * e (ix2 i l) + a (ix2 (2 : Fin 3) l) * d (ix2 i l) + b (ix2 (0 : Fin 1) l)) := by
  pointwise [k0_pay22]

/-- The first strip's gated rows. -/
theorem lo_at (za zv : Vec Ideal S520x512 .f32) (ca cv : Vec Ideal S1x3x512 .f32) (ba bv : Vec Ideal S1x1x512 .f32) (i : Fin 256) (a l : Fin 512) (ha : a.val = i.val) :
    k0_pay19 (F := Ideal) (k0_pay11 ca) (k0_pay12 cv) (k0_pay13 ba) (k0_pay14 bv) (ldz za 8) (ldz za 7) (ldz za 6) (ldz zv 8) (ldz zv 7) (ldz zv 6) (ix2 i l)
      = gate (cvK ca ba za a l) (cvK cv bv zv a l) := by
  rw [p19]
  simp only [p11, p12, p13, p14]
  rw [ldz_at za 8 i l ⟨8 + a.val, by omega⟩ (by show 8 + a.val = 8 + i.val; omega), ldz_at za 7 i l ⟨7 + a.val, by omega⟩ (by show 7 + a.val = 7 + i.val; omega),
    ldz_at za 6 i l ⟨6 + a.val, by omega⟩ (by show 6 + a.val = 6 + i.val; omega), ldz_at zv 8 i l ⟨8 + a.val, by omega⟩ (by show 8 + a.val = 8 + i.val; omega),
    ldz_at zv 7 i l ⟨7 + a.val, by omega⟩ (by show 7 + a.val = 7 + i.val; omega), ldz_at zv 6 i l ⟨6 + a.val, by omega⟩ (by show 6 + a.val = 6 + i.val; omega)]
  rfl
/-- The second strip's. -/
theorem hi_at (za zv : Vec Ideal S520x512 .f32) (ca cv : Vec Ideal S1x3x512 .f32) (ba bv : Vec Ideal S1x1x512 .f32) (i : Fin 256) (a l : Fin 512) (ha : a.val = 256 + i.val) :
    k0_pay22 (F := Ideal) (k0_pay11 ca) (k0_pay13 ba) (ldz za 264) (ldz za 263) (ldz za 262) (ix2 i l)
        * k0_pay21 (F := Ideal) (k0_pay12 cv) (k0_pay14 bv) (ldz zv 264) (ldz zv 263) (ldz zv 262) (ix2 i l)
      = gate (cvK ca ba za a l) (cvK cv bv zv a l) := by
  rw [p21, p22]
  simp only [p11, p12, p13, p14]
  rw [ldz_at za 264 i l ⟨8 + a.val, by omega⟩ (by show 8 + a.val = 264 + i.val; omega), ldz_at za 263 i l ⟨7 + a.val, by omega⟩ (by show 7 + a.val = 263 + i.val; omega),
    ldz_at za 262 i l ⟨6 + a.val, by omega⟩ (by show 6 + a.val = 262 + i.val; omega), ldz_at zv 264 i l ⟨8 + a.val, by omega⟩ (by show 8 + a.val = 264 + i.val; omega),
    ldz_at zv 263 i l ⟨7 + a.val, by omega⟩ (by show 7 + a.val = 263 + i.val; omega), ldz_at zv 262 i l ⟨6 + a.val, by omega⟩ (by show 6 + a.val = 262 + i.val; omega)]
  rfl

theorem oP_at (o : Vec Ideal S512x2048 .f32) (za zv : Vec Ideal S520x512 .f32) (ca cv : Vec Ideal S1x3x512 .f32) (ba bv : Vec Ideal S1x1x512 .f32)
    (wd : Vec Ideal S1x512x2048 .bf16) (a : Fin 512) (d : Fin 2048) :
    oP o za zv ca cv ba bv wd (ix2 a d) = o (ix2 a d) + ∑ l : Fin 512, gate (cvK ca ba za a l) (cvK cv bv zv a l) * wd (ix3 (0 : Fin 1) l d) := by
  unfold oP
  by_cases h : a.val < 256
  · refine (if_neg (show ¬ (256 ≤ a.val ∧ a.val < 256 + 256) by omega)).trans ?_
    refine (if_pos (show 0 ≤ a.val ∧ a.val < 0 + 256 by omega)).trans ?_
    rw [p20, ldr_at o 0 _ _ a (by show a.val = 0 + (a.val - 0) % 256; omega)]
    exact congrArg (o (ix2 a d) + ·) (Finset.sum_congr rfl fun l _ => congrArg (· * wd (ix3 (0 : Fin 1) l d)) (lo_at za zv ca cv ba bv _ a l (by show a.val = (a.val - 0) % 256; omega)))
  · refine (if_pos (show 256 ≤ a.val ∧ a.val < 256 + 256 by omega)).trans ?_
    rw [p1, ldr_at _ 256 _ _ a (by show a.val = 256 + (a.val - 256) % 256; omega)]
    refine congrArg₂ (· + ·) (if_neg (show ¬ (0 ≤ a.val ∧ a.val < 0 + 256) by omega)) (Finset.sum_congr rfl fun l _ => congrArg (· * wd (ix3 (0 : Fin 1) l d)) (hi_at za zv ca cv ba bv _ a l (by show a.val = 256 + (a.val - 256) % 256; omega)))

/-! ## The same of the arguments -/

theorem C_at (a0 a1 a2 a3 a4) (b : Fin 4) (s : Fin 4096) (f : Fin 11264) :
    CR (F := Ideal) a0 a1 a2 a3 a4 (ix3 b s f)
      = ZP (F := Ideal) a0 a1 a2 (ix3 b (⟨s.val, by omega⟩ : Fin 4098) f) * a3 (ix3 (0 : Fin 2) (0 : Fin 3) f)
        + ZP (F := Ideal) a0 a1 a2 (ix3 b (⟨1 + s.val, by omega⟩ : Fin 4098) f) * a3 (ix3 (0 : Fin 2) (1 : Fin 3) f)
        + ZP (F := Ideal) a0 a1 a2 (ix3 b (⟨2 + s.val, by omega⟩ : Fin 4098) f) * a3 (ix3 (0 : Fin 2) (2 : Fin 3) f) + a4 (ix3 (0 : Fin 2) (0 : Fin 1) f) := by
  pointwise [CR]
theorem G_at (a0 a1 a2 a3 a4) (b : Fin 4) (s : Fin 4096) (f : Fin 5632) :
    GR (F := Ideal) a0 a1 a2 a3 a4 (ix3 b s f)
      = gate (CR (F := Ideal) a0 a1 a2 a3 a4 (ix3 b s (⟨f.val, by omega⟩ : Fin 11264))) (CR (F := Ideal) a0 a1 a2 a3 a4 (ix3 b s (⟨5632 + f.val, by omega⟩ : Fin 11264))) := by
  pointwise [GR]
  rfl
theorem F_at (a0 a1 a2 a3 a4 a5) (b : Fin 4) (s : Fin 4096) (d : Fin 2048) :
    FR (F := Ideal) a0 a1 a2 a3 a4 a5 (ix3 b s d) = ∑ x : Fin 5632, GR (F := Ideal) a0 a1 a2 a3 a4 (ix3 b s x) * a5 (ix3 (0 : Fin 2) x d) := by
  pointwise [FR]

theorem CA_at (c : Dev nD) (t : Fin cfg0.N) (a l : Fin 512) (f : Fin 11264) (hf : f.val = 512 * (t.val % 11) + l.val) :
    cvK (iblk m c 4 t) (iblk m c 6 t) (ZA m c t) a l = CR (F := Ideal) (A0 m c) (A1 m c) (A2 m c) (A3 m c) (A4 m c) (ix3 (bt t) (sq t a) f) := by
  have ht : t.val < 352 := t.isLt
  have hb : (bt t).val = t.val / 88 := by show t.val / 88 % 4 = t.val / 88; omega
  rw [C_at]
  unfold cvK
  rw [W4_at m c t _ l f hf, W4_at m c t _ l f hf, W4_at m c t _ l f hf, W6_at m c t l f hf,
    ZA_at m c t _ l (bt t) ⟨(sq t a).val, by omega⟩ f (by show 6 ≤ 6 + a.val; omega) hb (by show 512 * (t.val / 11 % 8) + a.val = 512 * (t.val / 11 % 8) + (6 + a.val) - 6; omega) hf,
    ZA_at m c t _ l (bt t) ⟨1 + (sq t a).val, by omega⟩ f (by show 6 ≤ 7 + a.val; omega) hb (by show 1 + (512 * (t.val / 11 % 8) + a.val) = 512 * (t.val / 11 % 8) + (7 + a.val) - 6; omega) hf,
    ZA_at m c t _ l (bt t) ⟨2 + (sq t a).val, by omega⟩ f (by show 6 ≤ 8 + a.val; omega) hb (by show 2 + (512 * (t.val / 11 % 8) + a.val) = 512 * (t.val / 11 % 8) + (8 + a.val) - 6; omega) hf]
  exact congrArg (· + _) (congrArg₂ (· + ·) (congrArg₂ (· + ·) (mul_comm (G := EReal) _ _) (mul_comm (G := EReal) _ _)) (mul_comm (G := EReal) _ _))
theorem CV_at (c : Dev nD) (t : Fin cfg0.N) (a l : Fin 512) (f : Fin 11264) (hf : f.val = 5632 + 512 * (t.val % 11) + l.val) :
    cvK (iblk m c 5 t) (iblk m c 7 t) (ZV m c t) a l = CR (F := Ideal) (A0 m c) (A1 m c) (A2 m c) (A3 m c) (A4 m c) (ix3 (bt t) (sq t a) f) := by
  have ht : t.val < 352 := t.isLt
  have hb : (bt t).val = t.val / 88 := by show t.val / 88 % 4 = t.val / 88; omega
  rw [C_at]
  unfold cvK
  rw [W5_at m c t _ l f hf, W5_at m c t _ l f hf, W5_at m c t _ l f hf, W7_at m c t l f hf,
    ZV_at m c t _ l (bt t) ⟨(sq t a).val, by omega⟩ f (by show 6 ≤ 6 + a.val; omega) hb (by show 512 * (t.val / 11 % 8) + a.val = 512 * (t.val / 11 % 8) + (6 + a.val) - 6; omega) hf,
    ZV_at m c t _ l (bt t) ⟨1 + (sq t a).val, by omega⟩ f (by show 6 ≤ 7 + a.val; omega) hb (by show 1 + (512 * (t.val / 11 % 8) + a.val) = 512 * (t.val / 11 % 8) + (7 + a.val) - 6; omega) hf,
    ZV_at m c t _ l (bt t) ⟨2 + (sq t a).val, by omega⟩ f (by show 6 ≤ 8 + a.val; omega) hb (by show 2 + (512 * (t.val / 11 % 8) + a.val) = 512 * (t.val / 11 % 8) + (8 + a.val) - 6; omega) hf]
  exact congrArg (· + _) (congrArg₂ (· + ·) (congrArg₂ (· + ·) (mul_comm (G := EReal) _ _) (mul_comm (G := EReal) _ _)) (mul_comm (G := EReal) _ _))

/-- One term of the product with the down weights. -/
def T (c : Dev nD) (b : Fin 4) (s : Fin 4096) (d : Fin 2048) (x : ℕ) : EReal :=
  GR (F := Ideal) (A0 m c) (A1 m c) (A2 m c) (A3 m c) (A4 m c) (ix3 b s (⟨x % 5632, Nat.mod_lt _ (by decide)⟩ : Fin 5632))
    * A5 m c (ix3 (0 : Fin 2) (⟨x % 5632, Nat.mod_lt _ (by decide)⟩ : Fin 5632) d)

theorem PC_at (c : Dev nD) (t : Fin cfg0.N) (o : Vec Ideal S512x2048 .f32) (a : Fin 512) (d : Fin 2048) :
    PC m c t o (ix2 a d) = o (ix2 a d) + ∑ l : Fin 512, T m c (bt t) (sq t a) d (512 * (t.val % 11) + l.val) := by
  unfold PC
  rw [oP_at]
  refine congrArg (o (ix2 a d) + ·) (Finset.sum_congr rfl fun l _ => ?_)
  have hx : (512 * (t.val % 11) + l.val) % 5632 = 512 * (t.val % 11) + l.val := by omega
  unfold T
  rw [G_at, CA_at m c t a l ⟨(512 * (t.val % 11) + l.val) % 5632, by omega⟩ hx, CV_at m c t a l ⟨5632 + (512 * (t.val % 11) + l.val) % 5632, by omega⟩ (by show 5632 + (512 * (t.val % 11) + l.val) % 5632 = _; omega),
    W8_at m c t l d ⟨(512 * (t.val % 11) + l.val) % 5632, Nat.mod_lt _ (by decide)⟩ hx]

theorem p6 (a : Fin 512) (d : Fin 2048) : k0_pay6 (F := Ideal) (ix2 a d) = (0 : EReal) := by
  pointwise [k0_pay6]

theorem ACC_at (c : Dev nD) (a : Fin 512) (d : Fin 2048) : ∀ (n : ℕ) (h : n < 352),
    ACC m c n (ix2 a d) = ∑ j ∈ Finset.range (n % 11 + 1), ∑ l : Fin 512, T m c (bt ⟨n, h⟩) (sq ⟨n, h⟩ a) d (512 * j + l.val) := by
  intro n
  induction n with
  | zero =>
    intro h
    refine (congrFun (ACC_eq m c ⟨0, h⟩) (ix2 a d)).trans ?_
    rw [PC_at]
    unfold O1
    rw [if_pos (show (0 : ℕ) % 11 = 0 from rfl), p6, zero_add]
    exact (Finset.sum_range_one (fun j => ∑ l : Fin 512, T m c (bt ⟨0, h⟩) (sq ⟨0, h⟩ a) d (512 * j + l.val))).symm
  | succ n ih =>
    intro h
    refine (congrFun (ACC_eq m c ⟨n + 1, h⟩) (ix2 a d)).trans ?_
    rw [PC_at, Finset.sum_range_succ]
    refine congrArg (· + _) ?_
    unfold O1
    by_cases h0 : (n + 1) % 11 = 0
    · rw [if_pos h0, p6, h0]
      exact (Finset.sum_range_zero _).symm
    · rw [if_neg h0]
      refine (ih (by omega)).trans ?_
      have e1 : bt ⟨n, Nat.lt_of_succ_lt h⟩ = bt ⟨n + 1, h⟩ := Fin.ext (by show n / 88 % 4 = (n + 1) / 88 % 4; omega)
      have e2 : sq ⟨n, Nat.lt_of_succ_lt h⟩ a = sq ⟨n + 1, h⟩ a := Fin.ext (by show 512 * (n / 11 % 8) + a.val = 512 * ((n + 1) / 11 % 8) + a.val; omega)
      have e3 : n % 11 + 1 = (n + 1) % 11 := by omega
      rw [e1, e2, e3]

theorem ACC_end (c : Dev nD) (t : Fin cfg0.N) (h : t.val % 11 = 10) (a : Fin 512) (d : Fin 2048) :
    ACC m c t.val (ix2 a d) = FR (F := Ideal) (A0 m c) (A1 m c) (A2 m c) (A3 m c) (A4 m c) (A5 m c) (ix3 (bt t) (sq t a) d) := by
  rw [ACC_at m c a d t.val t.isLt, h, F_at, Finset.sum_range]
  refine (Fin.sum_divmod_congr (N := 5632) (A := 11) (S := 512) (f := fun (j : Fin 11) (l : Fin 512) => T m c (bt t) (sq t a) d (512 * j.val + l.val)) (fun x ha hs => ?_)).symm
  have e : (⟨(512 * (x.val / 512) + x.val % 512) % 5632, Nat.mod_lt _ (by decide)⟩ : Fin 5632) = x := Fin.ext (by show (512 * (x.val / 512) + x.val % 512) % 5632 = x.val; omega)
  unfold T
  exact congrArg₂ (· * ·) (congrArg (fun z => GR (F := Ideal) (A0 m c) (A1 m c) (A2 m c) (A3 m c) (A4 m c) (ix3 (bt t) (sq t a) z)) e.symm) (congrArg (fun z => A5 m c (ix3 (0 : Fin 2) z d)) e.symm)

/-! ## The result -/

theorem p4 (a b d) (i : Fin 128) (j : Fin 2048) :
    k0_pay4 (F := Ideal) a b d (ix2 i j)
      = a (ix2 i j) + b (ix2 i j) * Ideal.rsqrt (Ideal.div (∑ x : Fin 2048, b (ix2 i x) * b (ix2 i x)) (Ideal.ofBits FTy.f32 1157627904#32) + Ideal.ofBits FTy.f32 897988541#32)
          * d (ix2 (0 : Fin 1) j) := by
  pointwise [k0_pay4]
theorem R_at (a0 a1 a2 a3 a4 a5 a6) (r : Fin 16384) (d : Fin 2048) :
    REF (F := Ideal) a0 a1 a2 a3 a4 a5 a6 (ix2 r d)
      = a0 (ix2 r d) + FR (F := Ideal) a0 a1 a2 a3 a4 a5 (ix3 (⟨r.val / 4096, by omega⟩ : Fin 4) (⟨r.val % 4096, by omega⟩ : Fin 4096) d)
          * Ideal.rsqrt (Ideal.div (∑ x : Fin 2048, FR (F := Ideal) a0 a1 a2 a3 a4 a5 (ix3 (⟨r.val / 4096, by omega⟩ : Fin 4) (⟨r.val % 4096, by omega⟩ : Fin 4096) x)
              * FR (F := Ideal) a0 a1 a2 a3 a4 a5 (ix3 (⟨r.val / 4096, by omega⟩ : Fin 4) (⟨r.val % 4096, by omega⟩ : Fin 4096) x)) (Ideal.ofBits FTy.f32 1157627904#32) + Ideal.ofBits FTy.f32 897988541#32)
          * a6 (ix2 (0 : Fin 1) d) := by
  pointwise [REF]

theorem lds_at (x : Vec Ideal S512x2048 .f32) (a : Fin 512) (d : Fin 2048) :
    lds x (128 * (a.val / 128)) (ix2 (⟨a.val % 128, Nat.mod_lt _ (by decide)⟩ : Fin 128) d) = x (ix2 a d) := by
  have e : (⟨(128 * (a.val / 128) + a.val % 128) % 512, Nat.mod_lt _ (by decide)⟩ : Fin 512) = a := Fin.ext (by show (128 * (a.val / 128) + a.val % 128) % 512 = a.val; omega)
  exact congrArg (fun z => x (ix2 z d)) e
theorem oN_at (x o : Vec Ideal S512x2048 .f32) (g : Vec Ideal S1x2048 .f32) (a : Fin 512) (d : Fin 2048) :
    oN x o g (ix2 a d)
      = x (ix2 a d) + o (ix2 a d) * Ideal.rsqrt (Ideal.div (∑ k : Fin 2048, o (ix2 a k) * o (ix2 a k)) (Ideal.ofBits FTy.f32 1157627904#32) + Ideal.ofBits FTy.f32 897988541#32)
          * g (ix2 (0 : Fin 1) d) := by
  have e : oN x o g (ix2 a d) = k0_pay4 (F := Ideal) (lds x (128 * (a.val / 128))) (lds o (128 * (a.val / 128))) g (ix2 (⟨a.val % 128, Nat.mod_lt _ (by decide)⟩ : Fin 128) d) := rfl
  rw [e, p4]
  simp only [lds_at]

theorem W0_at (c : Dev nD) (t : Fin cfg0.N) (a : Fin 512) (d : Fin 2048) (r : Fin 16384) (hr : r.val = 512 * (t.val / 11) + a.val) :
    iblk m c 0 t (ix2 a d) = A0 m c (ix2 r d) := by
  obtain ⟨e0, e1, e2, e3, e4, e5, e6, e7, e8, e9, e10⟩ := idx t
  blk_point [iblk, V, e0, hr]
theorem W9_at (c : Dev nD) (t : Fin cfg0.N) (d : Fin 2048) :
    iblk m c 9 t (ix2 (0 : Fin 1) d) = A6 m c (ix2 (0 : Fin 1) d) := by
  obtain ⟨e0, e1, e2, e3, e4, e5, e6, e7, e8, e9, e10⟩ := idx t
  blk_point [iblk, V, e9]

theorem point (c : Dev nD) (t : Fin cfg0.N) (h : t.val % 11 = 10) (a : Fin 512) (d : Fin 2048) (r : Fin 16384) (hr : r.val = 512 * (t.val / 11) + a.val) :
    OUT m c t (ix2 a d) = REF (F := Ideal) (A0 m c) (A1 m c) (A2 m c) (A3 m c) (A4 m c) (A5 m c) (A6 m c) (ix2 r d) := by
  have ht : t.val < 352 := t.isLt
  unfold OUT
  rw [if_pos h, oN_at, R_at, W0_at m c t a d r hr, W9_at]
  simp only [ACC_end m c t h]
  have e1 : (⟨r.val / 4096, by omega⟩ : Fin 4) = bt t := Fin.ext (by show r.val / 4096 = t.val / 88 % 4; omega)
  have e2 : (⟨r.val % 4096, by omega⟩ : Fin 4096) = sq t a := Fin.ext (by show r.val % 4096 = 512 * (t.val / 11 % 8) + a.val; omega)
  rw [e1, e2]

theorem final (c : Dev nD) : (dats m 0 c).arrAt 10 (cfgs 0).N = REF (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  have h : t.val % 11 = 10 := (flush0_10 t).mp hf
  obtain ⟨e0, e1, e2, e3, e4, e5, e6, e7, e8, e9, e10⟩ := idx t
  blk_simp; rw [after0_10]
  obtain ⟨a, d, rfl⟩ : ∃ (a : Fin 512) (d : Fin 2048), y = ix2 a d := ⟨y 0, y 1, by funext k; fin_cases k <;> rfl⟩
  have ht : t.val < 352 := t.isLt
  rw [point m c t h a d ⟨512 * (t.val / 11) + a.val, by omega⟩ rfl]
  blk_point [e10]

end Cert.FfnIdeal.FfnVal

end
-- ==== Proof.ProjIdealBody.lean ====
module

public import proofs.«01_k».proof.Proof.Gen.ProjIdeal.Frame
public import proofs.«01_k».proof.Proof.Gen.ProjIdeal.Skeleton
public import proofs.«01_k».proof.Proof.Gen.ProjIdeal.Loops
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.WritesUnit
public import Idealize.ShloMosaic.Lib.Pipeline.ValueKit

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- Rows `256 k … 256 k + 255` of a block of 1024 rows. -/
def rows (x : Vec F S1024x2048 .f32) (k : ℕ) : Vec F S256x2048 .f32 := fun z =>
  x (ix2 (⟨(256 * k + (z 0).val) % 1024, Nat.mod_lt _ (by decide)⟩ : Fin 1024) (⟨(z 1).val, (z 1).isLt⟩ : Fin 2048))

/-- The normalised rows of a block, strip by strip. -/
def hN (x : Vec F S1024x2048 .f32) (g : Vec F S1x2048 .f32) : Vec F S1024x2048 .bf16 := fun y =>
  k0_pay2 (rows x ((y 0).val / 256)) g (ix2 (⟨(y 0).val % 256, Nat.mod_lt _ (by decide)⟩ : Fin 256) (⟨(y 1).val, (y 1).isLt⟩ : Fin 2048))

/-- The mean of each strip's normalised rows. -/
def hbN (x : Vec F S1024x2048 .f32) (g : Vec F S1x2048 .f32) : Vec F S4x1x2048 .f32 := fun y =>
  k0_pay3 (rows x (y 0).val) g (ix3 (0 : Fin 1) (0 : Fin 1) (⟨(y 2).val, (y 2).isLt⟩ : Fin 2048))

section Run

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S4x1x2048 .f32) (harg7 : arg7.IsWhole) (arg8 : Memref sig .tc .vmem S1024x2048 .bf16) (harg8 : arg8.IsWhole)

/-- The stores of the strips before `n`: the strip means and the normalised rows. -/
abbrev PB (h : k0_cond1 i = 1#1) (f2 : BufTy.Contents (Elt F) arg2.view.ty) (f3 : BufTy.Contents (Elt F) arg3.view.ty) (n : ℕ) :=
  pb_k0_t1 (F := F) Variants.none c none i arg2 harg2 arg3 harg3 arg4 harg4 arg5 harg5 arg6 harg6 arg7 harg7 arg8 harg8 h f2 f3 n

set_option maxHeartbeats 4000000 in
/-- A run at a point that fills the scratch: what it writes. -/
theorem run_first (h : k0_cond1 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (E : Set ℕ) (K : PUnit → sProp 𝕄) :
      iprop((arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} f6) ∗ (arg7.view.loc (c : Thread nD τ) ↦[arg7.view.set]{fullShare} f7)
        ∗ (arg8.view.loc (c : Thread nD τ) ↦[arg8.view.set]{fullShare} f8)
        ∗ (iprop((arg2.view.loc (c : Thread nD τ) ↦[arg2.view.set]{fullShare} f2) ∗ (arg3.view.loc (c : Thread nD τ) ↦[arg3.view.set]{fullShare} f3)
          ∗ (arg4.view.loc (c : Thread nD τ) ↦[arg4.view.set]{fullShare} f4) ∗ (arg5.view.loc (c : Thread nD τ) ↦[arg5.view.set]{fullShare} f5)
          ∗ (arg6.view.loc (c : Thread nD τ) ↦[arg6.view.set]{fullShare} arg6.view.writes (Elt F) f6 [⟨Rect.unit (s := S1024x2048) ![0, 0] S1024x2048.size inb_S1024x2048_S1024x2048_0_0, k0_pay4 (arg8.view.readAt (Elt F) (Rect.unit (s := S1024x2048) ![0, 0] S1024x2048.size inb_S1024x2048_S1024x2048_0_0).toLoadRect (arg8.view.writes (Elt F) f8 (PB c i arg2 harg2 arg3 harg3 arg4 harg4 arg5 harg5 arg6 harg6 arg7 harg7 arg8 harg8 h f2 f3 k0_t1_loop.trips).2)) (arg4.view.readAt (Elt F) (Rect.unit (s := S1x2048x2048) ![0, 0, 0] S1x2048x2048.size inb_S1x2048x2048_S1x2048x2048_0_0_0).toLoadRect f4) (arg5.view.readAt (Elt F) (Rect.unit (s := S1x2048) ![0, 0] S1x2048.size inb_S1x2048_S1x2048_0_0).toLoadRect f5)⟩])
          ∗ (arg7.view.loc (c : Thread nD τ) ↦[arg7.view.set]{fullShare} arg7.view.writes (Elt F) f7 (PB c i arg2 harg2 arg3 harg3 arg4 harg4 arg5 harg5 arg6 harg6 arg7 harg7 arg8 harg8 h f2 f3 k0_t1_loop.trips).1)
          ∗ (arg8.view.loc (c : Thread nD τ) ↦[arg8.view.set]{fullShare} arg8.view.writes (Elt F) f8 (PB c i arg2 harg2 arg3 harg3 arg4 harg4 arg5 harg5 arg6 harg6 arg7 harg7 arg8 harg8 h f2 f3 k0_t1_loop.trips).2)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  rw [dif_pos h]
  iintro ⟨H2, H3, H4, H5, H6, H7, H8, Hk⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  iexact H8

set_option maxHeartbeats 4000000 in
/-- A run at a point that reads the scratch as it finds it. -/
theorem run_next (h : ¬ k0_cond1 i = 1#1) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (E : Set ℕ) (K : PUnit → sProp 𝕄) :
      iprop((arg2.view.loc (c : Thread nD τ) ↦[arg2.view.set]{fullShare} f2) ∗ (arg3.view.loc (c : Thread nD τ) ↦[arg3.view.set]{fullShare} f3)
        ∗ (arg4.view.loc (c : Thread nD τ) ↦[arg4.view.set]{fullShare} f4) ∗ (arg5.view.loc (c : Thread nD τ) ↦[arg5.view.set]{fullShare} f5)
        ∗ (arg6.view.loc (c : Thread nD τ) ↦[arg6.view.set]{fullShare} f6) ∗ (arg7.view.loc (c : Thread nD τ) ↦[arg7.view.set]{fullShare} f7)
        ∗ (arg8.view.loc (c : Thread nD τ) ↦[arg8.view.set]{fullShare} f8)
        ∗ (iprop((arg2.view.loc (c : Thread nD τ) ↦[arg2.view.set]{fullShare} f2) ∗ (arg3.view.loc (c : Thread nD τ) ↦[arg3.view.set]{fullShare} f3)
          ∗ (arg4.view.loc (c : Thread nD τ) ↦[arg4.view.set]{fullShare} f4) ∗ (arg5.view.loc (c : Thread nD τ) ↦[arg5.view.set]{fullShare} f5)
          ∗ (arg6.view.loc (c : Thread nD τ) ↦[arg6.view.set]{fullShare} arg6.view.writes (Elt F) f6 [⟨Rect.unit (s := S1024x2048) ![0, 0] S1024x2048.size inb_S1024x2048_S1024x2048_0_0, k0_pay4 (arg8.view.readAt (Elt F) (Rect.unit (s := S1024x2048) ![0, 0] S1024x2048.size inb_S1024x2048_S1024x2048_0_0).toLoadRect f8) (arg4.view.readAt (Elt F) (Rect.unit (s := S1x2048x2048) ![0, 0, 0] S1x2048x2048.size inb_S1x2048x2048_S1x2048x2048_0_0_0).toLoadRect f4) (arg5.view.readAt (Elt F) (Rect.unit (s := S1x2048) ![0, 0] S1x2048.size inb_S1x2048_S1x2048_0_0).toLoadRect f5)⟩])
          ∗ (arg7.view.loc (c : Thread nD τ) ↦[arg7.view.set]{fullShare} f7)
          ∗ (arg8.view.loc (c : Thread nD τ) ↦[arg8.view.set]{fullShare} f8)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  rw [dif_neg h]
  iintro ⟨H2, H3, H4, H5, H6, H7, H8, Hk⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  iexact H8

end Run

end Cert.ProjIdeal.Hand

end
-- ==== Proof.ProjIdealStrip.lean ====
module

public import proofs.«01_k».proof.Proof.ProjIdealBody

@[expose] public section

set_option maxRecDepth 16384

noncomputable section

namespace Cert.ProjIdeal.Hand

open Cert.ProjIdeal.Gen
open Idealize.ShloMosaic Idealize.ShloMosaic.TcCoe Idealize.ShloMosaic.Tactic

variable {F : FTy → Type} [FloatOps F]

/-- A load of a whole buffer reads it. -/
theorem readAt_whole {S : Shape} {e : EltTy} (v : View sig .tc .vmem S e) (f : v.ty.Contents (Elt F)) {off : Fin S.rank → ℕ} (inb : ∀ a, off a + S.size a ≤ S.size a) :
    v.readAt (Elt F) (Rect.unit off S.size inb).toLoadRect f = v.read (Elt F) f := by
  funext y
  rw [View.readAt_apply]
  congr 1
  funext a
  refine Fin.ext ?_
  have := inb a
  show off a + 1 * (y a).val = (y a).val
  omega

/-- A store of a whole buffer leaves what was stored. -/
theorem read_writes_all {S : Shape} {e : EltTy} (v : View sig .tc .vmem S e) (f : v.ty.Contents (Elt F)) {off : Fin S.rank → ℕ} (inb : ∀ a, off a + S.size a ≤ S.size a)
    (w : (Rect.unit off S.size inb).shape.Idx → Elt F e) :
    v.read (Elt F) (v.writes (Elt F) f [⟨Rect.unit off S.size inb, w⟩]) = w := by
  funext y
  have e0 : ∀ a, off a = 0 := fun a => by have := inb a; omega
  exact View.read_writes_cons_unit_of_mem v f inb w [] y y rfl (fun a => by rw [e0 a, Nat.zero_add])

theorem off1_eq (k : Fin k0_t1_loop.trips) : k0_off1 k = ![256 * k.val, 0] := by
  revert k; decide +kernel
theorem off2_eq (k : Fin k0_t1_loop.trips) : k0_off2 k = ![k.val, 0, 0] := by
  revert k; decide +kernel
theorem trips_four : k0_t1_loop.trips = 4 := by decide +kernel

section Run

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S4x1x2048 .f32) (harg7 : arg7.IsWhole) (arg8 : Memref sig .tc .vmem S1024x2048 .bf16) (harg8 : arg8.IsWhole)
  (h : k0_cond1 i = 1#1) (f2 : BufTy.Contents (Elt F) arg2.view.ty) (f3 : BufTy.Contents (Elt F) arg3.view.ty)

/-- The rows a trip loads. -/
theorem load_rows (k : Fin k0_t1_loop.trips) (inb : ∀ a, k0_off1 k a + S256x2048.size a ≤ S1024x2048.size a) :
    arg2.view.readAt (Elt F) (Rect.unit (s := S1024x2048) (k0_off1 k) S256x2048.size inb).toLoadRect f2 = rows (arg2.view.read (Elt F) f2) k.val := by
  have hk : k.val < 4 := trips_four ▸ k.isLt
  funext y
  have y0 : (y 0).val < 256 := (y 0).isLt
  rw [View.readAt_apply]
  unfold rows
  congr 1
  funext a
  refine Fin.ext ?_
  match a with
  | 0 =>
    show k0_off1 k 0 + 1 * (y 0).val = (256 * k.val + (y 0).val) % 1024
    have e0 : k0_off1 k 0 = 256 * k.val := congrFun (off1_eq k) 0
    have e2 : k0_off1 k 0 + 1 * (y 0).val = 256 * k.val + 1 * (y 0).val := congrArg (fun o => o + 1 * (y 0).val) e0
    exact e2.trans (by omega)
  | 1 =>
    show k0_off1 k 1 + 1 * (y 1).val = (y 1).val
    have e1 : k0_off1 k 1 = 0 := congrFun (off1_eq k) 1
    have e2 : k0_off1 k 1 + 1 * (y 1).val = 0 + 1 * (y 1).val := congrArg (fun o => o + 1 * (y 1).val) e1
    exact e2.trans (by omega)

/-- One trip's stores. -/
theorem trip_stores (k : Fin k0_t1_loop.trips) :
    tripL_k0_t1 (F := F) Variants.none c none i arg2 harg2 arg3 harg3 arg4 harg4 arg5 harg5 arg6 harg6 arg7 harg7 arg8 harg8 h f2 f3 k
      = ([⟨Rect.unit (s := S4x1x2048) (k0_off2 k) S1x1x2048.size (k0_off2_inb i k h), k0_pay3 (rows (arg2.view.read (Elt F) f2) k.val) (arg3.view.read (Elt F) f3)⟩],
         [⟨Rect.unit (s := S1024x2048) (k0_off1 k) S256x2048.size (k0_off1_inb i k h), k0_pay2 (rows (arg2.view.read (Elt F) f2) k.val) (arg3.view.read (Elt F) f3)⟩]) := by
  rw [← load_rows arg2 f2 k (k0_off1_inb i k h), ← readAt_whole arg3.view f3 inb_S1x2048_S1x2048_0_0]
  unfold tripL_k0_t1 trip_k0_t1
  rfl

/-- The scratch rows the trips before `n` have filled. -/
theorem read_h (f8 : BufTy.Contents (Elt F) arg8.view.ty) : ∀ (n : ℕ), n ≤ 4 → ∀ y : S1024x2048.Idx, (y 0).val < 256 * n →
    arg8.view.read (Elt F) (arg8.view.writes (Elt F) f8 (PB c i arg2 harg2 arg3 harg3 arg4 harg4 arg5 harg5 arg6 harg6 arg7 harg7 arg8 harg8 h f2 f3 n).2) y
      = hN (arg2.view.read (Elt F) f2) (arg3.view.read (Elt F) f3) y
  | 0, _, y, hy => by omega
  | n + 1, hn, y, hy => by
    have hk : n < k0_t1_loop.trips := by rw [trips_four]; omega
    have e := pb_k0_t1_succ (F := F) Variants.none c none i arg2 harg2 arg3 harg3 arg4 harg4 arg5 harg5 arg6 harg6 arg7 harg7 arg8 harg8 h f2 f3 ⟨n, hk⟩
    unfold PB
    rw [e, trip_stores]
    dsimp only [List.cons_append, List.nil_append]
    by_cases hlt : (y 0).val < 256 * n
    · refine (View.read_writes_cons_unit_of_not_mem arg8.view f8 _ _ _ y (off1_eq ⟨n, hk⟩) 0 (.inl hlt)).trans ?_
      exact read_h f8 n (by omega) y hlt
    · refine (View.read_writes_cons_unit_of_mem arg8.view f8 _ _ _ y (ix2 (⟨(y 0).val % 256, Nat.mod_lt _ (by decide)⟩ : Fin 256) (⟨(y 1).val, (y 1).isLt⟩ : Fin 2048)) (off1_eq ⟨n, hk⟩) (fun a => ?_)).trans ?_
      · match a with
        | 0 => show (y 0).val = 256 * n + (y 0).val % 256; omega
        | 1 => show (y 1).val = 0 + (y 1).val; omega
      · unfold hN
        rw [show (y 0).val / 256 = n by omega]

/-- The strip means the trips before `n` have written. -/
theorem read_hb (f7 : BufTy.Contents (Elt F) arg7.view.ty) : ∀ (n : ℕ), n ≤ 4 → ∀ y : S4x1x2048.Idx, (y 0).val < n →
    arg7.view.read (Elt F) (arg7.view.writes (Elt F) f7 (PB c i arg2 harg2 arg3 harg3 arg4 harg4 arg5 harg5 arg6 harg6 arg7 harg7 arg8 harg8 h f2 f3 n).1) y
      = hbN (arg2.view.read (Elt F) f2) (arg3.view.read (Elt F) f3) y
  | 0, _, y, hy => by omega
  | n + 1, hn, y, hy => by
    have hk : n < k0_t1_loop.trips := by rw [trips_four]; omega
    have y1 : (y 1).val < 1 := (y 1).isLt
    have e := pb_k0_t1_succ (F := F) Variants.none c none i arg2 harg2 arg3 harg3 arg4 harg4 arg5 harg5 arg6 harg6 arg7 harg7 arg8 harg8 h f2 f3 ⟨n, hk⟩
    unfold PB
    rw [e, trip_stores]
    dsimp only [List.cons_append, List.nil_append]
    by_cases hlt : (y 0).val < n
    · refine (View.read_writes_cons_unit_of_not_mem arg7.view f7 _ _ _ y (off2_eq ⟨n, hk⟩) 0 (.inl hlt)).trans ?_
      exact read_hb f7 n (by omega) y hlt
    · refine (View.read_writes_cons_unit_of_mem arg7.view f7 _ _ _ y (ix3 (0 : Fin 1) (0 : Fin 1) (⟨(y 2).val, (y 2).isLt⟩ : Fin 2048)) (off2_eq ⟨n, hk⟩) (fun a => ?_)).trans ?_
      · match a with
        | 0 => show (y 0).val = n + 0; omega
        | 1 => show (y 1).val = 0 + 0; omega
        | 2 => show (y 2).val = 0 + (y 2).val; omega
      · unfold hbN
        rw [show (y 0).val = n by omega]

end Run

end Cert.ProjIdeal.Hand

end
-- ==== Proof.ProjIdealFrame.lean ====
module

public import proofs.«01_k».proof.Proof.ProjIdealStrip
public import Idealize.ShloMosaic.Lib.Claim
public import Idealize.ShloMosaic.Lib.Pipeline.TableIdle

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on whole buffers -/

section Sound

/-- A point that fills the scratch: whatever the two written buffers and the scratch held before. -/
theorem sound_first (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S4x1x2048 .f32) (harg7 : arg7.IsWhole) (arg8 : Memref sig .tc .vmem S1024x2048 .bf16) (harg8 : arg8.IsWhole)   (x0 : Vec F S1024x2048 .f32) (x1 : Vec F S1x2048 .f32) (x2 : Vec F S1x2048x2048 .bf16) (x3 : Vec F S1x2048 .f32) (K : PUnit → sProp 𝕄) (h : k0_cond1 i = 1#1) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (hN x0 x1) x2 x3) ∗ owns (c : Thread nD τ) arg7 fullShare (hbN x0 x1) ∗ owns (c : Thread nD τ) arg8 fullShare (hN x0 x1)) -∗ K ⟨⟩))
      ⊢ wp frame (wpE (defs₀ (F := F)) Variants.none c none) E (cc0_inproj i arg2 harg2 arg3 harg3 arg4 harg4 arg5 harg5 arg6 harg6 arg7 harg7 arg8 harg8) K := by
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  iapply (run_first c i arg2 harg2 arg3 harg3 arg4 harg4 arg5 harg5 arg6 harg6 arg7 harg7 arg8 harg8 h f2 f3 f4 f5 f6 f7 f8 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  have e8 : arg8.view.read (Elt F) (arg8.view.writes (Elt F) f8 (PB c i arg2 harg2 arg3 harg3 arg4 harg4 arg5 harg5 arg6 harg6 arg7 harg7 arg8 harg8 h f2 f3 k0_t1_loop.trips).2) = hN (arg2.view.read (Elt F) f2) (arg3.view.read (Elt F) f3) := by
    rw [trips_four]
    funext y
    exact read_h c i arg2 harg2 arg3 harg3 arg4 harg4 arg5 harg5 arg6 harg6 arg7 harg7 arg8 harg8 h f2 f3 f8 4 (Nat.le_refl 4) y (by have : (y 0).val < 1024 := (y 0).isLt; omega)
  have e7 : arg7.view.read (Elt F) (arg7.view.writes (Elt F) f7 (PB c i arg2 harg2 arg3 harg3 arg4 harg4 arg5 harg5 arg6 harg6 arg7 harg7 arg8 harg8 h f2 f3 k0_t1_loop.trips).1) = hbN (arg2.view.read (Elt F) f2) (arg3.view.read (Elt F) f3) := by
    rw [trips_four]
    funext y
    exact read_hb c i arg2 harg2 arg3 harg3 arg4 harg4 arg5 harg5 arg6 harg6 arg7 harg7 arg8 harg8 h f2 f3 f7 4 (Nat.le_refl 4) y (y 0).isLt
  iintro ⟨H2, H3, H4, H5, H6, H7, H8⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_writes_all, readAt_whole, readAt_whole, readAt_whole, e8]
  isplitl [H7]
  · iexists _; isplitr
    swap; · iexact H7
    ipureintro
    exact e7
  iexists _; isplitr
  swap; · iexact H8
  ipureintro
  exact e8

/-- A later point of the same rows: the strip means and the scratch stay as they are. -/
theorem sound_next (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x2048 .bf16) (harg4 : arg4.IsWhole) (arg5 : Memref sig .tc .vmem S1x2048 .f32) (harg5 : arg5.IsWhole) (arg6 : Memref sig .tc .vmem S1024x2048 .bf16) (harg6 : arg6.IsWhole) (arg7 : Memref sig .tc .vmem S4x1x2048 .f32) (harg7 : arg7.IsWhole) (arg8 : Memref sig .tc .vmem S1024x2048 .bf16) (harg8 : arg8.IsWhole)   (x0 : Vec F S1024x2048 .f32) (x1 : Vec F S1x2048 .f32) (x2 : Vec F S1x2048x2048 .bf16) (x3 : Vec F S1x2048 .f32) (x5 : Vec F S4x1x2048 .f32) (x8 : Vec F S1024x2048 .bf16) (K : PUnit → sProp 𝕄) (h : ¬ k0_cond1 i = 1#1) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 x8 x2 x3) ∗ owns (c : Thread nD τ) arg7 fullShare x5 ∗ owns (c : Thread nD τ) arg8 fullShare x8) -∗ K ⟨⟩))
      ⊢ wp frame (wpE (defs₀ (F := F)) Variants.none c none) E (cc0_inproj i arg2 harg2 arg3 harg3 arg4 harg4 arg5 harg5 arg6 harg6 arg7 harg7 arg8 harg8) K := by
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf2 hf3 hf4 hf5 hf7 hf8
  iapply (run_next c i arg2 harg2 arg3 harg3 arg4 harg4 arg5 harg5 arg6 harg6 arg7 harg7 arg8 harg8 h f2 f3 f4 f5 f6 f7 f8 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, H4, H5, H6, H7, H8⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_writes_all, readAt_whole, readAt_whole, readAt_whole]
  isplitl [H7]
  · iexists f7; isplitr; · ipureintro; rfl
    iexact H7
  iexists f8; isplitr; · ipureintro; rfl
  iexact H8

end Sound

/-! ## The pipeline's proof data -/

/-- The normalised rows of the point's row block. -/
def H (c : Dev nD) (t : Fin cfg0.N) : Vec F S1024x2048 .bf16 := hN (iblk m c 0 t) (iblk m c 1 t)
/-- The strip means of the point's row block. -/
def HB (c : Dev nD) (t : Fin cfg0.N) : Vec F S4x1x2048 .f32 := hbN (iblk m c 0 t) (iblk m c 1 t)

/-- Before point `n`: the scratch holds the normalised rows of the point before. -/
def Inv (c : Dev nD) (n : ℕ) : sProp 𝕄 :=
  iprop((∃ d, owns (c : Thread nD τ) (Memref.whole cc0_scratch0) fullShare d ∗ ⌜∀ s : Fin cfg0.N, s.val + 1 = n → d = H m c s⌝) ∗ (∃ g, prngReg c g))

/-- The proof data: the arrays as launched, each input's buffer at its block, the two outputs at the product and at
    the strip means of the row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (H m c t) (iblk m c 2 t) (iblk m c 3 t)
    | ⟨5, _⟩ => HB m c t
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay4 (H m c t) (iblk m c 2 t) (iblk m c 3 t) := by dsimp only [dats]
theorem after0_5 (c : Dev nD) (t : Fin cfg0.N) : (dats m 0 c).after 5 t = HB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The point before. -/
abbrev prev (t : Fin cfg0.N) : Fin cfg0.N := ⟨t.val - 1, Nat.lt_of_le_of_lt (Nat.sub_le _ _) t.isLt⟩

/-- The row block does not move within a row of the grid. -/
theorem same_rows (c : Dev nD) (t : Fin cfg0.N) (h : t.val % 4 ≠ 0) : iblk m c 0 t = iblk m c 0 (prev t) := by
  have hf : (cfg0.win 0).fetch t = false := by
    rw [Bool.eq_false_iff]; exact fun hh => h ((fetch0_0 t).mp hh)
  refine (before0_0 m c t (iblk m c 0 t)).symm.trans (((dats m 0 c).before_unfetched_in 0 rfl t hf (fun _ => rfl) (iblk m c 0 t)).trans ?_)
  exact after0_0 m c (prev t)

theorem same_gain (c : Dev nD) (t : Fin cfg0.N) (h : t.val % 4 ≠ 0) : iblk m c 1 t = iblk m c 1 (prev t) := by
  have hf : (cfg0.win 1).fetch t = false := by
    rw [Bool.eq_false_iff]; exact fun hh => by have := (fetch0_1 t).mp hh; omega
  refine (before0_1 m c t (iblk m c 1 t)).symm.trans (((dats m 0 c).before_unfetched_in 1 rfl t hf (fun _ => rfl) (iblk m c 1 t)).trans ?_)
  exact after0_1 m c (prev t)

theorem same_H (c : Dev nD) (t : Fin cfg0.N) (h : t.val % 4 ≠ 0) : H m c (prev t) = H m c t := by
  unfold H; rw [same_rows m c t h, same_gain m c t h]
theorem same_HB (c : Dev nD) (t : Fin cfg0.N) (h : t.val % 4 ≠ 0) : HB m c (prev t) = HB m c t := by
  unfold HB; rw [same_rows m c t h, same_gain m c t h]

theorem cond_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The strip means are stored at the first point of each row of the grid only. -/
theorem idle5_iff (t : Fin cfg0.N) : cfg0.idle 5 (cfg0.grid.coords t) = true ↔ t.val % 4 ≠ 0 := by
  show (!(k0_cond1 (grid0.coords t) == 1#1)) = true ↔ _
  rw [Bool.not_eq_true', beq_eq_false_iff_ne]
  exact not_congr (cond_iff t)

theorem stored5 : ∀ n, n ≤ cfg0.N → n % 4 ≠ 0 → cfg0.fresh 5 n = false
  | 0, _, h => absurd rfl h
  | n + 1, hn, h => by
    rw [cfg0.fresh_succ 5 n hn]
    have hfl : (cfg0.win 5).flush ⟨n, hn⟩ = false := by
      rw [Bool.eq_false_iff]; exact fun hh => by have e : n % 4 = 3 := (flush0_5 ⟨n, hn⟩).mp hh; omega
    rw [hfl, Bool.false_or]
    by_cases h0 : n % 4 = 0
    · have hi : cfg0.idle 5 (cfg0.grid.coords ⟨n, hn⟩) = false := by
        rw [Bool.eq_false_iff]; exact fun hh => (idle5_iff ⟨n, hn⟩).mp hh h0
      rw [hi, Bool.false_and]
    · rw [stored5 n (Nat.le_of_lt hn) h0, Bool.and_false]

theorem before0_5 (c : Dev nD) (t : Fin cfg0.N) (h : t.val % 4 ≠ 0) (d) : (dats m 0 c).before 5 t d = HB m c t := by
  refine ((dats m 0 c).before_out_traj 5 rfl (fun _ _ => rfl) (fun s hs hi _ => ?_) t.val t rfl d).trans ?_
  · rw [after0_5, after0_5]
    exact (same_HB m c s ((idle5_iff s).mp hi)).symm
  · rw [stored5 t.val (Nat.le_of_lt t.isLt) h, if_neg Bool.false_ne_true]
    exact (after0_5 m c (prev t)).trans (same_HB m c t h)

/-- What the body owes of the strip means' buffer: at a point that stores nothing into it and does not write it back,
    that it is as it was found. -/
def post5 (c : Dev nD) (t : Fin cfg0.N) : sProp 𝕄 :=
  match cfg0.idle 5 (cfg0.grid.coords t) with
  | true => match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem post5_intro (c : Dev nD) (t : Fin cfg0.N) : (owns (c : Thread nD τ) (st0_5 t) fullShare (HB m c t) : sProp 𝕄) ⊢ post5 m c t := by
  unfold post5
  cases hi : cfg0.idle 5 (cfg0.grid.coords t)
  · dsimp only
    rw [after0_5]
  · dsimp only
    cases hf : (cfg0.win 5).flush t
    · dsimp only
      simp only [before0_5 m c t ((idle5_iff t).mp hi)]
      iintro H
      iexists (HB m c t)
      iexact H
    · dsimp only
      rw [after0_5]

/-! ## The body obligation -/

def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ post5 m c t)

theorem inv_pre (c : Dev nD) (t : Fin cfg0.N) : (dats m 0 c).Φ t.castSucc = Inv m c t.val := by dsimp only [dats]; rfl
theorem inv_post (c : Dev nD) (t : Fin cfg0.N) : (dats m 0 c).Φ t.succ = Inv m c (t.val + 1) := by dsimp only [dats]; rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [inv_pre, inv_post,
    show (dats m 0 c).owesAt () t.succ = (dats m 0 c).owesAt () t.castSucc from rfl,
    after0_0, after0_1, after0_2, after0_3, after0_4]
  unfold Inv
  by_cases h : t.val % 4 = 0
  · iintro ⟨⟨⟨%d8, S0, -⟩, HP⟩, Ho, ⟨%d0, H0⟩, ⟨%d1, H1⟩, ⟨%d2, H2⟩, ⟨%d3, H3⟩, ⟨%d4, H4⟩, ⟨%d5, H5⟩⟩
    iapply (sound_first c Set.univ (grid0.coords t) _ _ _ _ _ _ _ _ _ _ _ _ _ _ (iblk m c 0 t) (iblk m c 1 t) (iblk m c 2 t) (iblk m c 3 t) _ ((cond_iff t).mpr h))
    isplitl [H0]; · iexact H0
    isplitl [H1]; · iexact H1
    isplitl [H2]; · iexact H2
    isplitl [H3]; · iexact H3
    isplitl [H4]; · iexists _; iexact H4
    isplitl [H5]; · iexists _; iexact H5
    isplitl [S0]; · iexists _; iexact S0
    iintro ⟨H0, H1, H2, H3, H4, H5, S0⟩
    isplitl [S0 HP]
    · isplitl [S0]
      · iexists (H m c t)
        isplitl [S0]; · iexact S0
        ipureintro
        intro s hs
        rw [show s = t from Fin.ext (by omega)]
      iexact HP
    isplitl [Ho]; · iexact Ho
    isplitl [H0]; · iexact H0
    isplitl [H1]; · iexact H1
    isplitl [H2]; · iexact H2
    isplitl [H3]; · iexact H3
    isplitl [H4]; · iexact H4
    iapply (post5_intro m c t)
    iexact H5
  · simp only [before0_5 m c t h]
    iintro ⟨⟨⟨%d8, S0, %hd⟩, HP⟩, Ho, ⟨%d0, H0⟩, ⟨%d1, H1⟩, ⟨%d2, H2⟩, ⟨%d3, H3⟩, ⟨%d4, H4⟩, ⟨%d5, H5⟩⟩
    have e : d8 = H m c t := (hd (prev t) (by show t.val - 1 + 1 = t.val; omega)).trans (same_H m c t h)
    subst e
    iapply (sound_next c Set.univ (grid0.coords t) _ _ _ _ _ _ _ _ _ _ _ _ _ _ (iblk m c 0 t) (iblk m c 1 t) (iblk m c 2 t) (iblk m c 3 t) (HB m c t) (H m c t) _ (fun hh => h ((cond_iff t).mp hh)))
    isplitl [H0]; · iexact H0
    isplitl [H1]; · iexact H1
    isplitl [H2]; · iexact H2
    isplitl [H3]; · iexact H3
    isplitl [H4]; · iexists _; iexact H4
    isplitl [H5]; · iexact H5
    isplitl [S0]; · iexact S0
    iintro ⟨H0, H1, H2, H3, H4, H5, S0⟩
    isplitl [S0 HP]
    · isplitl [S0]
      · iexists (H m c t)
        isplitl [S0]; · iexact S0
        ipureintro
        intro s hs
        rw [show s = t from Fin.ext (by omega)]
      iexact HP
    isplitl [Ho]; · iexact Ho
    isplitl [H0]; · iexact H0
    isplitl [H1]; · iexact H1
    isplitl [H2]; · iexact H2
    isplitl [H3]; · iexact H3
    isplitl [H4]; · iexact H4
    iapply (post5_intro m c t)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The scratch held whole at anything. -/
theorem scratch_eq (c : Dev nD) : (Pipeline.scopedRest (Ix := Unit) (Name := ℕ) (U := UR sig nD τ) (Lvl := ℕ) (Val := Elt F) spec0 c : sProp 𝕄)
    = iprop((∃ d, owns (c : Thread nD τ) (Memref.whole cc0_scratch0) fullShare d)) := by
  rw [scopedRest0_eq]; simp only [owns_whole]

theorem inv_in (c : Dev nD) : (Pipeline.ΦA spec0 c : sProp 𝕄) ⊢ (dats m 0 c).Φ 0 := by
  show _ ⊢ Inv m c 0
  unfold Pipeline.ΦA Inv
  rw [scratch_eq]
  iintro ⟨⟨%d, S0⟩, HP⟩
  isplitl [S0]
  · iexists d
    isplitl [S0]; · iexact S0
    ipureintro
    intro s hs
    omega
  iexact HP

theorem inv_out (c : Dev nD) : (dats m 0 c).Φ (Fin.last cfg0.N) ⊢ (Pipeline.ΦA spec0 c : sProp 𝕄) := by
  show Inv m c cfg0.N ⊢ _
  unfold Pipeline.ΦA Inv
  rw [scratch_eq]
  iintro ⟨⟨%d, S0, -⟩, HP⟩
  isplitl [S0]
  · iexists d; iexact S0
  iexact HP

set_option backward.isDefEq.respectTransparency.types false in
set_option maxHeartbeats 800000 in
/-- The program runs, every array ends at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the program terminates, its arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.ProjIdeal.Hand

end
-- ==== Proof.ProjTerm.lean ====
module

public import proofs.«01_k».proof.Proof.Gen.ProjRefIdeal.Run
public import Idealize.ShloMosaic.Lib.Pointwise

@[expose] public section

set_option maxRecDepth 16384

noncomputable section

namespace Cert.ProjRefIdeal.Pure

open Cert.ProjRefIdeal Cert.ProjRefIdeal.Gen Idealize.ShloMosaic Idealize.ShloMosaic.TcCoe Idealize.SL.Sem

variable {F : FTy → Type} [FloatOps F]

/-- The reference's projection, as a function of its arguments. -/
def REF0 (a0 : FVec F S16384x2048 .f32) (a1 : FVec F S1x2048 .f32) (a2 : FVec F S2x2048x8192 .bf16) (a3 : FVec F S1x8192 .f32) : FVec F S16384x8192 .bf16 :=
  truncf .bf16 (mulf (Host.dotGeneral dot_S16384x2048_S2048x8192_S16384x8192_1_0_0_1_n_n none (mulf (mulf a0 (broadcastInDim S16384x2048 ![0, 1] bcast_S16384x1_S16384x2048_0_1 (Host.rsqrt (addf (Host.divf (broadcastInDim S16384x1 ![0] bcast_S16384_S16384x1_0 (Host.reduceAdd (mulf a0 a0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ a1 shapeCasts_S1x2048_S2048)))) (extf .f32 (shapeCast _ (extractStridedSlice S1x2048x8192 ![0, 0, 0] a2 slices_S2x2048x8192_S1x2048x8192_0_0_0) shapeCasts_S1x2048x8192_S2048x8192) bitsLt_bf16_f32)) (broadcastInDim S16384x8192 ![0, 1] bcast_S1x8192_S16384x8192_0_1 a3)) bitsLt_bf16_f32

/-- The reference's block means of the normalised rows, as a function of its arguments. -/
def REF1 (a0 : FVec F S16384x2048 .f32) (a1 : FVec F S1x2048 .f32) (a2 : FVec F S2x2048x8192 .bf16) (a3 : FVec F S1x8192 .f32) : FVec F S64x1x2048 .f32 :=
  Host.divf (broadcastInDim S64x1x2048 ![0, 2] bcast_S64x2048_S64x1x2048_0_2 (Host.reduceAdd (shapeCast _ (mulf (mulf a0 (broadcastInDim S16384x2048 ![0, 1] bcast_S16384x1_S16384x2048_0_1 (Host.rsqrt (addf (Host.divf (broadcastInDim S16384x1 ![0] bcast_S16384_S16384x1_0 (Host.reduceAdd (mulf a0 a0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ a1 shapeCasts_S1x2048_S2048)))) shapeCasts_S16384x2048_S64x256x2048) (constant S_ .f32 0x00000000#32) reducesTo_S64x256x2048_S64x2048_d1 h_S_)) (broadcastInDim S64x1x2048 ![] bcast_S_S64x1x2048 (constant S_ .f32 0x43800000#32))

end Cert.ProjRefIdeal.Pure

end
-- ==== Proof.ProjVal.lean ====
module

public import proofs.«01_k».proof.Proof.ProjIdealFrame
public import proofs.«01_k».proof.Proof.ProjTerm
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.ProjIdeal.ProjVal

open Cert.ProjIdeal Cert.ProjIdeal.Gen Cert.ProjIdeal.Hand
open Cert.ProjRefIdeal.Pure (REF0 REF1)

variable (m : (ℓ : Loc nD τ sig) → Buf (Elt Ideal) ℓ)

/-- The blocks' indices at every grid point. -/
theorem idx : ∀ t : Fin cfg0.N, win0_0.index t = ![t.val / 4, 0]
    ∧ win0_1.index t = ![0, 0]
    ∧ win0_2.index t = ![0, 0, t.val % 4]
    ∧ win0_3.index t = ![0, t.val % 4]
    ∧ win0_4.index t = ![t.val / 4, t.val % 4]
    ∧ win0_5.index t = ![t.val / 4, 0, 0] :=
  (by decide +kernel : ∀ t : Fin grid0.N, _)

set_option maxHeartbeats 1600000 in
theorem point4 (c : Dev nD) (t : Fin cfg0.N) (y) : k0_pay4 (F := Ideal) (H m c t) (iblk m c 2 t) (iblk m c 3 t) y = REF0 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  obtain ⟨e0, e1, e2, e3, e4, e5⟩ := idx t
  unfold H hN
  pointwise [k0_pay4, k0_pay2, k0_pay1, rows, REF0]
  blk_point [iblk, V, e0, e1, e2, e3, e4, e5]

set_option maxHeartbeats 1600000 in
theorem point5 (c : Dev nD) (t : Fin cfg0.N) (y) : HB (F := Ideal) m c t y = REF1 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  obtain ⟨e0, e1, e2, e3, e4, e5⟩ := idx t
  unfold HB hbN
  pointwise [k0_pay3, k0_pay1, rows, REF1]
  blk_point [iblk, V, e0, e1, e2, e3, e4, e5]

theorem final4 (c : Dev nD) : (dats m 0 c).arrAt 4 (cfgs 0).N = REF0 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  exact point4 m c t y

theorem final5 (c : Dev nD) : (dats m 0 c).arrAt 5 (cfgs 0).N = REF1 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  exact point5 m c t y

end Cert.ProjIdeal.ProjVal

end
-- ==== Proof.MergeTerm.lean ====
module

public import proofs.«01_k».proof.Proof.Gen.MergeRefIdeal.Run
public import Idealize.ShloMosaic.Lib.Pointwise

@[expose] public section

set_option maxRecDepth 16384

noncomputable section

namespace Cert.MergeRefIdeal.Pure

open Cert.MergeRefIdeal Cert.MergeRefIdeal.Gen Idealize.ShloMosaic Idealize.ShloMosaic.TcCoe Idealize.SL.Sem

variable {F : FTy → Type} [FloatOps F]

/-- The reference's result, as a function of its arguments. -/
def REF (a0 : FVec F S16384x1024 .bf16) (a1 : FVec F S16384x1024 .bf16) (a2 : FVec F S16384x8192 .bf16) (a3 : FVec F S16384x2048 .f32) (a4 : FVec F S2x1024x1024 .bf16) (a5 : FVec F S2x1024x2048 .bf16) (a6 : FVec F S2x1024x2048 .bf16) (a7 : FVec F S2x2048x2048 .bf16) (a8 : FVec F S1x2048 .f32) : FVec F S16384x2048 .f32 :=
  addf a3 (mulf (mulf (Host.dotGeneral dot_S16384x2048_S2048x2048_S16384x2048_1_0_0_1_n_n none (addf (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extf .f32 (extractStridedSlice S16384x2048 ![0, 4096] a2 slices_S16384x8192_S16384x2048_0_4096) bitsLt_bf16_f32))))) (Host.dotGeneral dot_S16384x1024_S1024x2048_S16384x2048_1_0_0_1_n_n none (mulf (extf .f32 a0 bitsLt_bf16_f32) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none (extf .f32 a0 bitsLt_bf16_f32) (extf .f32 (shapeCast _ (extractStridedSlice S1x1024x1024 ![0, 0, 0] a4 slices_S2x1024x1024_S1x1024x1024_0_0_0) shapeCasts_S1x1024x1024_S1024x1024) bitsLt_bf16_f32))))))) (extf .f32 (shapeCast _ (extractStridedSlice S1x1024x2048 ![0, 0, 0] a5 slices_S2x1024x2048_S1x1024x2048_0_0_0) shapeCasts_S1x1024x2048_S1024x2048) bitsLt_bf16_f32))) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extf .f32 (extractStridedSlice S16384x2048 ![0, 6144] a2 slices_S16384x8192_S16384x2048_0_6144) bitsLt_bf16_f32))))) (Host.dotGeneral dot_S16384x1024_S1024x2048_S16384x2048_1_0_0_1_n_n none (extf .f32 a1 bitsLt_bf16_f32) (extf .f32 (shapeCast _ (extractStridedSlice S1x1024x2048 ![0, 0, 0] a6 slices_S2x1024x2048_S1x1024x2048_0_0_0) shapeCasts_S1x1024x2048_S1024x2048) bitsLt_bf16_f32)))) (extf .f32 (shapeCast _ (extractStridedSlice S1x2048x2048 ![0, 0, 0] a7 slices_S2x2048x2048_S1x2048x2048_0_0_0) shapeCasts_S1x2048x2048_S2048x2048) bitsLt_bf16_f32)) (broadcastInDim S16384x2048 ![0, 1] bcast_S16384x1_S16384x2048_0_1 (Host.rsqrt (addf (Host.divf (broadcastInDim S16384x1 ![0] bcast_S16384_S16384x1_0 (Host.reduceAdd (mulf (Host.dotGeneral dot_S16384x2048_S2048x2048_S16384x2048_1_0_0_1_n_n none (addf (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extf .f32 (extractStridedSlice S16384x2048 ![0, 4096] a2 slices_S16384x8192_S16384x2048_0_4096) bitsLt_bf16_f32))))) (Host.dotGeneral dot_S16384x1024_S1024x2048_S16384x2048_1_0_0_1_n_n none (mulf (extf .f32 a0 bitsLt_bf16_f32) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none (extf .f32 a0 bitsLt_bf16_f32) (extf .f32 (shapeCast _ (extractStridedSlice S1x1024x1024 ![0, 0, 0] a4 slices_S2x1024x1024_S1x1024x1024_0_0_0) shapeCasts_S1x1024x1024_S1024x1024) bitsLt_bf16_f32))))))) (extf .f32 (shapeCast _ (extractStridedSlice S1x1024x2048 ![0, 0, 0] a5 slices_S2x1024x2048_S1x1024x2048_0_0_0) shapeCasts_S1x1024x2048_S1024x2048) bitsLt_bf16_f32))) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extf .f32 (extractStridedSlice S16384x2048 ![0, 6144] a2 slices_S16384x8192_S16384x2048_0_6144) bitsLt_bf16_f32))))) (Host.dotGeneral dot_S16384x1024_S1024x2048_S16384x2048_1_0_0_1_n_n none (extf .f32 a1 bitsLt_bf16_f32) (extf .f32 (shapeCast _ (extractStridedSlice S1x1024x2048 ![0, 0, 0] a6 slices_S2x1024x2048_S1x1024x2048_0_0_0) shapeCasts_S1x1024x2048_S1024x2048) bitsLt_bf16_f32)))) (extf .f32 (shapeCast _ (extractStridedSlice S1x2048x2048 ![0, 0, 0] a7 slices_S2x2048x2048_S1x2048x2048_0_0_0) shapeCasts_S1x2048x2048_S2048x2048) bitsLt_bf16_f32)) (Host.dotGeneral dot_S16384x2048_S2048x2048_S16384x2048_1_0_0_1_n_n none (addf (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extf .f32 (extractStridedSlice S16384x2048 ![0, 4096] a2 slices_S16384x8192_S16384x2048_0_4096) bitsLt_bf16_f32))))) (Host.dotGeneral dot_S16384x1024_S1024x2048_S16384x2048_1_0_0_1_n_n none (mulf (extf .f32 a0 bitsLt_bf16_f32) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none (extf .f32 a0 bitsLt_bf16_f32) (extf .f32 (shapeCast _ (extractStridedSlice S1x1024x1024 ![0, 0, 0] a4 slices_S2x1024x1024_S1x1024x1024_0_0_0) shapeCasts_S1x1024x1024_S1024x1024) bitsLt_bf16_f32))))))) (extf .f32 (shapeCast _ (extractStridedSlice S1x1024x2048 ![0, 0, 0] a5 slices_S2x1024x2048_S1x1024x2048_0_0_0) shapeCasts_S1x1024x2048_S1024x2048) bitsLt_bf16_f32))) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extf .f32 (extractStridedSlice S16384x2048 ![0, 6144] a2 slices_S16384x8192_S16384x2048_0_6144) bitsLt_bf16_f32))))) (Host.dotGeneral dot_S16384x1024_S1024x2048_S16384x2048_1_0_0_1_n_n none (extf .f32 a1 bitsLt_bf16_f32) (extf .f32 (shapeCast _ (extractStridedSlice S1x1024x2048 ![0, 0, 0] a6 slices_S2x1024x2048_S1x1024x2048_0_0_0) shapeCasts_S1x1024x2048_S1024x2048) bitsLt_bf16_f32)))) (extf .f32 (shapeCast _ (extractStridedSlice S1x2048x2048 ![0, 0, 0] a7 slices_S2x2048x2048_S1x2048x2048_0_0_0) shapeCasts_S1x2048x2048_S2048x2048) bitsLt_bf16_f32))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ a8 shapeCasts_S1x2048_S2048))))

end Cert.MergeRefIdeal.Pure

end
-- ==== Proof.MergeVal.lean ====
module

public import proofs.«01_k».proof.Proof.Gen.MergeIdeal.Value
public import proofs.«01_k».proof.Proof.MergeTerm
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.MergeIdeal.MergeVal

open Cert.MergeIdeal Cert.MergeIdeal.Gen
open Cert.MergeRefIdeal.Pure (REF)

variable (m : (ℓ : Loc nD τ sig) → Buf (Elt Ideal) ℓ)

/-- every window's block index at every grid point, in closed form (decided). Use: `obtain ⟨e0, e1, e2, e3, e4, e5, e6, e7, e8, e9, e10⟩ := idx t`, then
    `blk_simp [e0, …]` / `blk_ext [e0, …]` put block embeddings at coordinates (value_ideal.md §3). -/
theorem idx : ∀ t : Fin cfg0.N, win0_0.index t = ![(grid0.coords t 0).val, 0]
    ∧ win0_1.index t = ![(grid0.coords t 0).val, 0]
    ∧ win0_2.index t = ![(grid0.coords t 0).val, 2]
    ∧ win0_3.index t = ![(grid0.coords t 0).val, 3]
    ∧ win0_4.index t = ![(grid0.coords t 0).val, 0]
    ∧ win0_5.index t = ![0, 0, 0]
    ∧ win0_6.index t = ![0, 0, 0]
    ∧ win0_7.index t = ![0, 0, 0]
    ∧ win0_8.index t = ![0, 0, 0]
    ∧ win0_9.index t = ![0, 0]
    ∧ win0_10.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![t.val, 2]
    ∧ win0_3.index t = ![t.val, 3]
    ∧ win0_4.index t = ![t.val, 0]
    ∧ win0_5.index t = ![0, 0, 0]
    ∧ win0_6.index t = ![0, 0, 0]
    ∧ win0_7.index t = ![0, 0, 0]
    ∧ win0_8.index t = ![0, 0, 0]
    ∧ win0_9.index t = ![0, 0]
    ∧ win0_10.index t = ![t.val, 0] :=
  (by decide +kernel : ∀ t : Fin grid0.N, _)

/-- The logistic function written out. -/
theorem sigm (x : EReal) : Ideal.div 1 (1 + Ideal.exp (-x)) = Ideal.logistic x := rfl

set_option maxHeartbeats 1600000 in
/-- POINT over the 2 tile STORES (value_cases.md §(c) store side): one goal per piece (`x` the piece's own index, `h·` its offsets). -/
theorem point (c : Dev nD) (t : Fin cfg0.N) (y) :
    out0_10 (iblk m c 0 t) (iblk m c 1 t) (iblk m c 2 t) (iblk m c 3 t) (iblk m c 4 t) (iblk m c 5 t) (iblk m c 6 t)
      (iblk m c 7 t) (iblk m c 8 t) (iblk m c 9 t) y
      = REF (F := Ideal) (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (m ((c : Thread nD τ).loc main_arg6)) (m ((c : Thread nD τ).loc main_arg7)) (m ((c : Thread
        nD τ).loc main_arg8)) (((cfg0.win 10).blk t).view.emb y) := by
  canon_tiles x h
  all_goals (open_payloads; pointwise [REF]; simp only [sigm]; blk_point [iblk, V, idx_val t])

theorem final (c : Dev nD) : (dats m 0 c).arrAt 10 (cfgs 0).N = REF (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp; rw [after0_10]
  exact point m c t y

end Cert.MergeIdeal.MergeVal

end
-- ==== Proof.SelectTerm.lean ====
/- The reference of the selection, read off its run as a chain of small definitions. -/
module

public import proofs.«01_k».proof.Proof.Gen.SelectRefIdeal.Run
public import Idealize.ShloMosaic.Lib.Pointwise

@[expose] public section

set_option maxRecDepth 16384

noncomputable section

namespace Cert.SelectRefIdeal.Pure

open Cert.SelectRefIdeal Cert.SelectRefIdeal.Gen Idealize.ShloMosaic Idealize.ShloMosaic.TcCoe Idealize.SL.Sem

variable {F : FTy → Type} [FloatOps F]

/-- The block each position lies in. -/
def OWN : IVec S4096 32 :=
  select (andi (cmpi .ne (signi (iotaInDim S4096 32 0)) (broadcastInDim S4096 ![] bcast_S_S4096 (signi (id (constantI S_ 32 256#32))))) (cmpi .ne (Host.remsi (iotaInDim S4096 32 0) (broadcastInDim S4096 ![] bcast_S_S4096 (id (constantI S_ 32 256#32)))) (broadcastInDim S4096 ![] bcast_S_S4096 (constantI S_ 32 0#32)))) (subi (Host.divsi (iotaInDim S4096 32 0) (broadcastInDim S4096 ![] bcast_S_S4096 (id (constantI S_ 32 256#32)))) (broadcastInDim S4096 ![] bcast_S_S4096 (constantI S_ 32 1#32))) (Host.divsi (iotaInDim S4096 32 0) (broadcastInDim S4096 ![] bcast_S_S4096 (id (constantI S_ 32 256#32))))

/-- Whether a block lies before the position's own. -/
def PAST : IVec S4096x16x1 1 :=
  cmpi .slt (broadcastInDim S4096x16x1 ![0, 1, 2] bcast_S1x16x1_S4096x16x1_0_1_2 (broadcastInDim S1x16x1 ![1] bcast_S16_S1x16x1_1 (iotaInDim S16 32 0))) (broadcastInDim S4096x16x1 ![0, 1, 2] bcast_S4096x1x1_S4096x16x1_0_1_2 (broadcastInDim S4096x1x1 ![0] bcast_S4096_S4096x1x1_0 OWN))

/-- Whether a block is the position's own. -/
def SELF : IVec S4096x16x1 1 :=
  cmpi .eq (broadcastInDim S4096x16x1 ![0, 1, 2] bcast_S1x16x1_S4096x16x1_0_1_2 (broadcastInDim S1x16x1 ![1] bcast_S16_S1x16x1_1 (iotaInDim S16 32 0))) (broadcastInDim S4096x16x1 ![0, 1, 2] bcast_S4096x1x1_S4096x16x1_0_1_2 (broadcastInDim S4096x1x1 ![0] bcast_S4096_S4096x1x1_0 OWN))

/-- The normalised rows. -/
def HN (a0 : FVec F S4x4096x2048 .f32) (a1 : FVec F S1x2048 .f32) : FVec F S4x4096x2048 .f32 :=
  mulf (mulf a0 (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf a0 a0) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast S2048 a1 shapeCasts_S1x2048_S2048)))

/-- The rows times the gate vectors. -/
def HZ (a0 : FVec F S4x4096x2048 .f32) (a1 : FVec F S1x2048 .f32) (a2 : FVec F S4x2048x128 .f32) : FVec F S4x4096x128 .f32 :=
  Host.dotGeneral dot_S4x4096x2048_S4x2048x128_S4x4096x128_2_1_1_2_0_0 none (HN a0 a1) a2

/-- The gates of the earlier blocks, the others masked. -/
def MG (a0 : FVec F S4x4096x2048 .f32) (a1 : FVec F S1x2048 .f32) (a2 : FVec F S4x2048x128 .f32) : FVec F S4x4096x8x16 .f32 :=
  transpose S4x4096x8x16 [0, 1, 3, 2] (select (broadcastInDim S4x4096x16x8 ![1, 2, 3] bcast_S4096x16x1_S4x4096x16x8_1_2_3 PAST) (shapeCast _ (HZ a0 a1 a2) shapeCasts_S4x4096x128_S4x4096x16x8) (broadcastInDim S4x4096x16x8 ![] bcast_S_S4x4096x16x8 (id (constant S_ .f32 0xF149F2CA#32)))) transposes_S4x4096x16x8_S4x4096x8x16_0_1_3_2

/-- The three best blocks. -/
def IDX (a0 : FVec F S4x4096x2048 .f32) (a1 : FVec F S1x2048 .f32) (a2 : FVec F S4x2048x128 .f32) : IVec S4x4096x8x3 32 :=
  (Host.topK S4x4096x8x3 3 (FloatOps.cmpfTotal .gt) (MG a0 a1 a2) sliceFits_S4x4096x8x16_S4x4096x8x3).2

/-- Whether a block is among them. -/
def TOP (a0 : FVec F S4x4096x2048 .f32) (a1 : FVec F S1x2048 .f32) (a2 : FVec F S4x2048x128 .f32) : IVec S4x4096x8x16 1 :=
  Host.reduce IntOp.ori (cmpi .eq (broadcastInDim S4x4096x8x3x16 ![0, 1, 2, 3, 4] bcast_S4x4096x8x3x1_S4x4096x8x3x16_0_1_2_3_4 (broadcastInDim S4x4096x8x3x1 ![0, 1, 2, 3] bcast_S4x4096x8x3_S4x4096x8x3x1_0_1_2_3 (IDX a0 a1 a2))) (broadcastInDim S4x4096x8x3x16 ![0, 1, 2, 3, 4] bcast_S1x1x1x1x16_S4x4096x8x3x16_0_1_2_3_4 (broadcastInDim S1x1x1x1x16 ![4] bcast_S16_S1x1x1x1x16_4 (iotaInDim S16 32 0)))) (constantI S_ 1 0#1) reducesTo_S4x4096x8x3x16_S4x4096x8x16_d3 h_S_

/-- The reference's result, as a function of its arguments. -/
def REF (a0 : FVec F S4x4096x2048 .f32) (a1 : FVec F S1x2048 .f32) (a2 : FVec F S4x2048x128 .f32) : FVec F S4x4096x128 .f32 :=
  shapeCast _ (select (ori (andi (transpose S4x4096x16x8 [0, 1, 3, 2] (TOP a0 a1 a2) transposes_S4x4096x8x16_S4x4096x16x8_0_1_3_2) (broadcastInDim S4x4096x16x8 ![0, 1, 2, 3] bcast_S1x4096x16x1_S4x4096x16x8_0_1_2_3 (broadcastInDim S1x4096x16x1 ![1, 2, 3] bcast_S4096x16x1_S1x4096x16x1_1_2_3 PAST))) (broadcastInDim S4x4096x16x8 ![0, 1, 2, 3] bcast_S1x4096x16x1_S4x4096x16x8_0_1_2_3 (broadcastInDim S1x4096x16x1 ![1, 2, 3] bcast_S4096x16x1_S1x4096x16x1_1_2_3 SELF))) (broadcastInDim S4x4096x16x8 ![] bcast_S_S4x4096x16x8 (constant S_ .f32 0x00000000#32)) (broadcastInDim S4x4096x16x8 ![] bcast_S_S4x4096x16x8 (constant S_ .f32 0xF149F2CA#32))) shapeCasts_S4x4096x16x8_S4x4096x128

end Cert.SelectRefIdeal.Pure

end
-- ==== Proof.SelectMath.lean ====
/- Ranking by counting: an entry is among the first three of a stable descending sort exactly when fewer than three
   entries go before it. -/
module

public import Idealize.ShloMosaic.Lib.SortPrefix
public import Idealize.ShloMosaic.PureOps.Ideal

@[expose] public section

noncomputable section

open Idealize.ShloMosaic
open scoped BigOperators Classical

namespace Cert.SelectMath

variable {n : Nat}

/-- Entry `k` goes before entry `j`: it is larger, or equal and earlier. -/
def Ahead (g : Fin n → EReal) (k j : Fin n) : Prop := g j < g k ∨ (g k = g j ∧ k < j)

/-- The same as a relation the sort reads. -/
def aheadB (g : Fin n → EReal) (k j : Fin n) : Bool := decide (Ahead g k j)

theorem ahead_irrefl (g : Fin n → EReal) (k : Fin n) : ¬ Ahead g k k := by
  rintro (h | ⟨_, h⟩)
  · exact lt_irrefl _ h
  · exact lt_irrefl _ h

theorem ahead_trans (g : Fin n → EReal) {a b c : Fin n} (h : Ahead g a b) (h' : Ahead g b c) : Ahead g a c := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

theorem ahead_total (g : Fin n → EReal) {a b : Fin n} (h : a ≠ b) : Ahead g a b ∨ Ahead g b a := by
  rcases lt_trichotomy (g a) (g b) with e | e | e
  · exact Or.inr (Or.inl e)
  · rcases lt_or_gt_of_ne h with l | l
    · exact Or.inl (Or.inr ⟨e, l⟩)
    · exact Or.inr (Or.inr ⟨e.symm, l⟩)
  · exact Or.inl (Or.inl e)

theorem stableSort_ahead (g : Fin n → EReal) (R : Fin n → Fin n → Bool) (hR : ∀ a b, R a b = true ↔ g b < g a)
    (l : List (Fin n)) (hl : l.Pairwise (· < ·)) : stableSort R l = stableSort (aheadB g) l := by
  induction l with
  | nil => rfl
  | cons a l ih =>
    rw [List.pairwise_cons] at hl
    unfold stableSort
    rw [ih hl.2]
    refine insertBefore_congr R (aheadB g) a _ fun b hb => ?_
    have hb' : a < b := hl.1 b ((perm_stableSort (aheadB g) l).mem_iff.mp hb)
    refine Bool.eq_iff_iff.mpr ((hR b a).trans ?_)
    unfold aheadB
    rw [decide_eq_true_iff]
    exact ⟨Or.inl, fun h => h.elim id fun h => absurd hb' (lt_asymm h.2)⟩

theorem sortedFrom_ahead (g : Fin n → EReal) (R : Fin n → Fin n → Bool) (hR : ∀ a b, R a b = true ↔ g b < g a) :
    sortedFrom R = sortedFrom (aheadB g) := by
  funext k
  unfold sortedFrom
  rw [List.get_of_eq (show sortPositions n R = sortPositions n (aheadB g) from
    stableSort_ahead g R hR _ (List.pairwise_lt_finRange n))]
  rfl

theorem sorted_ahead (g : Fin n → EReal) (p q : Fin n) (h : p < q) :
    Ahead g (sortedFrom (aheadB g) p) (sortedFrom (aheadB g) q) := by
  have h' := sortedFrom_noInversion (aheadB g) (aheadB g)
    (fun a b hab => by
      unfold aheadB at *
      rw [decide_eq_true_iff] at hab
      exact decide_eq_false fun hba => ahead_irrefl g _ (ahead_trans g hab hba))
    (fun _ _ h => h)
    (fun a b c hab hbc => by
      unfold aheadB at *
      rw [decide_eq_false_iff_not] at *
      intro hac
      by_cases e : a = b
      · exact hbc (e ▸ hac)
      · rcases ahead_total g e with h | h
        · exact hab h
        · exact hbc (ahead_trans g h hac)) p q h
  unfold aheadB at h'
  rw [decide_eq_false_iff_not] at h'
  refine (ahead_total g fun e => ?_).resolve_right h'
  exact absurd (sortedFrom_injective _ e) (ne_of_lt h)

/-- The entry at a place of the sort has as many entries before it as its place says. -/
theorem card_ahead (g : Fin n → EReal) (p : Fin n) :
    (Finset.univ.filter fun k => Ahead g k (sortedFrom (aheadB g) p)).card = p.val := by
  have : (Finset.univ.filter fun k => Ahead g k (sortedFrom (aheadB g) p))
      = (Finset.Iio p).map ⟨sortedFrom (aheadB g), sortedFrom_injective _⟩ := by
    ext k
    obtain ⟨q, rfl⟩ := sortedFrom_surjective (aheadB g) k
    simp only [Finset.mem_filter, Finset.mem_univ, true_and, Finset.mem_map, Finset.mem_Iio, Function.Embedding.coeFn_mk]
    constructor
    · intro h
      refine ⟨q, ?_, rfl⟩
      rcases lt_trichotomy q p with e | e | e
      · exact e
      · subst e; exact absurd h (ahead_irrefl g _)
      · exact absurd (ahead_trans g h (sorted_ahead g p q e)) (ahead_irrefl g _)
    · rintro ⟨r, hr, e⟩
      rw [← e]
      exact sorted_ahead g r p hr
  rw [this, Finset.card_map, Fin.card_Iio]

/-- Among the first three places exactly when fewer than three go before. -/
theorem top_iff (g : Fin 16 → EReal) (R : Fin 16 → Fin 16 → Bool) (hR : ∀ a b, R a b = true ↔ g b < g a) (j : Fin 16) :
    (∃ r : Fin 3, sortedFrom R ⟨r.val, Nat.lt_of_lt_of_le r.isLt (by decide)⟩ = j)
      ↔ (Finset.univ.filter fun k => Ahead g k j).card < 3 := by
  rw [sortedFrom_ahead g R hR]
  obtain ⟨p, rfl⟩ := sortedFrom_surjective (aheadB g) j
  rw [card_ahead]
  constructor
  · rintro ⟨r, e⟩
    rw [← sortedFrom_injective _ e]
    exact r.isLt
  · intro h
    exact ⟨⟨p.val, h⟩, rfl⟩

/-- One entry's contribution to the count. -/
def one (p : Prop) : EReal := if p then 1 else 0

/-- The count as a sum over the distance back to the other entry; the entry itself adds the nothing `z`. -/
theorem card_sum (g : Fin 16 → EReal) (j : Fin 16) (z : EReal) (hz : z = one (Ahead g (j - 0) j)) :
    (((Finset.univ.filter fun k => Ahead g k j).card : ℕ) : EReal)
      = z + one (Ahead g (j - 1) j) + one (Ahead g (j - 2) j) + one (Ahead g (j - 3) j) + one (Ahead g (j - 4) j)
        + one (Ahead g (j - 5) j) + one (Ahead g (j - 6) j) + one (Ahead g (j - 7) j) + one (Ahead g (j - 8) j)
        + one (Ahead g (j - 9) j) + one (Ahead g (j - 10) j) + one (Ahead g (j - 11) j) + one (Ahead g (j - 12) j)
        + one (Ahead g (j - 13) j) + one (Ahead g (j - 14) j) + one (Ahead g (j - 15) j) := by
  subst hz
  rw [Finset.natCast_card_filter, ← Equiv.sum_comp (Equiv.subLeft j)]
  simp only [Fin.sum_univ_castSucc, Finset.univ_eq_empty, Finset.sum_empty, zero_add]
  rfl

theorem one_self (g : Fin 16 → EReal) (j : Fin 16) : (0 : EReal) = one (Ahead g (j - 0) j) := by
  unfold one
  rw [sub_zero, if_neg (ahead_irrefl g j)]

theorem card_lt (a : ℕ) : (a : EReal) < 3 ↔ a < 3 := by
  have h : ((3 : ℕ) : EReal) = 3 := rfl
  rw [← h, EReal.natCast_lt_iff]

/-- Stepping back `r` places compares as the rank does: an earlier entry wins a tie, a later one does not. -/
theorem ahead_back (g : Fin 16 → EReal) (j r : Fin 16) (hr : r ≠ 0) :
    Ahead g (j - r) j ↔ if r ≤ j then g j ≤ g (j - r) else g j < g (j - r) := by
  have hr' : 0 < r.val := Nat.pos_of_ne_zero fun e => hr (Fin.ext e)
  have hv : (j - r).val = (16 - r.val + j.val) % 16 := Fin.sub_def j r ▸ rfl
  unfold Ahead
  split
  · rename_i h
    have hl : j - r < j := by
      rw [Fin.lt_def, hv]; rw [Fin.le_def] at h; omega
    rw [le_iff_lt_or_eq]
    exact or_congr Iff.rfl ⟨fun h => h.1.symm, fun h => ⟨h.symm, hl⟩⟩
  · rename_i h
    have hl : ¬ j - r < j := by
      rw [Fin.lt_def, hv]; rw [Fin.le_def] at h; omega
    exact ⟨fun h => h.resolve_right fun h => hl h.2, Or.inl⟩

end Cert.SelectMath

end
-- ==== Proof.SelectRef.lean ====
/- The reference's selection at an index: a block is kept when it is earlier and fewer than three gates go before
   its own, or when it is the position's own block. -/
module

public import proofs.«01_k».proof.Proof.SelectTerm
public import proofs.«01_k».proof.Proof.SelectMath
public import Idealize.ShloMosaic.Lib.Pointwise

@[expose] public section

set_option maxRecDepth 16384

noncomputable section

open Idealize.ShloMosaic Idealize.ShloMosaic.TcCoe Idealize.SL.Sem
open scoped Classical

namespace Cert.SelectRefIdeal.Pure

open Cert.SelectRefIdeal Cert.SelectRefIdeal.Gen Cert.SelectMath

theorem own_at : ∀ s : Fin 4096, OWN (ix1 s) = BitVec.ofNat 32 (s.val / 256) := by decide +kernel

theorem past_at (s : Fin 4096) (j : Fin 16) :
    PAST (ix3 s j 0) = IntOp.cmpi .slt (BitVec.ofNat 32 j.val) (BitVec.ofNat 32 (s.val / 256)) := by
  pointwise [PAST, own_at]

theorem self_at (s : Fin 4096) (j : Fin 16) :
    SELF (ix3 s j 0) = IntOp.cmpi .eq (BitVec.ofNat 32 j.val) (BitVec.ofNat 32 (s.val / 256)) := by
  pointwise [SELF, own_at]

variable (a0 : FVec Ideal S4x4096x2048 .f32) (a1 : FVec Ideal S1x2048 .f32) (a2 : FVec Ideal S4x2048x128 .f32)

theorem hz_at (b : Fin 4) (s : Fin 4096) (l : Fin 128) : HZ a0 a1 a2 (ix3 b s l)
    = ∑ x, a0 (ix3 b s x) * Ideal.rsqrt (Ideal.div (∑ x, a0 (ix3 b s x) * a0 (ix3 b s x)) (Ideal.ofBits .f32 0x45000000#32)
        + Ideal.ofBits .f32 0x358637BD#32) * a1 (ix2 0 x) * a2 (ix3 b x l) := by
  pointwise [HZ, HN]

/-- A position's sixteen masked gates of one head. -/
def gates (b : Fin 4) (s : Fin 4096) (h : Fin 8) (j : Fin 16) : EReal :=
  Scalar.select (IntOp.cmpi .slt (BitVec.ofNat 32 j.val) (BitVec.ofNat 32 (s.val / 256)))
    (HZ a0 a1 a2 (ix3 b s ⟨j.val * 8 + h.val, by omega⟩)) (Ideal.ofBits .f32 0xF149F2CA#32)

theorem mg_at (b : Fin 4) (s : Fin 4096) (h : Fin 8) (j : Fin 16) : MG a0 a1 a2 (ix4 b s h j) = gates a0 a1 a2 b s h j := by
  pointwise [MG, past_at]
  rfl

theorem along_at (b : Fin 4) (s : Fin 4096) (h : Fin 8) (j k : Fin 16) :
    Shape.Idx.along (s := S4x4096x8x16) (ix4 b s h j) 3 k = ix4 b s h k := by
  funext a
  fin_cases a <;> rfl

/-- The order of the sort. -/
def gt (g : Fin 16 → EReal) (k k' : Fin 16) : Bool := FloatOps.cmpfTotal (F := Ideal) (φ := .f32) .gt (g k) (g k') == 1#1

theorem gt_iff (g : Fin 16 → EReal) (a b : Fin 16) : gt g a b = true ↔ g b < g a := by
  unfold gt
  rw [Ideal.cmpfTotal_def]
  show (BitVec.ofBool (decide (g b < g a)) == 1#1) = true ↔ g b < g a
  by_cases h : g b < g a <;> simp [h]

theorem idx_at (b : Fin 4) (s : Fin 4096) (h : Fin 8) (r : Fin 3) : IDX a0 a1 a2 (ix4 b s h r)
    = BitVec.ofNat 32 (sortedFrom (gt (gates a0 a1 a2 b s h)) ⟨r.val, Nat.lt_of_lt_of_le r.isLt (by decide)⟩).val := by
  unfold IDX Host.topK Host.sort2
  pointwise []
  simp only [along_at, mg_at]
  rfl

theorem word_eq (k j : Fin 16) : BitVec.ofNat 32 k.val = BitVec.ofNat 32 j.val ↔ k = j := by
  revert k j; decide

theorem cmpi_eq_word (k j : Fin 16) : IntOp.cmpi .eq (BitVec.ofNat 32 k.val) (BitVec.ofNat 32 j.val) = if k = j then 1#1 else 0#1 := by
  revert k j; decide

theorem ori_three (p q r : Prop) [Decidable p] [Decidable q] [Decidable r] [Decidable (p ∨ q ∨ r)] : IntOp.ori (if p then 1#1 else 0#1) (IntOp.ori (if q then 1#1 else 0#1) (IntOp.ori (if r then 1#1 else 0#1) 0#1))
    = if p ∨ q ∨ r then 1#1 else 0#1 := by
  by_cases hp : p <;> by_cases hq : q <;> by_cases hr : r <;> simp [hp, hq, hr, IntOp.ori]

theorem fold_three (f : Fin 3 → BitVec 1) (P : Fin 3 → Prop) [∀ r, Decidable (P r)] [Decidable (∃ r, P r)] (h : ∀ r, f r = if P r then 1#1 else 0#1) :
    Finset.fold IntOp.ori (0#1) f Finset.univ = if ∃ r, P r then 1#1 else 0#1 := by
  have e : Finset.fold IntOp.ori (0#1) f Finset.univ = IntOp.ori (f 0) (IntOp.ori (f 1) (IntOp.ori (f 2) 0#1)) := rfl
  rw [e, h, h, h, ori_three]
  refine if_congr ⟨fun h => h.elim (fun h => ⟨0, h⟩) fun h => h.elim (fun h => ⟨1, h⟩) fun h => ⟨2, h⟩, fun ⟨r, h⟩ => ?_⟩ rfl rfl
  fin_cases r
  · exact Or.inl h
  · exact Or.inr (Or.inl h)
  · exact Or.inr (Or.inr h)

theorem top_fold (b : Fin 4) (s : Fin 4096) (h : Fin 8) (j : Fin 16) : TOP a0 a1 a2 (ix4 b s h j)
    = Finset.fold IntOp.ori (0#1) (fun r : Fin 3 => IntOp.cmpi .eq (IDX a0 a1 a2 (ix4 b s h r)) (BitVec.ofNat 32 j.val)) Finset.univ := by
  pointwise [TOP]

theorem top_at (b : Fin 4) (s : Fin 4096) (h : Fin 8) (j : Fin 16) : TOP a0 a1 a2 (ix4 b s h j)
    = if (Finset.univ.filter fun k => Ahead (gates a0 a1 a2 b s h) k j).card < 3 then 1#1 else 0#1 := by
  rw [top_fold]
  refine (fold_three _ (fun r : Fin 3 => sortedFrom (gt (gates a0 a1 a2 b s h)) ⟨r.val, Nat.lt_of_lt_of_le r.isLt (by decide)⟩ = j) fun r => ?_).trans
    (if_congr (top_iff (gates a0 a1 a2 b s h) _ (gt_iff _) j) rfl rfl)
  rw [idx_at]
  exact cmpi_eq_word _ _

/-- What the reference keeps. -/
theorem ref_at (b : Fin 4) (s : Fin 4096) (h : Fin 8) (j : Fin 16) (l : Fin 128) (hl : l.val = j.val * 8 + h.val) :
    REF a0 a1 a2 (ix3 b s l)
    = Scalar.select (IntOp.ori (IntOp.andi
        (if (Finset.univ.filter fun k => Ahead (gates a0 a1 a2 b s h) k j).card < 3 then 1#1 else 0#1)
        (IntOp.cmpi .slt (BitVec.ofNat 32 j.val) (BitVec.ofNat 32 (s.val / 256))))
        (IntOp.cmpi .eq (BitVec.ofNat 32 j.val) (BitVec.ofNat 32 (s.val / 256)))) 0 (Ideal.ofBits .f32 0xF149F2CA#32) := by
  pointwise [REF, top_at, past_at, self_at]
  have e1 : (⟨l.val % 8, Nat.mod_lt _ (by decide)⟩ : Fin 8) = h := Fin.ext (by show l.val % 8 = h.val; omega)
  have e2 : (⟨l.val / 8, by omega⟩ : Fin 16) = j := Fin.ext (by show l.val / 8 = j.val; omega)
  have e3 : l.val / 8 = j.val := by omega
  rw [e1, e2, e3]

end Cert.SelectRefIdeal.Pure

end
-- ==== Proof.SelectVal.lean ====
/- The selection of blocks: what each tile keeps is what the reference keeps. -/
module

public import proofs.«01_k».proof.Proof.Gen.SelectIdeal.Frame
public import proofs.«01_k».proof.Proof.SelectRef
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators
open scoped Classical

namespace Cert.SelectIdeal.SelectVal

open Cert.SelectIdeal Cert.SelectIdeal.Gen Cert.SelectMath
open Cert.SelectRefIdeal.Pure (REF gates ref_at hz_at)

variable (m : (ℓ : Loc nD τ sig) → Buf (Elt Ideal) ℓ)

/-- One round of the count: the gates rotated by `w` lanes against the gates. -/
def C (J : IVec S512x128 32) (G : FVec Ideal S512x128 .f32) (w n : BitVec 32) : FVec Ideal S512x128 .f32 :=
  select (cmpi .sge J (broadcast S512x128 n))
    (select (cmpf .oge (dynamicRotate 1 w none G rotates_S512x128_d1) G) (broadcast S512x128 (Scalar.ofBits .f32 0x3F800000#32)) (broadcast S512x128 (Scalar.ofBits .f32 0x00000000#32)))
    (select (cmpf .ogt (dynamicRotate 1 w none G rotates_S512x128_d1) G) (broadcast S512x128 (Scalar.ofBits .f32 0x3F800000#32)) (broadcast S512x128 (Scalar.ofBits .f32 0x00000000#32)))

/-- The count. -/
def CNT (J : IVec S512x128 32) (G : FVec Ideal S512x128 .f32) : FVec Ideal S512x128 .f32 :=
  addf (addf (addf (addf (addf (addf (addf (addf (addf (addf (addf (addf (addf (addf (addf (broadcast S512x128 (Scalar.ofBits .f32 0x00000000#32)) (C J G 8#32 1#32)) (C J G 16#32 2#32)) (C J G 24#32 3#32)) (C J G 32#32 4#32)) (C J G 40#32 5#32)) (C J G 48#32 6#32)) (C J G 56#32 7#32)) (C J G 64#32 8#32)) (C J G 72#32 9#32)) (C J G 80#32 10#32)) (C J G 88#32 11#32)) (C J G 96#32 12#32)) (C J G 104#32 13#32)) (C J G 112#32 14#32)) (C J G 120#32 15#32)

/-- What a tile stores, before its last change of shape. -/
def KEEP (QB J : IVec S512x128 32) (PA : IVec S512x128 1) (G : FVec Ideal S512x128 .f32) : FVec Ideal S512x128 .f32 :=
  select (ori (andi PA (cmpf .olt (CNT J G) (broadcast S512x128 (Scalar.ofBits .f32 0x40400000#32)))) (cmpi .eq J QB))
    (broadcast S512x128 (Scalar.ofBits .f32 0x00000000#32)) (broadcast S512x128 (Scalar.ofBits .f32 0xF149F2CA#32))

/-- The own block of each row of a tile. -/
def QB (i : grid0.Coords) : IVec S512x128 32 := k0_pay7 (k0_pay4 i) (k0_pay5 i) (k0_pay6 i)

/-- A tile's gates. -/
def GT (i : grid0.Coords) (x0 : Vec Ideal S1x512x2048 .f32) (x1 : Vec Ideal S1x2048 .f32) (x2 : Vec Ideal S1x2048x128 .f32) : FVec Ideal S512x128 .f32 :=
  select (cmpi .slt k0_pay8 (QB i)) (k0_pay2 x0 x1 x2) (broadcast S512x128 (Scalar.ofBits .f32 0xF149F2CA#32))

theorem out_eq (i : grid0.Coords) (x0 : Vec Ideal S1x512x2048 .f32) (x1 : Vec Ideal S1x2048 .f32) (x2 : Vec Ideal S1x2048x128 .f32) :
    out0_3 i x0 x1 x2 = View.canon [⟨r0_3, shapeCast S1x512x128 (KEEP (QB i) k0_pay8 (cmpi .slt k0_pay8 (QB i)) (GT i (View.ld x0 r0_0) (View.ld x1 r0_1) (View.ld x2 r0_2))) shapeCasts_S512x128_S1x512x128⟩] := rfl

theorem rot_at (G : FVec Ideal S512x128 .f32) (w : BitVec 32) (s : Fin 512) (l : Fin 128) :
    dynamicRotate 1 w none G rotates_S512x128_d1 (ix2 s l) = G (ix2 s ⟨(l.val + 128 - w.toNat % 128) % 128, Nat.mod_lt _ (by decide)⟩) := by
  unfold dynamicRotate
  refine congrArg G (funext fun a => ?_)
  fin_cases a <;> rfl

theorem j_at (s : Fin 512) : ∀ l : Fin 128, k0_pay8 (ix2 s l) = BitVec.ofNat 32 (l.val / 8) := by
  have h : ∀ l : Fin 128, k0_pay8 (ix2 0 l) = BitVec.ofNat 32 (l.val / 8) := by decide +kernel
  exact h

/-- A grid point of the second axis alone. -/
def ax (q : Fin 8) : grid0.Coords := fun | 0 => (0 : Fin 4) | 1 => q

theorem qb_at (i : grid0.Coords) (s : Fin 512) (l : Fin 128) : QB i (ix2 s l) = BitVec.ofNat 32 (((i 1).val * 512 + s.val) / 256) := by
  have h : ∀ (q : Fin 8) (s : Fin 512), QB (ax q) (ix2 s 0) = BitVec.ofNat 32 ((q.val * 512 + s.val) / 256) := by decide +kernel
  exact h (i 1) s

/-- A word comparison of small numbers. -/
theorem sge_small (r : Fin 16) (j : Fin 16) : IntOp.cmpi .sge (BitVec.ofNat 32 j.val) (BitVec.ofNat 32 r.val) = if r ≤ j then 1#1 else 0#1 := by
  revert r j; decide

theorem c_at (G : FVec Ideal S512x128 .f32) (s : Fin 512) (h : Fin 8) (j r : Fin 16) (l : Fin 128) (hl : l.val = j.val * 8 + h.val) (hr : r ≠ 0) :
    C k0_pay8 G (BitVec.ofNat 32 (8 * r.val)) (BitVec.ofNat 32 r.val) (ix2 s l)
      = one (Ahead (fun k : Fin 16 => G (ix2 s ⟨k.val * 8 + h.val, by omega⟩)) (j - r) j) := by
  have hw : (BitVec.ofNat 32 (8 * r.val)).toNat % 128 = 8 * r.val := by
    rw [BitVec.toNat_ofNat]; omega
  have e : dynamicRotate 1 (BitVec.ofNat 32 (8 * r.val)) none G rotates_S512x128_d1 (ix2 s l)
      = G (ix2 s ⟨(j - r).val * 8 + h.val, by omega⟩) := by
    rw [rot_at]
    refine congrArg G (congrArg (ix2 s) (Fin.ext ?_))
    show (l.val + 128 - (BitVec.ofNat 32 (8 * r.val)).toNat % 128) % 128 = (j - r).val * 8 + h.val
    have hv : (j - r).val = (16 - r.val + j.val) % 16 := Fin.sub_def j r ▸ rfl
    rw [hw, hv]
    have := r.isLt
    have := j.isLt
    have := h.isLt
    omega
  have e2 : G (ix2 s l) = G (ix2 s ⟨j.val * 8 + h.val, by omega⟩) := congrArg G (congrArg (ix2 s) (Fin.ext hl))
  have e3 : l.val / 8 = j.val := by have := h.isLt; omega
  unfold one
  rw [if_congr (ahead_back _ j r hr) rfl rfl]
  pointwise [C, e, j_at]
  rw [e3, sge_small, e2]
  by_cases h' : r ≤ j <;> simp [h', Scalar.select]

/-- A row's gates of one head in a tile. -/
def row (G : FVec Ideal S512x128 .f32) (s : Fin 512) (h : Fin 8) (k : Fin 16) : EReal := G (ix2 s ⟨k.val * 8 + h.val, by omega⟩)

theorem cnt_at (G : FVec Ideal S512x128 .f32) (s : Fin 512) (h : Fin 8) (j : Fin 16) (l : Fin 128) (hl : l.val = j.val * 8 + h.val) :
    CNT k0_pay8 G (ix2 s l) = (((Finset.univ.filter fun k => Ahead (row G s h) k j).card : ℕ) : EReal) := by
  have c1 : C k0_pay8 G 8#32 1#32 (ix2 s l) = one (Ahead (row G s h) (j - 1) j) := c_at G s h j 1 l hl (by decide)
  have c2 : C k0_pay8 G 16#32 2#32 (ix2 s l) = one (Ahead (row G s h) (j - 2) j) := c_at G s h j 2 l hl (by decide)
  have c3 : C k0_pay8 G 24#32 3#32 (ix2 s l) = one (Ahead (row G s h) (j - 3) j) := c_at G s h j 3 l hl (by decide)
  have c4 : C k0_pay8 G 32#32 4#32 (ix2 s l) = one (Ahead (row G s h) (j - 4) j) := c_at G s h j 4 l hl (by decide)
  have c5 : C k0_pay8 G 40#32 5#32 (ix2 s l) = one (Ahead (row G s h) (j - 5) j) := c_at G s h j 5 l hl (by decide)
  have c6 : C k0_pay8 G 48#32 6#32 (ix2 s l) = one (Ahead (row G s h) (j - 6) j) := c_at G s h j 6 l hl (by decide)
  have c7 : C k0_pay8 G 56#32 7#32 (ix2 s l) = one (Ahead (row G s h) (j - 7) j) := c_at G s h j 7 l hl (by decide)
  have c8 : C k0_pay8 G 64#32 8#32 (ix2 s l) = one (Ahead (row G s h) (j - 8) j) := c_at G s h j 8 l hl (by decide)
  have c9 : C k0_pay8 G 72#32 9#32 (ix2 s l) = one (Ahead (row G s h) (j - 9) j) := c_at G s h j 9 l hl (by decide)
  have c10 : C k0_pay8 G 80#32 10#32 (ix2 s l) = one (Ahead (row G s h) (j - 10) j) := c_at G s h j 10 l hl (by decide)
  have c11 : C k0_pay8 G 88#32 11#32 (ix2 s l) = one (Ahead (row G s h) (j - 11) j) := c_at G s h j 11 l hl (by decide)
  have c12 : C k0_pay8 G 96#32 12#32 (ix2 s l) = one (Ahead (row G s h) (j - 12) j) := c_at G s h j 12 l hl (by decide)
  have c13 : C k0_pay8 G 104#32 13#32 (ix2 s l) = one (Ahead (row G s h) (j - 13) j) := c_at G s h j 13 l hl (by decide)
  have c14 : C k0_pay8 G 112#32 14#32 (ix2 s l) = one (Ahead (row G s h) (j - 14) j) := c_at G s h j 14 l hl (by decide)
  have c15 : C k0_pay8 G 120#32 15#32 (ix2 s l) = one (Ahead (row G s h) (j - 15) j) := c_at G s h j 15 l hl (by decide)
  rw [card_sum (row G s h) j 0 (one_self _ j)]
  pointwise [CNT]
  rw [c1, c2, c3, c4, c5, c6, c7, c8, c9, c10, c11, c12, c13, c14, c15]

theorem three : Ideal.ofBits .f32 0x40400000#32 = 3 := by
  simp [Ideal.ofBits, Ideal.ieee, -EReal.coe_mul]; norm_num
  rfl

theorem keep_at (Q : IVec S512x128 32) (G : FVec Ideal S512x128 .f32) (s : Fin 512) (h : Fin 8) (j : Fin 16) (l : Fin 128) (hl : l.val = j.val * 8 + h.val) :
    KEEP Q k0_pay8 (cmpi .slt k0_pay8 Q) G (ix2 s l)
      = Scalar.select (IntOp.ori (IntOp.andi
        (if (Finset.univ.filter fun k => Ahead (row G s h) k j).card < 3 then 1#1 else 0#1)
        (IntOp.cmpi .slt (BitVec.ofNat 32 j.val) (Q (ix2 s l))))
        (IntOp.cmpi .eq (BitVec.ofNat 32 j.val) (Q (ix2 s l)))) 0 (Ideal.ofBits .f32 0xF149F2CA#32) := by
  have e3 : l.val / 8 = j.val := by have := h.isLt; omega
  have e : ∀ x : BitVec 1, IntOp.andi x (BitVec.ofBool (decide ((((Finset.univ.filter fun k => Ahead (row G s h) k j).card : ℕ) : EReal) < 3)))
      = IntOp.andi (if (Finset.univ.filter fun k => Ahead (row G s h) k j).card < 3 then 1#1 else 0#1) x := fun x => by
    by_cases h3 : (Finset.univ.filter fun k => Ahead (row G s h) k j).card < 3
    · rw [if_pos h3, decide_eq_true ((card_lt _).mpr h3)]; revert x; decide
    · rw [if_neg h3, decide_eq_false fun h => h3 ((card_lt _).mp h)]; revert x; decide
  pointwise [KEEP, cnt_at G s h j l hl, j_at]
  rw [e3, three, e]

/-- Every window's block at every grid point. -/
theorem idx : ∀ t : Fin cfg0.N, win0_0.index t = ![(grid0.coords t 0).val, (grid0.coords t 1).val, 0]
    ∧ win0_1.index t = ![0, 0]
    ∧ win0_2.index t = ![(grid0.coords t 0).val, 0, 0]
    ∧ win0_3.index t = ![(grid0.coords t 0).val, (grid0.coords t 1).val, 0] :=
  (by decide +kernel : ∀ t : Fin grid0.N, _)

/-- The batch of a grid point. -/
def bb (t : Fin cfg0.N) : Fin 4 := grid0.coords t 0
/-- The row of the array a tile's row is. -/
def rr (t : Fin cfg0.N) (s : Fin 512) : Fin 4096 := ⟨(grid0.coords t 1).val * 512 + s.val, by
  have h : (grid0.coords t 1).val < 8 := (grid0.coords t 1).isLt
  omega⟩

theorem gt_at (c : Dev nD) (t : Fin cfg0.N) (s : Fin 512) (h : Fin 8) (k : Fin 16) :
    row (GT (grid0.coords t) (View.ld (iblk m c 0 t) r0_0) (View.ld (iblk m c 1 t) r0_1) (View.ld (iblk m c 2 t) r0_2)) s h k
      = gates (m ((c : Thread nD τ).loc main_arg0)) (m ((c : Thread nD τ).loc main_arg1)) (m ((c : Thread nD τ).loc main_arg2)) (bb t) (rr t s) h k := by
  unfold gates
  rw [hz_at]
  have e3 : (k.val * 8 + h.val) / 8 = k.val := by have := h.isLt; omega
  have e4 : (rr t s).val = (grid0.coords t 1).val * 512 + s.val := rfl
  pointwise [row, GT, k0_pay2, qb_at, j_at]
  rw [e3, e4]
  blk_point [iblk, V, idx t, bb, rr]

/-- A tile keeps what the reference keeps. -/
theorem tile_at (c : Dev nD) (t : Fin cfg0.N) (s : Fin 512) (l : Fin 128) :
    KEEP (QB (grid0.coords t)) k0_pay8 (cmpi .slt k0_pay8 (QB (grid0.coords t)))
      (GT (grid0.coords t) (View.ld (iblk m c 0 t) r0_0) (View.ld (iblk m c 1 t) r0_1) (View.ld (iblk m c 2 t) r0_2)) (ix2 s l)
      = REF (F := Ideal) (m ((c : Thread nD τ).loc main_arg0)) (m ((c : Thread nD τ).loc main_arg1)) (m ((c : Thread nD τ).loc main_arg2)) (ix3 (bb t) (rr t s) l) := by
  have hl : l.val = (⟨l.val / 8, by omega⟩ : Fin 16).val * 8 + (⟨l.val % 8, Nat.mod_lt _ (by decide)⟩ : Fin 8).val := by
    show l.val = l.val / 8 * 8 + l.val % 8
    omega
  rw [keep_at _ _ _ _ _ _ hl, ref_at _ _ _ _ _ _ _ _ hl, qb_at,
    show row _ s _ = _ from funext (gt_at m c t s ⟨l.val % 8, Nat.mod_lt _ (by decide)⟩)]
  rfl

theorem point (c : Dev nD) (t : Fin cfg0.N) (y) :
    out0_3 (grid0.coords t) (iblk m c 0 t) (iblk m c 1 t) (iblk m c 2 t) y
      = REF (F := Ideal) (m ((c : Thread nD τ).loc main_arg0)) (m ((c : Thread nD τ).loc main_arg1)) (m ((c : Thread nD τ).loc main_arg2)) (((cfg0.win 3).blk t).view.emb y) := by
  rw [out_eq]
  canon_tiles x h
  have hemb : ((cfg0.win 3).blk t).view.emb y = ix3 (bb t) (rr t (x 1)) (x 2) := by
    blk_ext [idx t, bb, rr]
  have hx : shapeCast S1x512x128 (KEEP (QB (grid0.coords t)) k0_pay8 (cmpi .slt k0_pay8 (QB (grid0.coords t)))
      (GT (grid0.coords t) (View.ld (iblk m c 0 t) r0_0) (View.ld (iblk m c 1 t) r0_1) (View.ld (iblk m c 2 t) r0_2))) shapeCasts_S512x128_S1x512x128 x
      = KEEP (QB (grid0.coords t)) k0_pay8 (cmpi .slt k0_pay8 (QB (grid0.coords t)))
      (GT (grid0.coords t) (View.ld (iblk m c 0 t) r0_0) (View.ld (iblk m c 1 t) r0_1) (View.ld (iblk m c 2 t) r0_2)) (ix2 (x 1) (x 2)) := by
    pointwise []
  exact hx.trans ((tile_at m c t (x 1) (x 2)).trans (congrArg (REF (F := Ideal) _ _ _) hemb).symm)

theorem final (c : Dev nD) : (dats m 0 c).arrAt 3 (cfgs 0).N = REF (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point m c t y

end Cert.SelectIdeal.SelectVal

end
-- ==== Proof.SelectRes.lean ====
module
public import proofs.«01_k».proof.Proof.SelectTerm
@[expose] public section
set_option maxRecDepth 16384
noncomputable section
open Idealize.ShloMosaic Idealize.ShloMosaic.TcCoe Idealize.SL.Sem
namespace Cert.SelectRefIdeal.Pure
open Cert.SelectRefIdeal Cert.SelectRefIdeal.Gen
variable {F : FTy → Type} [FloatOps F]
/-- The value the reference returns is the staged term of its three arguments. -/
theorem res_eq (m : (ℓ : Loc nD τ sig) → Buf (Elt F) ℓ) (c : Dev nD) :
    Value.res_main_v47 m c = REF (m ((c.tc : Thread nD τ).loc main_arg0)) (m ((c.tc : Thread nD τ).loc main_arg1)) (m ((c.tc : Thread nD τ).loc main_arg2)) := by
  unfold Value.res_main_v47 REF TOP IDX MG HZ HN PAST SELF OWN
  rfl
end Cert.SelectRefIdeal.Pure
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.AttnFrame
public import proofs.«01_k».proof.Proof.AttnBitsFrame
public import proofs.«01_k».proof.Proof.AttnFinal
public import proofs.«01_k».proof.Proof.Gen.Ffn
public import proofs.«01_k».proof.Proof.Gen.FfnIdeal
public import proofs.«01_k».proof.Proof.Gen.FfnRefIdeal.Run
public import proofs.«01_k».proof.Proof.FfnVal
public import proofs.«01_k».proof.Proof.FfnIdealFrame
public import proofs.«01_k».proof.Proof.FfnBitsFrame
public import proofs.«01_k».proof.Proof.Gen.Proj
public import proofs.«01_k».proof.Proof.Gen.ProjIdeal
public import proofs.«01_k».proof.Proof.Gen.ProjRefIdeal.Run
public import proofs.«01_k».proof.Proof.ProjVal
public import proofs.«01_k».proof.Proof.ProjIdealFrame
public import proofs.«01_k».proof.Proof.ProjBitsFrame
public import proofs.«01_k».proof.Proof.Gen.Merge
public import proofs.«01_k».proof.Proof.Gen.MergeIdeal
public import proofs.«01_k».proof.Proof.Gen.MergeRefIdeal.Run
public import proofs.«01_k».proof.Proof.MergeVal
public import proofs.«01_k».proof.Proof.Gen.Merge.Frame
public import proofs.«01_k».proof.Proof.Gen.Select
public import proofs.«01_k».proof.Proof.Gen.SelectIdeal
public import proofs.«01_k».proof.Proof.Gen.SelectRefIdeal.Run
public import proofs.«01_k».proof.Proof.SelectVal
public import proofs.«01_k».proof.Proof.Gen.Select.Frame
public import proofs.«01_k».proof.Proof.SelectRes
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem mask_named : Cert.preserves_Kernel_KernelIdeal :=
  IdealRules.named_const.statement Cert.KernelIdeal.κ "mask" .f32 0xF149F2CA#32 ⊥ rfl

set_option maxHeartbeats 1600000 in
theorem attn_ref : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)

set_option maxHeartbeats 2000000 in
theorem attn_value : Cert.algebraic_KernelIdeal_ReferenceIdeal_pre_finite (hKernelIdeal := Cert.KernelIdeal.Gen.facts) (hReferenceIdeal := Cert.ReferenceIdeal.Gen.facts) (hPre_finite := Cert.Pre_finite.Hand.facts) := by
  pair_intro
  · run_from Cert.KernelIdeal.Attn.run_main m g
  · hlo_run
    obtain ⟨h0, h1⟩ := Cert.Pre_finite.Hand.reals _ _ (hpre c)
    exact (Cert.KernelIdeal.Attn.final m c h0 h1).symm

set_option maxHeartbeats 1600000 in
theorem ffn_ref : Cert.quiescent_FfnRefIdeal (hFfnRefIdeal := Cert.FfnRefIdeal.Gen.facts) := fun m ρ _ =>
  (θ_run Cert.FfnRefIdeal.defs _ _).mono (fun r h => ⟨fun c => (h c).2, Idealize.ShloMosaic.sem_eq_zero_of_no_sems (by decide) r.2⟩) (Cert.FfnRefIdeal.Value.run (F := Ideal) m ρ)

set_option maxHeartbeats 2000000 in
theorem ffn_value : Cert.algebraic_FfnIdeal_FfnRefIdeal (hFfnIdeal := Cert.FfnIdeal.Gen.facts) (hFfnRefIdeal := Cert.FfnRefIdeal.Gen.facts) := by
  pair_intro
  · run_from Cert.FfnIdeal.Hand.run_main m g
  · hlo_run
    exact (Cert.FfnIdeal.FfnVal.final m c).symm

set_option maxHeartbeats 1600000 in
theorem proj_ref : Cert.quiescent_ProjRefIdeal (hProjRefIdeal := Cert.ProjRefIdeal.Gen.facts) := fun m ρ _ =>
  (θ_run Cert.ProjRefIdeal.defs _ _).mono (fun r h => ⟨fun c => (h c).2.2, Idealize.ShloMosaic.sem_eq_zero_of_no_sems (by decide) r.2⟩) (Cert.ProjRefIdeal.Value.run (F := Ideal) m ρ)

set_option maxHeartbeats 2000000 in
theorem proj_value : Cert.algebraic_ProjIdeal_ProjRefIdeal (hProjIdeal := Cert.ProjIdeal.Gen.facts) (hProjRefIdeal := Cert.ProjRefIdeal.Gen.facts) := by
  pair_intro
  · run_from Cert.ProjIdeal.Hand.run_main m g
  · hlo_run
    · exact (Cert.ProjIdeal.ProjVal.final4 m c).symm
    · exact (Cert.ProjIdeal.ProjVal.final5 m c).symm

set_option maxHeartbeats 1600000 in
theorem merge_ref : Cert.quiescent_MergeRefIdeal (hMergeRefIdeal := Cert.MergeRefIdeal.Gen.facts) := fun m ρ _ =>
  (θ_run Cert.MergeRefIdeal.defs _ _).mono (fun r h => ⟨fun c => (h c).2, Idealize.ShloMosaic.sem_eq_zero_of_no_sems (by decide) r.2⟩) (Cert.MergeRefIdeal.Value.run (F := Ideal) m ρ)

set_option maxHeartbeats 2000000 in
theorem merge_value : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
  · hlo_run
    exact (Cert.MergeIdeal.MergeVal.final m c).symm

set_option maxHeartbeats 1600000 in
theorem select_ref : Cert.quiescent_SelectRefIdeal (hSelectRefIdeal := Cert.SelectRefIdeal.Gen.facts) := fun m ρ _ =>
  (θ_run Cert.SelectRefIdeal.defs _ _).mono (fun r h => ⟨fun c => (h c).2, Idealize.ShloMosaic.sem_eq_zero_of_no_sems (by decide) r.2⟩) (Cert.SelectRefIdeal.Value.run (F := Ideal) m ρ)

set_option maxHeartbeats 2000000 in
theorem select_value : Cert.algebraic_SelectIdeal_SelectRefIdeal (hSelectIdeal := Cert.SelectIdeal.Gen.facts) (hSelectRefIdeal := Cert.SelectRefIdeal.Gen.facts) := by
  pair_intro
  · run_from Cert.SelectIdeal.Gen.run_main m g
  · run_from Cert.SelectRefIdeal.Value.run m' g'
    refine (Cert.SelectRefIdeal.Pure.res_eq (F := Ideal) m' c).trans ?_
    rw [(hagree c).1, (hagree c).2.1, (hagree c).2.2]
    exact (Cert.SelectIdeal.SelectVal.final m c).symm

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Select.Gen.facts, Cert.SelectIdeal.Gen.facts, Cert.SelectRefIdeal.Gen.facts, Cert.Pre_finite.Hand.facts,
  fun m ρ _ => Cert.Kernel.Attn.frame m ρ,
  fun m ρ _ => Cert.KernelIdeal.Attn.frame m ρ,
  fun m ρ _ => Cert.KernelIdeal.Attn.frame m ρ,
  attn_ref,
  fun m ρ _ => attn_ref m ρ trivial,
  fun m ρ _ => Cert.Ffn.Hand.frame m ρ,
  fun m ρ _ => Cert.FfnIdeal.Hand.frame m ρ,
  ffn_ref,
  fun m ρ _ => Cert.Proj.Hand.frame m ρ,
  fun m ρ _ => Cert.ProjIdeal.Hand.frame m ρ,
  proj_ref,
  fun m ρ _ => Cert.Merge.Gen.frame m ρ,
  fun m ρ _ => Cert.MergeIdeal.Gen.frame m ρ,
  merge_ref,
  fun m ρ _ => Cert.Select.Gen.frame m ρ,
  fun m ρ _ => Cert.SelectIdeal.Gen.frame m ρ,
  select_ref,
  mask_named,
  attn_value,
  trivial,
  ffn_value,
  trivial,
  proj_value,
  trivial,
  merge_value,
  trivial,
  select_value⟩

end Cert.Proof

end
